-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Prep_PrepIdeal : Prop :=
  IdealRules.named_const.Statement Cert.PrepIdeal.κ "scale" .f32 0x3DB504F3#32 (((Real.sqrt 128)⁻¹ : ℝ) : EReal)

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v8_0)) (v1 : (c : Dev Cert.PrepIdeal.nD) → Buf (Elt Ideal) ((c.tc : Thread Cert.PrepIdeal.nD Cert.PrepIdeal.τ).loc Cert.PrepIdeal.main_v8_1)) (v2 : (c : Dev Cert.PrepIdeal.nD) → Buf (Elt Ideal) ((c.tc : Thread Cert.PrepIdeal.nD Cert.PrepIdeal.τ).loc Cert.PrepIdeal.main_v8_2)) (v3 : (c : Dev Cert.PrepIdeal.nD) → Buf (Elt Ideal) ((c.tc : Thread Cert.PrepIdeal.nD Cert.PrepIdeal.τ).loc Cert.PrepIdeal.main_v8_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v8_0) = v0 c
          ∧ r.2.mem ((c.tc : Thread Cert.PrepIdeal.nD Cert.PrepIdeal.τ).loc Cert.PrepIdeal.main_v8_1) = v1 c
          ∧ r.2.mem ((c.tc : Thread Cert.PrepIdeal.nD Cert.PrepIdeal.τ).loc Cert.PrepIdeal.main_v8_2) = v2 c
          ∧ r.2.mem ((c.tc : Thread Cert.PrepIdeal.nD Cert.PrepIdeal.τ).loc Cert.PrepIdeal.main_v8_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v43) = v0 c
          ∧ r.2.mem ((c.tc : Thread Cert.PrepRefIdeal.nD Cert.PrepRefIdeal.τ).loc Cert.PrepRefIdeal.main_v45) = v1 c
          ∧ r.2.mem ((c.tc : Thread Cert.PrepRefIdeal.nD Cert.PrepRefIdeal.τ).loc Cert.PrepRefIdeal.main_v46) = v2 c
          ∧ r.2.mem ((c.tc : Thread Cert.PrepRefIdeal.nD Cert.PrepRefIdeal.τ).loc Cert.PrepRefIdeal.main_v47) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v4)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v4) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v15) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v39) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v56) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v24) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def Claim : Prop :=
  ∃ (hKernel : Cert.Kernel.Facts) (hKernelIdeal : Cert.KernelIdeal.Facts) (hReferenceIdeal : Cert.ReferenceIdeal.Facts) (hPrep : Cert.Prep.Facts) (hPrepIdeal : Cert.PrepIdeal.Facts) (hPrepRefIdeal : Cert.PrepRefIdeal.Facts) (hIn : Cert.In.Facts) (hInIdeal : Cert.InIdeal.Facts) (hInRefIdeal : Cert.InRefIdeal.Facts) (hMerge : Cert.Merge.Facts) (hMergeIdeal : Cert.MergeIdeal.Facts) (hMergeRefIdeal : Cert.MergeRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hPle : Cert.Ple.Facts) (hPleIdeal : Cert.PleIdeal.Facts) (hPleRefIdeal : Cert.PleRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Prep (hPrep := hPrep)
    ∧ quiescent_PrepIdeal (hPrepIdeal := hPrepIdeal)
    ∧ quiescent_PrepRefIdeal (hPrepRefIdeal := hPrepRefIdeal)
    ∧ quiescent_In (hIn := hIn)
    ∧ quiescent_InIdeal (hInIdeal := hInIdeal)
    ∧ quiescent_InRefIdeal (hInRefIdeal := hInRefIdeal)
    ∧ quiescent_Merge (hMerge := hMerge)
    ∧ quiescent_MergeIdeal (hMergeIdeal := hMergeIdeal)
    ∧ quiescent_MergeRefIdeal (hMergeRefIdeal := hMergeRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Ple (hPle := hPle)
    ∧ quiescent_PleIdeal (hPleIdeal := hPleIdeal)
    ∧ quiescent_PleRefIdeal (hPleRefIdeal := hPleRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Prep_PrepIdeal
    ∧ algebraic_PrepIdeal_PrepRefIdeal (hPrepIdeal := hPrepIdeal) (hPrepRefIdeal := hPrepRefIdeal)
    ∧ preserves_In_InIdeal
    ∧ algebraic_InIdeal_InRefIdeal (hInIdeal := hInIdeal) (hInRefIdeal := hInRefIdeal)
    ∧ preserves_Merge_MergeIdeal
    ∧ algebraic_MergeIdeal_MergeRefIdeal (hMergeIdeal := hMergeIdeal) (hMergeRefIdeal := hMergeRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Ple_PleIdeal
    ∧ algebraic_PleIdeal_PleRefIdeal (hPleIdeal := hPleIdeal) (hPleRefIdeal := hPleRefIdeal)
-- ==== Pre_finite.lean ====
abbrev S4x8192x512 : Shape := ⟨3, ![4, 8192, 512]⟩
abbrev S4x8x8192 : Shape := ⟨3, ![4, 8, 8192]⟩
abbrev S_ : Shape := ⟨0, ![]⟩

class Facts : Prop where
  bitsLt_bf16_f32 : FTy.bits .bf16 < FTy.bits .f32
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S4x8x8192 : S_.BroadcastsInDim S4x8x8192 (![] : Fin 0 → Fin S4x8x8192.rank)
  reducesTo_S4x8x8192_S_d0_1_2 : S4x8x8192.ReducesTo [0, 1, 2] S_

variable [Facts]

def fn {F : FTy → Type} [FloatOps F] (main_arg0 : FVec F S4x8192x512 .bf16) (main_arg1 : FVec F S4x8192x512 .bf16) (main_arg2 : FVec F S4x8192x512 .bf16) (main_arg3 : FVec F S4x8x8192 .f32) : IVec S_ 1 :=
  let main_v0 : FVec F S4x8192x512 .f32 := (extf .f32 · bitsLt_bf16_f32) main_arg0
  let main_v1 : FVec F S4x8192x512 .f32 := Host.absf main_v0
  let main_cst : FVec F S_ .f32 := constant S_ .f32 0x7F800000#32
  let main_v2 : FVec F S4x8192x512 .f32 := broadcastInDim S4x8192x512 ![] bcast_S_S4x8192x512 main_cst
  let main_v3 : IVec S4x8192x512 1 := cmpf .olt main_v1 main_v2
  let main_c : IVec S_ 1 := constantI S_ 1 1#1
  let main_v4 : IVec S_ 1 := (fun x v => Host.reduce IntOp.andi x v reducesTo_S4x8192x512_S_d0_1_2 h_S_) main_v3 main_c
  let main_v5 : FVec F S4x8192x512 .f32 := (extf .f32 · bitsLt_bf16_f32) main_arg1
  let main_v6 : FVec F S4x8192x512 .f32 := Host.absf main_v5
  let main_cst_0 : FVec F S_ .f32 := constant S_ .f32 0x7F800000#32
  let main_v7 : FVec F S4x8192x512 .f32 := broadcastInDim S4x8192x512 ![] bcast_S_S4x8192x512 main_cst_0
  let main_v8 : IVec S4x8192x512 1 := cmpf .olt main_v6 main_v7
  let main_c_1 : IVec S_ 1 := constantI S_ 1 1#1
  let main_v9 : IVec S_ 1 := (fun x v => Host.reduce IntOp.andi x v reducesTo_S4x8192x512_S_d0_1_2 h_S_) main_v8 main_c_1
  let main_v10 : IVec S_ 1 := andi main_v4 main_v9
  let main_v11 : FVec F S4x8x8192 .f32 := Host.absf main_arg3
  let main_cst_2 : FVec F S_ .f32 := constant S_ .f32 0x7F800000#32
  let main_v12 : FVec F S4x8x8192 .f32 := broadcastInDim S4x8x8192 ![] bcast_S_S4x8x8192 main_cst_2
  let main_v13 : IVec S4x8x8192 1 := cmpf .olt main_v11 main_v12
  let main_c_3 : IVec S_ 1 := constantI S_ 1 1#1
  let main_v14 : IVec S_ 1 := (fun x v => Host.reduce IntOp.andi x v reducesTo_S4x8x8192_S_d0_1_2 h_S_) main_v13 main_c_3
  let main_v15 : IVec S_ 1 := andi main_v10 main_v14
  main_v15
-- ==== Kernel.lean ====
abbrev S4x8192x512 : Shape := ⟨3, ![4, 8192, 512]⟩
abbrev S4x8x8192 : Shape := ⟨3, ![4, 8, 8192]⟩
abbrev S1x512x128 : Shape := ⟨3, ![1, 512, 128]⟩
abbrev S1x8192x128 : Shape := ⟨3, ![1, 8192, 128]⟩
abbrev S1x8x8192 : Shape := ⟨3, ![1, 8, 8192]⟩
abbrev S512x128 : Shape := ⟨2, ![512, 128]⟩
abbrev S512x1 : Shape := ⟨2, ![512, 1]⟩
abbrev S1x1x512 : Shape := ⟨3, ![1, 1, 512]⟩
abbrev S1x512 : Shape := ⟨2, ![1, 512]⟩
abbrev S512x512 : Shape := ⟨2, ![512, 512]⟩
abbrev S512 : Shape := ⟨1, ![512]⟩

abbrev nBuf : Space → Nat
  | .hbm => 5
  | .vmem => 10
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8x8192, .f32⟩
  | .hbm, ⟨4, _⟩ => ⟨S4x8192x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8x8192, .f32⟩
  | .local _ .vmem, ⟨7, _⟩ => ⟨S1x8x8192, .f32⟩
  | .local _ .vmem, ⟨8, _⟩ => ⟨S1x512x128, .bf16⟩
  | .local _ .vmem, ⟨9, _⟩ => ⟨S1x512x128, .bf16⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 16], ![false, false, false]⟩

@[reducible] def k0_t1_loop (i : grid0.Coords) : Scf.Loop 32 :=
  let c0_i32_8 : BitVec 32 := 0#32
  let arg2 : BitVec 32 := BitVec.ofNat 32 (i 2).val
  let c0_i32 : BitVec 32 := 0#32
  let v6 : BitVec 1 := Scalar.cmpi .sgt arg2 c0_i32
  let v7 : BitVec 32 := Scalar.extui v6
  let c0_i32_4 : BitVec 32 := 0#32
  let v8 : BitVec 1 := Scalar.cmpi .slt arg2 c0_i32_4
  let v9 : BitVec 32 := Scalar.extui v8
  let v10 : BitVec 32 := Scalar.subi v7 v9
  let c2_i32 : BitVec 32 := 2#32
  let c0_i32_5 : BitVec 32 := 0#32
  let v11 : BitVec 1 := Scalar.cmpi .sgt c2_i32 c0_i32_5
  let v12 : BitVec 32 := Scalar.extui v11
  let c0_i32_6 : BitVec 32 := 0#32
  let v13 : BitVec 1 := Scalar.cmpi .slt c2_i32 c0_i32_6
  let v14 : BitVec 32 := Scalar.extui v13
  let v15 : BitVec 32 := Scalar.subi v12 v14
  let v16 : BitVec 1 := Scalar.cmpi .ne v10 v15
  let v17 : BitVec 32 := Scalar.remsi arg2 c2_i32
  let c0_i32_7 : BitVec 32 := 0#32
  let v18 : BitVec 1 := Scalar.cmpi .ne v17 c0_i32_7
  let v19 : BitVec 1 := Scalar.andi v16 v18
  let v5 : BitVec 32 := Scalar.divsi arg2 c2_i32
  let c1_i32 : BitVec 32 := 1#32
  let v20 : BitVec 32 := Scalar.subi v5 c1_i32
  let v21 : BitVec 32 := Scalar.select v19 v20 v5
  let v22 : BitVec 32 := Scalar.subi v21 c0_i32_8
  let c1_i32_9 : BitVec 32 := 1#32
  let v24 : BitVec 32 := Scalar.divsi v22 c1_i32_9
  let v25 : BitVec 32 := Scalar.muli v24 c1_i32_9
  let v26 : BitVec 32 := Scalar.addi c0_i32_8 v25
  let c1_i32_10 : BitVec 32 := 1#32
  ⟨c0_i32_8, v26, c1_i32_10⟩
def k0_mult1 (i : grid0.Coords) (k0_t1 : Fin (k0_t1_loop i).trips) : BitVec 32 :=
  let c2_i32_33 : BitVec 32 := 2#32
  let c0_i32_8 : BitVec 32 := 0#32
  let c1_i32_10 : BitVec 32 := 1#32
  let arg8 : BitVec 32 := Scf.iv c0_i32_8 c1_i32_10 k0_t1
  let v86 : BitVec 32 := Scalar.muli c2_i32_33 arg8
  let c512_i32_34 : BitVec 32 := 512#32
  let v87 : BitVec 32 := Scalar.muli v86 c512_i32_34
  v87
def k0_mult2 (i : grid0.Coords) (k0_t1 : Fin (k0_t1_loop i).trips) : BitVec 32 :=
  let c2_i32_35 : BitVec 32 := 2#32
  let c0_i32_8 : BitVec 32 := 0#32
  let c1_i32_10 : BitVec 32 := 1#32
  let arg8 : BitVec 32 := Scf.iv c0_i32_8 c1_i32_10 k0_t1
  let v89 : BitVec 32 := Scalar.muli c2_i32_35 arg8
  let c1_i32_36 : BitVec 32 := 1#32
  let v90 : BitVec 32 := Scalar.addi v89 c1_i32_36
  let c512_i32_37 : BitVec 32 := 512#32
  let v91 : BitVec 32 := Scalar.muli v90 c512_i32_37
  v91
def k0_off1 (i : grid0.Coords) (k0_t1 : Fin (k0_t1_loop i).trips) : Fin 3 → Nat :=
  let c0_38 : Index := 0#32
  let c2_i32_33 : BitVec 32 := 2#32
  let c0_i32_8 : BitVec 32 := 0#32
  let c1_i32_10 : BitVec 32 := 1#32
  let arg8 : BitVec 32 := Scf.iv c0_i32_8 c1_i32_10 k0_t1
  let v86 : BitVec 32 := Scalar.muli c2_i32_33 arg8
  let c512_i32_34 : BitVec 32 := 512#32
  let v87 : BitVec 32 := Scalar.muli v86 c512_i32_34
  let v88 : BitVec 32 := v87
  let v93 : Index := Scalar.indexCast v88
  let c0_39 : Index := 0#32
  ![0, v93.toNat, 0]
def k0_off2 (i : grid0.Coords) (k0_t1 : Fin (k0_t1_loop i).trips) : Fin 3 → Nat :=
  let c0_40 : Index := 0#32
  let arg1 : BitVec 32 := BitVec.ofNat 32 (i 1).val
  let v96 : Index := Scalar.indexCast arg1
  let c2_i32_33 : BitVec 32 := 2#32
  let c0_i32_8 : BitVec 32 := 0#32
  let c1_i32_10 : BitVec 32 := 1#32
  let arg8 : BitVec 32 := Scf.iv c0_i32_8 c1_i32_10 k0_t1
  let v86 : BitVec 32 := Scalar.muli c2_i32_33 arg8
  let c512_i32_34 : BitVec 32 := 512#32
  let v87 : BitVec 32 := Scalar.muli v86 c512_i32_34
  let v88 : BitVec 32 := v87
  let v97 : Index := Scalar.indexCast v88
  ![0, v96.toNat, v97.toNat]
def k0_off3 (i : grid0.Coords) (k0_t1 : Fin (k0_t1_loop i).trips) : Fin 3 → Nat :=
  let c0_42 : Index := 0#32
  let c2_i32_35 : BitVec 32 := 2#32
  let c0_i32_8 : BitVec 32 := 0#32
  let c1_i32_10 : BitVec 32 := 1#32
  let arg8 : BitVec 32 := Scf.iv c0_i32_8 c1_i32_10 k0_t1
  let v89 : BitVec 32 := Scalar.muli c2_i32_35 arg8
  let c1_i32_36 : BitVec 32 := 1#32
  let v90 : BitVec 32 := Scalar.addi v89 c1_i32_36
  let c512_i32_37 : BitVec 32 := 512#32
  let v91 : BitVec 32 := Scalar.muli v90 c512_i32_37
  let v92 : BitVec 32 := v91
  let v103 : Index := Scalar.indexCast v92
  let c0_43 : Index := 0#32
  ![0, v103.toNat, 0]
def k0_off4 (i : grid0.Coords) (k0_t1 : Fin (k0_t1_loop i).trips) : Fin 3 → Nat :=
  let c0_44 : Index := 0#32
  let arg1 : BitVec 32 := BitVec.ofNat 32 (i 1).val
  let v106 : Index := Scalar.indexCast arg1
  let c2_i32_35 : BitVec 32 := 2#32
  let c0_i32_8 : BitVec 32 := 0#32
  let c1_i32_10 : BitVec 32 := 1#32
  let arg8 : BitVec 32 := Scf.iv c0_i32_8 c1_i32_10 k0_t1
  let v89 : BitVec 32 := Scalar.muli c2_i32_35 arg8
  let c1_i32_36 : BitVec 32 := 1#32
  let v90 : BitVec 32 := Scalar.addi v89 c1_i32_36
  let c512_i32_37 : BitVec 32 := 512#32
  let v91 : BitVec 32 := Scalar.muli v90 c512_i32_37
  let v92 : BitVec 32 := v91
  let v107 : Index := Scalar.indexCast v92
  ![0, v106.toNat, v107.toNat]
@[reducible] def k0_t2_loop (i : grid0.Coords) : Scf.Loop 32 :=
  let c0_i32_8 : BitVec 32 := 0#32
  let arg2 : BitVec 32 := BitVec.ofNat 32 (i 2).val
  let c0_i32 : BitVec 32 := 0#32
  let v6 : BitVec 1 := Scalar.cmpi .sgt arg2 c0_i32
  let v7 : BitVec 32 := Scalar.extui v6
  let c0_i32_4 : BitVec 32 := 0#32
  let v8 : BitVec 1 := Scalar.cmpi .slt arg2 c0_i32_4
  let v9 : BitVec 32 := Scalar.extui v8
  let v10 : BitVec 32 := Scalar.subi v7 v9
  let c2_i32 : BitVec 32 := 2#32
  let c0_i32_5 : BitVec 32 := 0#32
  let v11 : BitVec 1 := Scalar.cmpi .sgt c2_i32 c0_i32_5
  let v12 : BitVec 32 := Scalar.extui v11
  let c0_i32_6 : BitVec 32 := 0#32
  let v13 : BitVec 1 := Scalar.cmpi .slt c2_i32 c0_i32_6
  let v14 : BitVec 32 := Scalar.extui v13
  let v15 : BitVec 32 := Scalar.subi v12 v14
  let v16 : BitVec 1 := Scalar.cmpi .ne v10 v15
  let v17 : BitVec 32 := Scalar.remsi arg2 c2_i32
  let c0_i32_7 : BitVec 32 := 0#32
  let v18 : BitVec 1 := Scalar.cmpi .ne v17 c0_i32_7
  let v19 : BitVec 1 := Scalar.andi v16 v18
  let v5 : BitVec 32 := Scalar.divsi arg2 c2_i32
  let c1_i32 : BitVec 32 := 1#32
  let v20 : BitVec 32 := Scalar.subi v5 c1_i32
  let v21 : BitVec 32 := Scalar.select v19 v20 v5
  let v22 : BitVec 32 := Scalar.subi v21 c0_i32_8
  let c1_i32_9 : BitVec 32 := 1#32
  let v24 : BitVec 32 := Scalar.divsi v22 c1_i32_9
  let v25 : BitVec 32 := Scalar.muli v24 c1_i32_9
  let v26 : BitVec 32 := Scalar.addi c0_i32_8 v25
  let v23 : BitVec 32 := Scalar.addi c0_i32_8 v22
  let c1_i32_11 : BitVec 32 := 1#32
  ⟨v26, v23, c1_i32_11⟩
def k0_mult3 (i : grid0.Coords) (k0_t2 : Fin (k0_t2_loop i).trips) : BitVec 32 :=
  let c2_i32_33 : BitVec 32 := 2#32
  let c0_i32_8 : BitVec 32 := 0#32
  let arg2 : BitVec 32 := BitVec.ofNat 32 (i 2).val
  let c0_i32 : BitVec 32 := 0#32
  let v6 : BitVec 1 := Scalar.cmpi .sgt arg2 c0_i32
  let v7 : BitVec 32 := Scalar.extui v6
  let c0_i32_4 : BitVec 32 := 0#32
  let v8 : BitVec 1 := Scalar.cmpi .slt arg2 c0_i32_4
  let v9 : BitVec 32 := Scalar.extui v8
  let v10 : BitVec 32 := Scalar.subi v7 v9
  let c2_i32 : BitVec 32 := 2#32
  let c0_i32_5 : BitVec 32 := 0#32
  let v11 : BitVec 1 := Scalar.cmpi .sgt c2_i32 c0_i32_5
  let v12 : BitVec 32 := Scalar.extui v11
  let c0_i32_6 : BitVec 32 := 0#32
  let v13 : BitVec 1 := Scalar.cmpi .slt c2_i32 c0_i32_6
  let v14 : BitVec 32 := Scalar.extui v13
  let v15 : BitVec 32 := Scalar.subi v12 v14
  let v16 : BitVec 1 := Scalar.cmpi .ne v10 v15
  let v17 : BitVec 32 := Scalar.remsi arg2 c2_i32
  let c0_i32_7 : BitVec 32 := 0#32
  let v18 : BitVec 1 := Scalar.cmpi .ne v17 c0_i32_7
  let v19 : BitVec 1 := Scalar.andi v16 v18
  let v5 : BitVec 32 := Scalar.divsi arg2 c2_i32
  let c1_i32 : BitVec 32 := 1#32
  let v20 : BitVec 32 := Scalar.subi v5 c1_i32
  let v21 : BitVec 32 := Scalar.select v19 v20 v5
  let v22 : BitVec 32 := Scalar.subi v21 c0_i32_8
  let c1_i32_9 : BitVec 32 := 1#32
  let v24 : BitVec 32 := Scalar.divsi v22 c1_i32_9
  let v25 : BitVec 32 := Scalar.muli v24 c1_i32_9
  let v26 : BitVec 32 := Scalar.addi c0_i32_8 v25
  let c1_i32_11 : BitVec 32 := 1#32
  let arg8 : BitVec 32 := Scf.iv v26 c1_i32_11 k0_t2
  let v86 : BitVec 32 := Scalar.muli c2_i32_33 arg8
  let c512_i32_34 : BitVec 32 := 512#32
  let v87 : BitVec 32 := Scalar.muli v86 c512_i32_34
  v87
def k0_mult4 (i : grid0.Coords) (k0_t2 : Fin (k0_t2_loop i).trips) : BitVec 32 :=
  let c2_i32_35 : BitVec 32 := 2#32
  let c0_i32_8 : BitVec 32 := 0#32
  let arg2 : BitVec 32 := BitVec.ofNat 32 (i 2).val
  let c0_i32 : BitVec 32 := 0#32
  let v6 : BitVec 1 := Scalar.cmpi .sgt arg2 c0_i32
  let v7 : BitVec 32 := Scalar.extui v6
  let c0_i32_4 : BitVec 32 := 0#32
  let v8 : BitVec 1 := Scalar.cmpi .slt arg2 c0_i32_4
  let v9 : BitVec 32 := Scalar.extui v8
  let v10 : BitVec 32 := Scalar.subi v7 v9
  let c2_i32 : BitVec 32 := 2#32
  let c0_i32_5 : BitVec 32 := 0#32
  let v11 : BitVec 1 := Scalar.cmpi .sgt c2_i32 c0_i32_5
  let v12 : BitVec 32 := Scalar.extui v11
  let c0_i32_6 : BitVec 32 := 0#32
  let v13 : BitVec 1 := Scalar.cmpi .slt c2_i32 c0_i32_6
  let v14 : BitVec 32 := Scalar.extui v13
  let v15 : BitVec 32 := Scalar.subi v12 v14
  let v16 : BitVec 1 := Scalar.cmpi .ne v10 v15
  let v17 : BitVec 32 := Scalar.remsi arg2 c2_i32
  let c0_i32_7 : BitVec 32 := 0#32
  let v18 : BitVec 1 := Scalar.cmpi .ne v17 c0_i32_7
  let v19 : BitVec 1 := Scalar.andi v16 v18
  let v5 : BitVec 32 := Scalar.divsi arg2 c2_i32
  let c1_i32 : BitVec 32 := 1#32
  let v20 : BitVec 32 := Scalar.subi v5 c1_i32
  let v21 : BitVec 32 := Scalar.select v19 v20 v5
  let v22 : BitVec 32 := Scalar.subi v21 c0_i32_8
  let c1_i32_9 : BitVec 32 := 1#32
  let v24 : BitVec 32 := Scalar.divsi v22 c1_i32_9
  let v25 : BitVec 32 := Scalar.muli v24 c1_i32_9
  let v26 : BitVec 32 := Scalar.addi c0_i32_8 v25
  let c1_i32_11 : BitVec 32 := 1#32
  let arg8 : BitVec 32 := Scf.iv v26 c1_i32_11 k0_t2
  let v89 : BitVec 32 := Scalar.muli c2_i32_35 arg8
  let c1_i32_36 : BitVec 32 := 1#32
  let v90 : BitVec 32 := Scalar.addi v89 c1_i32_36
  let c512_i32_37 : BitVec 32 := 512#32
  let v91 : BitVec 32 := Scalar.muli v90 c512_i32_37
  v91
def k0_off5 (i : grid0.Coords) (k0_t2 : Fin (k0_t2_loop i).trips) : Fin 3 → Nat :=
  let c0_38 : Index := 0#32
  let c2_i32_33 : BitVec 32 := 2#32
  let c0_i32_8 : BitVec 32 := 0#32
  let arg2 : BitVec 32 := BitVec.ofNat 32 (i 2).val
  let c0_i32 : BitVec 32 := 0#32
  let v6 : BitVec 1 := Scalar.cmpi .sgt arg2 c0_i32
  let v7 : BitVec 32 := Scalar.extui v6
  let c0_i32_4 : BitVec 32 := 0#32
  let v8 : BitVec 1 := Scalar.cmpi .slt arg2 c0_i32_4
  let v9 : BitVec 32 := Scalar.extui v8
  let v10 : BitVec 32 := Scalar.subi v7 v9
  let c2_i32 : BitVec 32 := 2#32
  let c0_i32_5 : BitVec 32 := 0#32
  let v11 : BitVec 1 := Scalar.cmpi .sgt c2_i32 c0_i32_5
  let v12 : BitVec 32 := Scalar.extui v11
  let c0_i32_6 : BitVec 32 := 0#32
  let v13 : BitVec 1 := Scalar.cmpi .slt c2_i32 c0_i32_6
  let v14 : BitVec 32 := Scalar.extui v13
  let v15 : BitVec 32 := Scalar.subi v12 v14
  let v16 : BitVec 1 := Scalar.cmpi .ne v10 v15
  let v17 : BitVec 32 := Scalar.remsi arg2 c2_i32
  let c0_i32_7 : BitVec 32 := 0#32
  let v18 : BitVec 1 := Scalar.cmpi .ne v17 c0_i32_7
  let v19 : BitVec 1 := Scalar.andi v16 v18
  let v5 : BitVec 32 := Scalar.divsi arg2 c2_i32
  let c1_i32 : BitVec 32 := 1#32
  let v20 : BitVec 32 := Scalar.subi v5 c1_i32
  let v21 : BitVec 32 := Scalar.select v19 v20 v5
  let v22 : BitVec 32 := Scalar.subi v21 c0_i32_8
  let c1_i32_9 : BitVec 32 := 1#32
  let v24 : BitVec 32 := Scalar.divsi v22 c1_i32_9
  let v25 : BitVec 32 := Scalar.muli v24 c1_i32_9
  let v26 : BitVec 32 := Scalar.addi c0_i32_8 v25
  let c1_i32_11 : BitVec 32 := 1#32
  let arg8 : BitVec 32 := Scf.iv v26 c1_i32_11 k0_t2
  let v86 : BitVec 32 := Scalar.muli c2_i32_33 arg8
  let c512_i32_34 : BitVec 32 := 512#32
  let v87 : BitVec 32 := Scalar.muli v86 c512_i32_34
  let v88 : BitVec 32 := v87
  let v93 : Index := Scalar.indexCast v88
  let c0_39 : Index := 0#32
  ![0, v93.toNat, 0]
def k0_off6 (i : grid0.Coords) (k0_t2 : Fin (k0_t2_loop i).trips) : Fin 3 → Nat :=
  let c0_40 : Index := 0#32
  let arg1 : BitVec 32 := BitVec.ofNat 32 (i 1).val
  let v96 : Index := Scalar.indexCast arg1
  let c2_i32_33 : BitVec 32 := 2#32
  let c0_i32_8 : BitVec 32 := 0#32
  let arg2 : BitVec 32 := BitVec.ofNat 32 (i 2).val
  let c0_i32 : BitVec 32 := 0#32
  let v6 : BitVec 1 := Scalar.cmpi .sgt arg2 c0_i32
  let v7 : BitVec 32 := Scalar.extui v6
  let c0_i32_4 : BitVec 32 := 0#32
  let v8 : BitVec 1 := Scalar.cmpi .slt arg2 c0_i32_4
  let v9 : BitVec 32 := Scalar.extui v8
  let v10 : BitVec 32 := Scalar.subi v7 v9
  let c2_i32 : BitVec 32 := 2#32
  let c0_i32_5 : BitVec 32 := 0#32
  let v11 : BitVec 1 := Scalar.cmpi .sgt c2_i32 c0_i32_5
  let v12 : BitVec 32 := Scalar.extui v11
  let c0_i32_6 : BitVec 32 := 0#32
  let v13 : BitVec 1 := Scalar.cmpi .slt c2_i32 c0_i32_6
  let v14 : BitVec 32 := Scalar.extui v13
  let v15 : BitVec 32 := Scalar.subi v12 v14
  let v16 : BitVec 1 := Scalar.cmpi .ne v10 v15
  let v17 : BitVec 32 := Scalar.remsi arg2 c2_i32
  let c0_i32_7 : BitVec 32 := 0#32
  let v18 : BitVec 1 := Scalar.cmpi .ne v17 c0_i32_7
  let v19 : BitVec 1 := Scalar.andi v16 v18
  let v5 : BitVec 32 := Scalar.divsi arg2 c2_i32
  let c1_i32 : BitVec 32 := 1#32
  let v20 : BitVec 32 := Scalar.subi v5 c1_i32
  let v21 : BitVec 32 := Scalar.select v19 v20 v5
  let v22 : BitVec 32 := Scalar.subi v21 c0_i32_8
  let c1_i32_9 : BitVec 32 := 1#32
  let v24 : BitVec 32 := Scalar.divsi v22 c1_i32_9
  let v25 : BitVec 32 := Scalar.muli v24 c1_i32_9
  let v26 : BitVec 32 := Scalar.addi c0_i32_8 v25
  let c1_i32_11 : BitVec 32 := 1#32
  let arg8 : BitVec 32 := Scf.iv v26 c1_i32_11 k0_t2
  let v86 : BitVec 32 := Scalar.muli c2_i32_33 arg8
  let c512_i32_34 : BitVec 32 := 512#32
  let v87 : BitVec 32 := Scalar.muli v86 c512_i32_34
  let v88 : BitVec 32 := v87
  let v97 : Index := Scalar.indexCast v88
  ![0, v96.toNat, v97.toNat]
def k0_off7 (i : grid0.Coords) (k0_t2 : Fin (k0_t2_loop i).trips) : Fin 3 → Nat :=
  let c0_42 : Index := 0#32
  let c2_i32_35 : BitVec 32 := 2#32
  let c0_i32_8 : BitVec 32 := 0#32
  let arg2 : BitVec 32 := BitVec.ofNat 32 (i 2).val
  let c0_i32 : BitVec 32 := 0#32
  let v6 : BitVec 1 := Scalar.cmpi .sgt arg2 c0_i32
  let v7 : BitVec 32 := Scalar.extui v6
  let c0_i32_4 : BitVec 32 := 0#32
  let v8 : BitVec 1 := Scalar.cmpi .slt arg2 c0_i32_4
  let v9 : BitVec 32 := Scalar.extui v8
  let v10 : BitVec 32 := Scalar.subi v7 v9
  let c2_i32 : BitVec 32 := 2#32
  let c0_i32_5 : BitVec 32 := 0#32
  let v11 : BitVec 1 := Scalar.cmpi .sgt c2_i32 c0_i32_5
  let v12 : BitVec 32 := Scalar.extui v11
  let c0_i32_6 : BitVec 32 := 0#32
  let v13 : BitVec 1 := Scalar.cmpi .slt c2_i32 c0_i32_6
  let v14 : BitVec 32 := Scalar.extui v13
  let v15 : BitVec 32 := Scalar.subi v12 v14
  let v16 : BitVec 1 := Scalar.cmpi .ne v10 v15
  let v17 : BitVec 32 := Scalar.remsi arg2 c2_i32
  let c0_i32_7 : BitVec 32 := 0#32
  let v18 : BitVec 1 := Scalar.cmpi .ne v17 c0_i32_7
  let v19 : BitVec 1 := Scalar.andi v16 v18
  let v5 : BitVec 32 := Scalar.divsi arg2 c2_i32
  let c1_i32 : BitVec 32 := 1#32
  let v20 : BitVec 32 := Scalar.subi v5 c1_i32
  let v21 : BitVec 32 := Scalar.select v19 v20 v5
  let v22 : BitVec 32 := Scalar.subi v21 c0_i32_8
  let c1_i32_9 : BitVec 32 := 1#32
  let v24 : BitVec 32 := Scalar.divsi v22 c1_i32_9
  let v25 : BitVec 32 := Scalar.muli v24 c1_i32_9
  let v26 : BitVec 32 := Scalar.addi c0_i32_8 v25
  let c1_i32_11 : BitVec 32 := 1#32
  let arg8 : BitVec 32 := Scf.iv v26 c1_i32_11 k0_t2
  let v89 : BitVec 32 := Scalar.muli c2_i32_35 arg8
  let c1_i32_36 : BitVec 32 := 1#32
  let v90 : BitVec 32 := Scalar.addi v89 c1_i32_36
  let c512_i32_37 : BitVec 32 := 512#32
  let v91 : BitVec 32 := Scalar.muli v90 c512_i32_37
  let v92 : BitVec 32 := v91
  let v103 : Index := Scalar.indexCast v92
  let c0_43 : Index := 0#32
  ![0, v103.toNat, 0]
def k0_off8 (i : grid0.Coords) (k0_t2 : Fin (k0_t2_loop i).trips) : Fin 3 → Nat :=
  let c0_44 : Index := 0#32
  let arg1 : BitVec 32 := BitVec.ofNat 32 (i 1).val
  let v106 : Index := Scalar.indexCast arg1
  let c2_i32_35 : BitVec 32 := 2#32
  let c0_i32_8 : BitVec 32 := 0#32
  let arg2 : BitVec 32 := BitVec.ofNat 32 (i 2).val
  let c0_i32 : BitVec 32 := 0#32
  let v6 : BitVec 1 := Scalar.cmpi .sgt arg2 c0_i32
  let v7 : BitVec 32 := Scalar.extui v6
  let c0_i32_4 : BitVec 32 := 0#32
  let v8 : BitVec 1 := Scalar.cmpi .slt arg2 c0_i32_4
  let v9 : BitVec 32 := Scalar.extui v8
  let v10 : BitVec 32 := Scalar.subi v7 v9
  let c2_i32 : BitVec 32 := 2#32
  let c0_i32_5 : BitVec 32 := 0#32
  let v11 : BitVec 1 := Scalar.cmpi .sgt c2_i32 c0_i32_5
  let v12 : BitVec 32 := Scalar.extui v11
  let c0_i32_6 : BitVec 32 := 0#32
  let v13 : BitVec 1 := Scalar.cmpi .slt c2_i32 c0_i32_6
  let v14 : BitVec 32 := Scalar.extui v13
  let v15 : BitVec 32 := Scalar.subi v12 v14
  let v16 : BitVec 1 := Scalar.cmpi .ne v10 v15
  let v17 : BitVec 32 := Scalar.remsi arg2 c2_i32
  let c0_i32_7 : BitVec 32 := 0#32
  let v18 : BitVec 1 := Scalar.cmpi .ne v17 c0_i32_7
  let v19 : BitVec 1 := Scalar.andi v16 v18
  let v5 : BitVec 32 := Scalar.divsi arg2 c2_i32
  let c1_i32 : BitVec 32 := 1#32
  let v20 : BitVec 32 := Scalar.subi v5 c1_i32
  let v21 : BitVec 32 := Scalar.select v19 v20 v5
  let v22 : BitVec 32 := Scalar.subi v21 c0_i32_8
  let c1_i32_9 : BitVec 32 := 1#32
  let v24 : BitVec 32 := Scalar.divsi v22 c1_i32_9
  let v25 : BitVec 32 := Scalar.muli v24 c1_i32_9
  let v26 : BitVec 32 := Scalar.addi c0_i32_8 v25
  let c1_i32_11 : BitVec 32 := 1#32
  let arg8 : BitVec 32 := Scf.iv v26 c1_i32_11 k0_t2
  let v89 : BitVec 32 := Scalar.muli c2_i32_35 arg8
  let c1_i32_36 : BitVec 32 := 1#32
  let v90 : BitVec 32 := Scalar.addi v89 c1_i32_36
  let c512_i32_37 : BitVec 32 := 512#32
  let v91 : BitVec 32 := Scalar.muli v90 c512_i32_37
  let v92 : BitVec 32 := v91
  let v107 : Index := Scalar.indexCast v92
  ![0, v106.toNat, v107.toNat]
def k0_mult5 (i : grid0.Coords) : BitVec 32 :=
  let arg2 : BitVec 32 := BitVec.ofNat 32 (i 2).val
  let c512_i32 : BitVec 32 := 512#32
  let v29 : BitVec 32 := Scalar.muli arg2 c512_i32
  v29
def k0_off9 (i : grid0.Coords) : Fin 3 → Nat :=
  let c0_12 : Index := 0#32
  let arg2 : BitVec 32 := BitVec.ofNat 32 (i 2).val
  let c512_i32 : BitVec 32 := 512#32
  let v29 : BitVec 32 := Scalar.muli arg2 c512_i32
  let v30 : BitVec 32 := v29
  let v34 : Index := Scalar.indexCast v30
  let c0_13 : Index := 0#32
  ![0, v34.toNat, 0]
def k0_off10 (i : grid0.Coords) : Fin 3 → Nat :=
  let c0_14 : Index := 0#32
  let arg1 : BitVec 32 := BitVec.ofNat 32 (i 1).val
  let v37 : Index := Scalar.indexCast arg1
  let arg2 : BitVec 32 := BitVec.ofNat 32 (i 2).val
  let c512_i32 : BitVec 32 := 512#32
  let v29 : BitVec 32 := Scalar.muli arg2 c512_i32
  let v30 : BitVec 32 := v29
  let v38 : Index := Scalar.indexCast v30
  ![0, v37.toNat, v38.toNat]
def k0_cond1 (i : grid0.Coords) : BitVec 1 :=
  let arg2 : BitVec 32 := BitVec.ofNat 32 (i 2).val
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi arg2 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c1_i32_23 : BitVec 32 := 1#32
  let v56 : BitVec 1 := Scalar.cmpi .eq v55 c1_i32_23
  let v57 : BitVec 32 := Scalar.extui v56
  let c0_i32_24 : BitVec 32 := 0#32
  let v58 : BitVec 1 := Scalar.cmpi .ne v57 c0_i32_24
  v58

def k0_mult6 (i : grid0.Coords) : BitVec 32 :=
  let arg2 : BitVec 32 := BitVec.ofNat 32 (i 2).val
  let c1_i32_33 : BitVec 32 := 1#32
  let v86 : BitVec 32 := Scalar.subi arg2 c1_i32_33
  let c512_i32_34 : BitVec 32 := 512#32
  let v87 : BitVec 32 := Scalar.muli v86 c512_i32_34
  v87
def k0_off11 (i : grid0.Coords) : Fin 3 → Nat :=
  let c0_35 : Index := 0#32
  let arg2 : BitVec 32 := BitVec.ofNat 32 (i 2).val
  let c1_i32_33 : BitVec 32 := 1#32
  let v86 : BitVec 32 := Scalar.subi arg2 c1_i32_33
  let c512_i32_34 : BitVec 32 := 512#32
  let v87 : BitVec 32 := Scalar.muli v86 c512_i32_34
  let v88 : BitVec 32 := v87
  let v89 : Index := Scalar.indexCast v88
  let c0_36 : Index := 0#32
  ![0, v89.toNat, 0]
def k0_off12 (i : grid0.Coords) : Fin 3 → Nat :=
  let c0_37 : Index := 0#32
  let arg1 : BitVec 32 := BitVec.ofNat 32 (i 1).val
  let v92 : Index := Scalar.indexCast arg1
  let arg2 : BitVec 32 := BitVec.ofNat 32 (i 2).val
  let c1_i32_33 : BitVec 32 := 1#32
  let v86 : BitVec 32 := Scalar.subi arg2 c1_i32_33
  let c512_i32_34 : BitVec 32 := 512#32
  let v87 : BitVec 32 := Scalar.muli v86 c512_i32_34
  let v88 : BitVec 32 := v87
  let v93 : Index := Scalar.indexCast v88
  ![0, v92.toNat, v93.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x512 : Shape := ⟨3, ![4, 8192, 512]⟩
abbrev S4x8x8192 : Shape := ⟨3, ![4, 8, 8192]⟩
abbrev S4x8192x4x128 : Shape := ⟨4, ![4, 8192, 4, 128]⟩
abbrev S4x4x8192 : Shape := ⟨3, ![4, 4, 8192]⟩
abbrev S4x4x8192x8192 : Shape := ⟨4, ![4, 4, 8192, 8192]⟩
abbrev S4x4x8192x1 : Shape := ⟨4, ![4, 4, 8192, 1]⟩
abbrev S4x4x1x8192 : Shape := ⟨4, ![4, 4, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x4x128x8192 : Shape := ⟨4, ![4, 4, 128, 8192]⟩

abbrev nBuf : Space → Nat
  | .hbm => 47
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8x8192, .f32⟩
  | .hbm, ⟨4, _⟩ => ⟨S4x8192x512, .f32⟩
  | .hbm, ⟨5, _⟩ => ⟨S4x8192x4x128, .f32⟩
  | .hbm, ⟨6, _⟩ => ⟨S4x8192x512, .f32⟩
  | .hbm, ⟨7, _⟩ => ⟨S4x8192x4x128, .f32⟩
  | .hbm, ⟨8, _⟩ => ⟨S4x8192x512, .f32⟩
  | .hbm, ⟨9, _⟩ => ⟨S4x8192x4x128, .f32⟩
  | .hbm, ⟨10, _⟩ => ⟨S4x4x8192, .f32⟩
  | .hbm, ⟨11, _⟩ => ⟨S4x4x8192x8192, .f32⟩
  | .hbm, ⟨12, _⟩ => ⟨S4x4x8192x1, .f32⟩
  | .hbm, ⟨13, _⟩ => ⟨S4x4x1x8192, .f32⟩
  | .hbm, ⟨14, _⟩ => ⟨S4x4x8192x8192, .f32⟩
  | .hbm, ⟨15, _⟩ => ⟨S4x4x8192x8192, .f32⟩
  | .hbm, ⟨16, _⟩ => ⟨S4x4x8192x8192, .f32⟩
  | .hbm, ⟨17, _⟩ => ⟨S4x4x8192x8192, .f32⟩
  | .hbm, ⟨18, _⟩ => ⟨S8192, .i32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S4x4x8192x8192, .i1⟩
  | .hbm, ⟨27, _⟩ => ⟨S4x4x8192x8192, .f32⟩
  | .hbm, ⟨28, _⟩ => ⟨S4x4x8192x8192, .f32⟩
  | .hbm, ⟨29, _⟩ => ⟨S_, .f32⟩
  | .hbm, ⟨30, _⟩ => ⟨S4x4x8192, .f32⟩
  | .hbm, ⟨31, _⟩ => ⟨S_, .f32⟩
  | .hbm, ⟨32, _⟩ => ⟨S4x4x8192, .f32⟩
  | .hbm, ⟨33, _⟩ => ⟨S4x4x8192, .f32⟩
  | .hbm, ⟨34, _⟩ => ⟨S4x4x8192x1, .f32⟩
  | .hbm, ⟨35, _⟩ => ⟨S4x4x8192x8192, .f32⟩
  | .hbm, ⟨36, _⟩ => ⟨S4x4x8192x8192, .f32⟩
  | .hbm, ⟨37, _⟩ => ⟨S4x4x8192x8192, .f32⟩
  | .hbm, ⟨38, _⟩ => ⟨S_, .f32⟩
  | .hbm, ⟨39, _⟩ => ⟨S4x4x8192, .f32⟩
  | .hbm, ⟨40, _⟩ => ⟨S4x4x8192x1, .f32⟩
  | .hbm, ⟨41, _⟩ => ⟨S4x4x8192x8192, .f32⟩
  | .hbm, ⟨42, _⟩ => ⟨S4x4x8192x8192, .f32⟩
  | .hbm, ⟨43, _⟩ => ⟨S4x4x128x8192, .f32⟩
  | .hbm, ⟨44, _⟩ => ⟨S4x8192x4x128, .f32⟩
  | .hbm, ⟨45, _⟩ => ⟨S4x8192x512, .f32⟩
  | .hbm, ⟨46, _⟩ => ⟨S4x8192x512, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Prep.lean ====
abbrev S32768x14336 : Shape := ⟨2, ![32768, 14336]⟩
abbrev S128 : Shape := ⟨1, ![128]⟩
abbrev S4 : Shape := ⟨1, ![4]⟩
abbrev S4x8192x14336 : Shape := ⟨3, ![4, 8192, 14336]⟩
abbrev S1x128 : Shape := ⟨2, ![1, 128]⟩
abbrev S_ : Shape := ⟨0, ![]⟩
abbrev S1 : Shape := ⟨1, ![1]⟩
abbrev S2 : Shape := ⟨1, ![2]⟩
abbrev S4x8192x512 : Shape := ⟨3, ![4, 8192, 512]⟩
abbrev S4x8x8192 : Shape := ⟨3, ![4, 8, 8192]⟩
abbrev S1x512x512 : Shape := ⟨3, ![1, 512, 512]⟩
abbrev S1x512x128 : Shape := ⟨3, ![1, 512, 128]⟩
abbrev S1x8x512 : Shape := ⟨3, ![1, 8, 512]⟩
abbrev S8x128 : Shape := ⟨2, ![8, 128]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S128x512 : Shape := ⟨2, ![128, 512]⟩
abbrev S8x512 : Shape := ⟨2, ![8, 512]⟩

abbrev nBuf : Space → Nat
  | .hbm => 19
  | .vmem => 20
  | .smem => 0
  | _ => 0

abbrev bufTy : (tb : Table) → Fin (tcTables nBuf tb) → BufTy
  | .hbm, ⟨0, _⟩ => ⟨S32768x14336, .f32⟩
  | .hbm, ⟨1, _⟩ => ⟨S128, .f32⟩
  | .hbm, ⟨2, _⟩ => ⟨S128, .f32⟩
  | .hbm, ⟨3, _⟩ => ⟨S4, .f32⟩
  | .hbm, ⟨4, _⟩ => ⟨S4x8192x14336, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S1x128, .f32⟩
  | .hbm, ⟨15, _⟩ => ⟨S4x8192x512, .bf16⟩
  | .hbm, ⟨16, _⟩ => ⟨S4x8192x512, .bf16⟩
  | .hbm, ⟨17, _⟩ => ⟨S4x8192x512, .bf16⟩
  | .hbm, ⟨18, _⟩ => ⟨S4x8x8192, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x128, .f32⟩
  | .local _ .vmem, ⟨7, _⟩ => ⟨S1x512x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x8x512, .f32⟩
  | .local _ .vmem, ⟨18, _⟩ => ⟨S1x8x512, .f32⟩
  | .local _ .vmem, ⟨19, _⟩ => ⟨S8x128, .f32⟩
  | _, _ => ⟨S32768x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c18_i32 : BitVec 32 := 18#32
  let c0_i32 : BitVec 32 := 0#32
  ![arg0.toNat, arg1.toNat, c18_i32.toNat]

def cc0_transform_1 (i : grid0.Coords) : Fin 3 → Nat :=
  let arg0 : BitVec 32 := BitVec.ofNat 32 (i 0).val
  let arg1 : BitVec 32 := BitVec.ofNat 32 (i 1).val
  let c19_i32 : BitVec 32 := 19#32
  let c0_i32 : BitVec 32 := 0#32
  ![arg0.toNat, arg1.toNat, c19_i32.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let c0_i32 : BitVec 32 := 0#32
  ![arg0.toNat, arg1.toNat, c20_i32.toNat]

def cc0_transform_3 (i : grid0.Coords) : Fin 3 → Nat :=
  let arg0 : BitVec 32 := BitVec.ofNat 32 (i 0).val
  let arg1 : BitVec 32 := BitVec.ofNat 32 (i 1).val
  let c84_i32 : BitVec 32 := 84#32
  let c0_i32 : BitVec 32 := 0#32
  ![arg0.toNat, arg1.toNat, c84_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PrepIdeal.lean ====
variable {F : FTy → Type} [FloatOps F] [Named F]
def κ : String → Option EReal := fun
  | "scale" => some (((Real.sqrt 128)⁻¹ : ℝ) : EReal)
  | _ => none
-- ==== PrepRefIdeal.lean ====
abbrev S32768x14336 : Shape := ⟨2, ![32768, 14336]⟩
abbrev S128 : Shape := ⟨1, ![128]⟩
abbrev S4 : Shape := ⟨1, ![4]⟩
abbrev S4x8192x14336 : Shape := ⟨3, ![4, 8192, 14336]⟩
abbrev S4x8192x512 : Shape := ⟨3, ![4, 8192, 512]⟩
abbrev S4x8192x4x128 : Shape := ⟨4, ![4, 8192, 4, 128]⟩
abbrev S_ : Shape := ⟨0, ![]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S4x8192x8 : Shape := ⟨3, ![4, 8192, 8]⟩
abbrev S8 : Shape := ⟨1, ![8]⟩
abbrev S1x1x8 : Shape := ⟨3, ![1, 1, 8]⟩
abbrev S4x8x8192 : Shape := ⟨3, ![4, 8, 8192]⟩

abbrev nBuf : Space → Nat
  | .hbm => 78
  | .vmem => 0
  | .smem => 0
  | _ => 0

abbrev bufTy : (tb : Table) → Fin (tcTables nBuf tb) → BufTy
  | .hbm, ⟨0, _⟩ => ⟨S32768x14336, .f32⟩
  | .hbm, ⟨1, _⟩ => ⟨S128, .f32⟩
  | .hbm, ⟨2, _⟩ => ⟨S128, .f32⟩
  | .hbm, ⟨3, _⟩ => ⟨S4, .f32⟩
  | .hbm, ⟨4, _⟩ => ⟨S4x8192x14336, .f32⟩
  | .hbm, ⟨5, _⟩ => ⟨S4x8192x512, .f32⟩
  | .hbm, ⟨6, _⟩ => ⟨S4x8192x4x128, .f32⟩
  | .hbm, ⟨7, _⟩ => ⟨S4x8192x4x128, .f32⟩
  | .hbm, ⟨8, _⟩ => ⟨S_, .f32⟩
  | .hbm, ⟨9, _⟩ => ⟨S4x8192x4, .f32⟩
  | .hbm, ⟨10, _⟩ => ⟨S4x8192x4x1, .f32⟩
  | .hbm, ⟨11, _⟩ => ⟨S_, .f32⟩
  | .hbm, ⟨12, _⟩ => ⟨S4x8192x4x1, .f32⟩
  | .hbm, ⟨13, _⟩ => ⟨S4x8192x4x1, .f32⟩
  | .hbm, ⟨14, _⟩ => ⟨S_, .f32⟩
  | .hbm, ⟨15, _⟩ => ⟨S4x8192x4x1, .f32⟩
  | .hbm, ⟨16, _⟩ => ⟨S4x8192x4x1, .f32⟩
  | .hbm, ⟨17, _⟩ => ⟨S4x8192x4x1, .f32⟩
  | .hbm, ⟨18, _⟩ => ⟨S4x8192x4x128, .f32⟩
  | .hbm, ⟨19, _⟩ => ⟨S4x8192x4x128, .f32⟩
  | .hbm, ⟨20, _⟩ => ⟨S1x1x1x128, .f32⟩
  | .hbm, ⟨21, _⟩ => ⟨S4x8192x4x128, .f32⟩
  | .hbm, ⟨22, _⟩ => ⟨S4x8192x4x128, .f32⟩
  | .hbm, ⟨23, _⟩ => ⟨S_, .f32⟩
  | .hbm, ⟨24, _⟩ => ⟨S_, .f32⟩
  | .hbm, ⟨25, _⟩ => ⟨S4x8192x4x128, .f32⟩
  | .hbm, ⟨26, _⟩ => ⟨S4x8192x4x128, .f32⟩
  | .hbm, ⟨27, _⟩ => ⟨S4x8192x512, .f32⟩
  | .hbm, ⟨28, _⟩ => ⟨S4x8192x4x128, .f32⟩
  | .hbm, ⟨29, _⟩ => ⟨S4x8192x4x128, .f32⟩
  | .hbm, ⟨30, _⟩ => ⟨S_, .f32⟩
  | .hbm, ⟨31, _⟩ => ⟨S4x8192x4, .f32⟩
  | .hbm, ⟨32, _⟩ => ⟨S4x8192x4x1, .f32⟩
  | .hbm, ⟨33, _⟩ => ⟨S_, .f32⟩
  | .hbm, ⟨34, _⟩ => ⟨S4x8192x4x1, .f32⟩
  | .hbm, ⟨35, _⟩ => ⟨S4x8192x4x1, .f32⟩
  | .hbm, ⟨36, _⟩ => ⟨S_, .f32⟩
  | .hbm, ⟨37, _⟩ => ⟨S4x8192x4x1, .f32⟩
  | .hbm, ⟨38, _⟩ => ⟨S4x8192x4x1, .f32⟩
  | .hbm, ⟨39, _⟩ => ⟨S4x8192x4x1, .f32⟩
  | .hbm, ⟨40, _⟩ => ⟨S4x8192x4x128, .f32⟩
  | .hbm, ⟨41, _⟩ => ⟨S4x8192x4x128, .f32⟩
  | .hbm, ⟨42, _⟩ => ⟨S1x1x1x128, .f32⟩
  | .hbm, ⟨43, _⟩ => ⟨S4x8192x4x128, .f32⟩
  | .hbm, ⟨44, _⟩ => ⟨S4x8192x4x128, .f32⟩
  | .hbm, ⟨45, _⟩ => ⟨S4x8192x512, .f32⟩
  | .hbm, ⟨46, _⟩ => ⟨S4x8192x8, .f32⟩
  | .hbm, ⟨47, _⟩ => ⟨S_, .i32⟩
  | .hbm, ⟨48, _⟩ => ⟨S_, .f32⟩
  | .hbm, ⟨49, _⟩ => ⟨S8, .f32⟩
  | .hbm, ⟨50, _⟩ => ⟨S1x1x8, .f32⟩
  | .hbm, ⟨51, _⟩ => ⟨S4x8192x8, .f32⟩
  | .hbm, ⟨52, _⟩ => ⟨S4x8192x8, .f32⟩
  | .hbm, ⟨53, _⟩ => ⟨S4x8192x8, .f32⟩
  | .hbm, ⟨54, _⟩ => ⟨S_, .f32⟩
  | .hbm, ⟨55, _⟩ => ⟨S4x8192x8, .f32⟩
  | .hbm, ⟨56, _⟩ => ⟨S4x8192x8, .f32⟩
  | .hbm, ⟨57, _⟩ => ⟨S4x8192x8, .f32⟩
  | .hbm, ⟨58, _⟩ => ⟨S4x8192x8, .f32⟩
  | .hbm, ⟨59, _⟩ => ⟨S4x8192x8, .i1⟩
  | .hbm, ⟨60, _⟩ => ⟨S4x8192x8, .f32⟩
  | .hbm, ⟨61, _⟩ => ⟨S4x8192x8, .f32⟩
  | .hbm, ⟨62, _⟩ => ⟨S4x8192x8, .f32⟩
  | .hbm, ⟨63, _⟩ => ⟨S4x8192x8, .f32⟩
  | .hbm, ⟨64, _⟩ => ⟨S4x8192x8, .f32⟩
  | .hbm, ⟨65, _⟩ => ⟨S4x8192x8, .f32⟩
  | .hbm, ⟨66, _⟩ => ⟨S4x8192x8, .f32⟩
  | .hbm, ⟨67, _⟩ => ⟨S4x8192x8, .f32⟩
  | .hbm, ⟨68, _⟩ => ⟨S4x8192x8, .f32⟩
  | .hbm, ⟨69, _⟩ => ⟨S_, .f32⟩
  | .hbm, ⟨70, _⟩ => ⟨S_, .f32⟩
  | .hbm, ⟨71, _⟩ => ⟨S4x8192x8, .f32⟩
  | .hbm, ⟨72, _⟩ => ⟨S4x8192x512, .f32⟩
  | .hbm, ⟨73, _⟩ => ⟨S4x8192x512, .bf16⟩
  | .hbm, ⟨74, _⟩ => ⟨S4x8192x512, .f32⟩
  | .hbm, ⟨75, _⟩ => ⟨S4x8192x512, .bf16⟩
  | .hbm, ⟨76, _⟩ => ⟨S4x8192x512, .bf16⟩
  | .hbm, ⟨77, _⟩ => ⟨S4x8x8192, .f32⟩
  | _, _ => ⟨S32768x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_call0_v0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call1_v0 : Ref sig .tc := ⟨.hbm, 53, rfl⟩
abbrev main_call1_call0_cst : Ref sig .tc := ⟨.hbm, 54, rfl⟩
abbrev main_call1_call0_v0 : Ref sig .tc := ⟨.hbm, 55, rfl⟩
abbrev main_call1_call0_v1 : Ref sig .tc := ⟨.hbm, 56, rfl⟩
abbrev main_call1_call0_v2 : Ref sig .tc := ⟨.hbm, 57, rfl⟩
abbrev main_call1_call0_v3 : Ref sig .tc := ⟨.hbm, 58, rfl⟩
abbrev main_call1_call0_v4 : Ref sig .tc := ⟨.hbm, 59, rfl⟩
abbrev main_call1_call0_v5 : Ref sig .tc := ⟨.hbm, 60, rfl⟩
abbrev main_call1_call0_v6 : Ref sig .tc := ⟨.hbm, 61, rfl⟩
abbrev main_call1_call0_v7 : Ref sig .tc := ⟨.hbm, 62, rfl⟩
abbrev main_call1_call0_v8 : Ref sig .tc := ⟨.hbm, 63, rfl⟩
abbrev main_call1_call0_v9 : Ref sig .tc := ⟨.hbm, 64, rfl⟩
abbrev main_call1_call0_v10 : Ref sig .tc := ⟨.hbm, 65, rfl⟩
abbrev main_call1_call0_v11 : Ref sig .tc := ⟨.hbm, 66, rfl⟩
abbrev main_call1_v1 : Ref sig .tc := ⟨.hbm, 67, rfl⟩
abbrev main_v40 : Ref sig .tc := ⟨.hbm, 68, rfl⟩
abbrev main_call2_call0_cst : Ref sig .tc := ⟨.hbm, 69, rfl⟩
abbrev main_call2_call0_v0 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩

abbrev nD : Nat := 1
abbrev τ : Topo := Topo.v7x

variable {F : FTy → Type} [FloatOps F]
-- ==== In.lean ====
abbrev S4x8192x2048 : Shape := ⟨3, ![4, 8192, 2048]⟩
abbrev S2048 : Shape := ⟨1, ![2048]⟩
abbrev S2048x14092 : Shape := ⟨2, ![2048, 14092]⟩
abbrev S32768x2048 : Shape := ⟨2, ![32768, 2048]⟩
abbrev S1x2048 : Shape := ⟨2, ![1, 2048]⟩
abbrev S_ : Shape := ⟨0, ![]⟩
abbrev S2048x14336 : Shape := ⟨2, ![2048, 14336]⟩
abbrev S32768x14336 : Shape := ⟨2, ![32768, 14336]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048x14092, .f32⟩
  | .hbm, ⟨3, _⟩ => ⟨S32768x2048, .f32⟩
  | .hbm, ⟨4, _⟩ => ⟨S1x2048, .f32⟩
  | .hbm, ⟨5, _⟩ => ⟨S_, .i32⟩
  | .hbm, ⟨6, _⟩ => ⟨S_, .f32⟩
  | .hbm, ⟨7, _⟩ => ⟨S2048x14336, .f32⟩
  | .hbm, ⟨8, _⟩ => ⟨S2048x14336, .bf16⟩
  | .hbm, ⟨9, _⟩ => ⟨S32768x14336, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InRefIdeal.lean ====
abbrev S4x8192x2048 : Shape := ⟨3, ![4, 8192, 2048]⟩
abbrev S2048 : Shape := ⟨1, ![2048]⟩
abbrev S2048x14092 : Shape := ⟨2, ![2048, 14092]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S4x8192x14092 : Shape := ⟨3, ![4, 8192, 14092]⟩
abbrev S4x8192x14336 : Shape := ⟨3, ![4, 8192, 14336]⟩
abbrev S32768x14336 : Shape := ⟨2, ![32768, 14336]⟩

abbrev nBuf : Space → Nat
  | .hbm => 24
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048x14092, .f32⟩
  | .hbm, ⟨3, _⟩ => ⟨S4x8192x2048, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x2048, .f32⟩
  | .hbm, ⟨15, _⟩ => ⟨S4x8192x2048, .f32⟩
  | .hbm, ⟨16, _⟩ => ⟨S1x1x2048, .f32⟩
  | .hbm, ⟨17, _⟩ => ⟨S4x8192x2048, .f32⟩
  | .hbm, ⟨18, _⟩ => ⟨S4x8192x2048, .f32⟩
  | .hbm, ⟨19, _⟩ => ⟨S4x8192x14092, .f32⟩
  | .hbm, ⟨20, _⟩ => ⟨S_, .i32⟩
  | .hbm, ⟨21, _⟩ => ⟨S_, .f32⟩
  | .hbm, ⟨22, _⟩ => ⟨S4x8192x14336, .f32⟩
  | .hbm, ⟨23, _⟩ => ⟨S32768x14336, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Merge.lean ====
abbrev S32768x2048 : Shape := ⟨2, ![32768, 2048]⟩
abbrev S32768x14336 : Shape := ⟨2, ![32768, 14336]⟩
abbrev S4x8192x512 : Shape := ⟨3, ![4, 8192, 512]⟩
abbrev S4x512x2048 : Shape := ⟨3, ![4, 512, 2048]⟩
abbrev S2048x2048 : Shape := ⟨2, ![2048, 2048]⟩
abbrev S32768x512 : Shape := ⟨2, ![32768, 512]⟩
abbrev S256x2048 : Shape := ⟨2, ![256, 2048]⟩
abbrev S256x8192 : Shape := ⟨2, ![256, 8192]⟩
abbrev S256x512 : Shape := ⟨2, ![256, 512]⟩
abbrev S1x512x2048 : Shape := ⟨3, ![1, 512, 2048]⟩
abbrev S512x2048 : Shape := ⟨2, ![512, 2048]⟩

abbrev nBuf : Space → Nat
  | .hbm => 15
  | .vmem => 16
  | .smem => 0
  | _ => 0

abbrev bufTy : (tb : Table) → Fin (tcTables nBuf tb) → BufTy
  | .hbm, ⟨0, _⟩ => ⟨S32768x2048, .f32⟩
  | .hbm, ⟨1, _⟩ => ⟨S32768x14336, .f32⟩
  | .hbm, ⟨2, _⟩ => ⟨S4x8192x512, .bf16⟩
  | .hbm, ⟨3, _⟩ => ⟨S4x8192x512, .bf16⟩
  | .hbm, ⟨4, _⟩ => ⟨S4x8192x512, .bf16⟩
  | .hbm, ⟨5, _⟩ => ⟨S4x8192x512, .bf16⟩
  | .hbm, ⟨6, _⟩ => ⟨S4x512x2048, .f32⟩
  | .hbm, ⟨7, _⟩ => ⟨S2048x2048, .f32⟩
  | .hbm, ⟨8, _⟩ => ⟨S32768x512, .bf16⟩
  | .hbm, ⟨9, _⟩ => ⟨S32768x512, .bf16⟩
  | .hbm, ⟨10, _⟩ => ⟨S32768x512, .bf16⟩
  | .hbm, ⟨11, _⟩ => ⟨S32768x512, .bf16⟩
  | .hbm, ⟨12, _⟩ => ⟨S4x512x2048, .bf16⟩
  | .hbm, ⟨13, _⟩ => ⟨S2048x2048, .bf16⟩
  | .hbm, ⟨14, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S256x8192, .f32⟩
  | .local _ .vmem, ⟨3, _⟩ => ⟨S256x8192, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S4x512x2048, .bf16⟩
  | .local _ .vmem, ⟨13, _⟩ => ⟨S2048x2048, .bf16⟩
  | .local _ .vmem, ⟨14, _⟩ => ⟨S256x2048, .f32⟩
  | .local _ .vmem, ⟨15, _⟩ => ⟨S256x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S32768x2048 : Shape := ⟨2, ![32768, 2048]⟩
abbrev S32768x14336 : Shape := ⟨2, ![32768, 14336]⟩
abbrev S4x8192x512 : Shape := ⟨3, ![4, 8192, 512]⟩
abbrev S4x512x2048 : Shape := ⟨3, ![4, 512, 2048]⟩
abbrev S2048x2048 : Shape := ⟨2, ![2048, 2048]⟩
abbrev S32768x8192 : Shape := ⟨2, ![32768, 8192]⟩
abbrev S_ : Shape := ⟨0, ![]⟩
abbrev S32768x512 : Shape := ⟨2, ![32768, 512]⟩
abbrev S1x512x2048 : Shape := ⟨3, ![1, 512, 2048]⟩
abbrev S512x2048 : Shape := ⟨2, ![512, 2048]⟩

abbrev nBuf : Space → Nat
  | .hbm => 50
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x14336, .f32⟩
  | .hbm, ⟨2, _⟩ => ⟨S4x8192x512, .bf16⟩
  | .hbm, ⟨3, _⟩ => ⟨S4x8192x512, .bf16⟩
  | .hbm, ⟨4, _⟩ => ⟨S4x8192x512, .bf16⟩
  | .hbm, ⟨5, _⟩ => ⟨S4x8192x512, .bf16⟩
  | .hbm, ⟨6, _⟩ => ⟨S4x512x2048, .f32⟩
  | .hbm, ⟨7, _⟩ => ⟨S2048x2048, .f32⟩
  | .hbm, ⟨8, _⟩ => ⟨S32768x8192, .f32⟩
  | .hbm, ⟨9, _⟩ => ⟨S32768x8192, .f32⟩
  | .hbm, ⟨10, _⟩ => ⟨S32768x8192, .f32⟩
  | .hbm, ⟨11, _⟩ => ⟨S_, .f32⟩
  | .hbm, ⟨12, _⟩ => ⟨S32768x8192, .f32⟩
  | .hbm, ⟨13, _⟩ => ⟨S32768x8192, .f32⟩
  | .hbm, ⟨14, _⟩ => ⟨S_, .f32⟩
  | .hbm, ⟨15, _⟩ => ⟨S32768x8192, .f32⟩
  | .hbm, ⟨16, _⟩ => ⟨S32768x8192, .f32⟩
  | .hbm, ⟨17, _⟩ => ⟨S4x8192x512, .f32⟩
  | .hbm, ⟨18, _⟩ => ⟨S32768x512, .f32⟩
  | .hbm, ⟨19, _⟩ => ⟨S32768x2048, .f32⟩
  | .hbm, ⟨20, _⟩ => ⟨S1x512x2048, .f32⟩
  | .hbm, ⟨21, _⟩ => ⟨S512x2048, .f32⟩
  | .hbm, ⟨22, _⟩ => ⟨S32768x2048, .f32⟩
  | .hbm, ⟨23, _⟩ => ⟨S32768x2048, .f32⟩
  | .hbm, ⟨24, _⟩ => ⟨S4x8192x512, .f32⟩
  | .hbm, ⟨25, _⟩ => ⟨S32768x512, .f32⟩
  | .hbm, ⟨26, _⟩ => ⟨S32768x2048, .f32⟩
  | .hbm, ⟨27, _⟩ => ⟨S1x512x2048, .f32⟩
  | .hbm, ⟨28, _⟩ => ⟨S512x2048, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S4x8192x512, .f32⟩
  | .hbm, ⟨33, _⟩ => ⟨S32768x512, .f32⟩
  | .hbm, ⟨34, _⟩ => ⟨S32768x2048, .f32⟩
  | .hbm, ⟨35, _⟩ => ⟨S1x512x2048, .f32⟩
  | .hbm, ⟨36, _⟩ => ⟨S512x2048, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S4x8192x512, .f32⟩
  | .hbm, ⟨41, _⟩ => ⟨S32768x512, .f32⟩
  | .hbm, ⟨42, _⟩ => ⟨S32768x2048, .f32⟩
  | .hbm, ⟨43, _⟩ => ⟨S1x512x2048, .f32⟩
  | .hbm, ⟨44, _⟩ => ⟨S512x2048, .f32⟩
  | .hbm, ⟨45, _⟩ => ⟨S32768x2048, .f32⟩
  | .hbm, ⟨46, _⟩ => ⟨S32768x2048, .f32⟩
  | .hbm, ⟨47, _⟩ => ⟨S32768x2048, .f32⟩
  | .hbm, ⟨48, _⟩ => ⟨S32768x2048, .f32⟩
  | .hbm, ⟨49, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Up.lean ====
abbrev S32768x2048 : Shape := ⟨2, ![32768, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S1x2048 : Shape := ⟨2, ![1, 2048]⟩
abbrev S1x11264 : Shape := ⟨2, ![1, 11264]⟩
abbrev S32768x5632 : Shape := ⟨2, ![32768, 5632]⟩
abbrev S1024x2048 : Shape := ⟨2, ![1024, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S1040x2048 : Shape := ⟨2, ![1040, 2048]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S1040x512 : Shape := ⟨2, ![1040, 512]⟩

abbrev nBuf : Space → Nat
  | .hbm => 9
  | .vmem => 20
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S1x2048, .f32⟩
  | .hbm, ⟨6, _⟩ => ⟨S2048x11264, .bf16⟩
  | .hbm, ⟨7, _⟩ => ⟨S1x11264, .f32⟩
  | .hbm, ⟨8, _⟩ => ⟨S32768x5632, .bf16⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S3x512, .f32⟩
  | .local _ .vmem, ⟨14, _⟩ => ⟨S3x512, .f32⟩
  | .local _ .vmem, ⟨15, _⟩ => ⟨S1x512, .f32⟩
  | .local _ .vmem, ⟨16, _⟩ => ⟨S1x512, .f32⟩
  | .local _ .vmem, ⟨17, _⟩ => ⟨S1024x512, .bf16⟩
  | .local _ .vmem, ⟨18, _⟩ => ⟨S1024x512, .bf16⟩
  | .local _ .vmem, ⟨19, _⟩ => ⟨S1040x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== UpRefIdeal.lean ====
abbrev S32768x2048 : Shape := ⟨2, ![32768, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x11264 : Shape := ⟨2, ![32768, 11264]⟩
abbrev S4x8192x11264 : Shape := ⟨3, ![4, 8192, 11264]⟩
abbrev S4x8194x11264 : Shape := ⟨3, ![4, 8194, 11264]⟩
abbrev S1x11264 : Shape := ⟨2, ![1, 11264]⟩
abbrev S1x1x11264 : Shape := ⟨3, ![1, 1, 11264]⟩
abbrev S4x8192x5632 : Shape := ⟨3, ![4, 8192, 5632]⟩
abbrev S32768x5632 : Shape := ⟨2, ![32768, 5632]⟩

abbrev nBuf : Space → Nat
  | .hbm => 71
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S32768x11264, .f32⟩
  | .hbm, ⟨22, _⟩ => ⟨S4x8192x11264, .f32⟩
  | .hbm, ⟨23, _⟩ => ⟨S_, .i32⟩
  | .hbm, ⟨24, _⟩ => ⟨S_, .f32⟩
  | .hbm, ⟨25, _⟩ => ⟨S4x8194x11264, .f32⟩
  | .hbm, ⟨26, _⟩ => ⟨S4x8192x11264, .f32⟩
  | .hbm, ⟨27, _⟩ => ⟨S1x11264, .f32⟩
  | .hbm, ⟨28, _⟩ => ⟨S11264, .f32⟩
  | .hbm, ⟨29, _⟩ => ⟨S1x1x11264, .f32⟩
  | .hbm, ⟨30, _⟩ => ⟨S4x8192x11264, .f32⟩
  | .hbm, ⟨31, _⟩ => ⟨S4x8192x11264, .f32⟩
  | .hbm, ⟨32, _⟩ => ⟨S4x8192x11264, .f32⟩
  | .hbm, ⟨33, _⟩ => ⟨S1x11264, .f32⟩
  | .hbm, ⟨34, _⟩ => ⟨S11264, .f32⟩
  | .hbm, ⟨35, _⟩ => ⟨S1x1x11264, .f32⟩
  | .hbm, ⟨36, _⟩ => ⟨S4x8192x11264, .f32⟩
  | .hbm, ⟨37, _⟩ => ⟨S4x8192x11264, .f32⟩
  | .hbm, ⟨38, _⟩ => ⟨S4x8192x11264, .f32⟩
  | .hbm, ⟨39, _⟩ => ⟨S4x8192x11264, .f32⟩
  | .hbm, ⟨40, _⟩ => ⟨S1x11264, .f32⟩
  | .hbm, ⟨41, _⟩ => ⟨S11264, .f32⟩
  | .hbm, ⟨42, _⟩ => ⟨S1x1x11264, .f32⟩
  | .hbm, ⟨43, _⟩ => ⟨S4x8192x11264, .f32⟩
  | .hbm, ⟨44, _⟩ => ⟨S4x8192x11264, .f32⟩
  | .hbm, ⟨45, _⟩ => ⟨S4x8192x11264, .f32⟩
  | .hbm, ⟨46, _⟩ => ⟨S1x1x11264, .f32⟩
  | .hbm, ⟨47, _⟩ => ⟨S4x8192x11264, .f32⟩
  | .hbm, ⟨48, _⟩ => ⟨S4x8192x11264, .f32⟩
  | .hbm, ⟨49, _⟩ => ⟨S4x8192x5632, .f32⟩
  | .hbm, ⟨50, _⟩ => ⟨S4x8192x5632, .f32⟩
  | .hbm, ⟨51, _⟩ => ⟨S4x8192x5632, .f32⟩
  | .hbm, ⟨52, _⟩ => ⟨S_, .f32⟩
  | .hbm, ⟨53, _⟩ => ⟨S4x8192x5632, .f32⟩
  | .hbm, ⟨54, _⟩ => ⟨S4x8192x5632, .f32⟩
  | .hbm, ⟨55, _⟩ => ⟨S4x8192x5632, .f32⟩
  | .hbm, ⟨56, _⟩ => ⟨S_, .f32⟩
  | .hbm, ⟨57, _⟩ => ⟨S4x8192x5632, .f32⟩
  | .hbm, ⟨58, _⟩ => ⟨S4x8192x5632, .f32⟩
  | .hbm, ⟨59, _⟩ => ⟨S4x8192x5632, .f32⟩
  | .hbm, ⟨60, _⟩ => ⟨S_, .f32⟩
  | .hbm, ⟨61, _⟩ => ⟨S4x8192x5632, .f32⟩
  | .hbm, ⟨62, _⟩ => ⟨S4x8192x5632, .f32⟩
  | .hbm, ⟨63, _⟩ => ⟨S_, .f32⟩
  | .hbm, ⟨64, _⟩ => ⟨S4x8192x5632, .f32⟩
  | .hbm, ⟨65, _⟩ => ⟨S4x8192x5632, .f32⟩
  | .hbm, ⟨66, _⟩ => ⟨S4x8192x5632, .f32⟩
  | .hbm, ⟨67, _⟩ => ⟨S4x8192x5632, .f32⟩
  | .hbm, ⟨68, _⟩ => ⟨S4x8192x5632, .f32⟩
  | .hbm, ⟨69, _⟩ => ⟨S32768x5632, .f32⟩
  | .hbm, ⟨70, _⟩ => ⟨S32768x5632, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== Down.lean ====
abbrev S32768x5632 : Shape := ⟨2, ![32768, 5632]⟩
abbrev S5632x2048 : Shape := ⟨2, ![5632, 2048]⟩
abbrev S32768x2048 : Shape := ⟨2, ![32768, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .f32⟩
  | .hbm, ⟨2, _⟩ => ⟨S32768x2048, .f32⟩
  | .hbm, ⟨3, _⟩ => ⟨S5632x2048, .bf16⟩
  | .hbm, ⟨4, _⟩ => ⟨S32768x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S32768x5632 : Shape := ⟨2, ![32768, 5632]⟩
abbrev S5632x2048 : Shape := ⟨2, ![5632, 2048]⟩
abbrev S32768x2048 : Shape := ⟨2, ![32768, 2048]⟩

abbrev nBuf : Space → Nat
  | .hbm => 6
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .f32⟩
  | .hbm, ⟨2, _⟩ => ⟨S32768x2048, .f32⟩
  | .hbm, ⟨3, _⟩ => ⟨S32768x5632, .f32⟩
  | .hbm, ⟨4, _⟩ => ⟨S32768x2048, .f32⟩
  | .hbm, ⟨5, _⟩ => ⟨S32768x2048, .f32⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Ple.lean ====
abbrev S32768x2048 : Shape := ⟨2, ![32768, 2048]⟩
abbrev S4x8192x256 : Shape := ⟨3, ![4, 8192, 256]⟩
abbrev S2048 : Shape := ⟨1, ![2048]⟩
abbrev S2048x2048 : Shape := ⟨2, ![2048, 2048]⟩
abbrev S256x2048 : Shape := ⟨2, ![256, 2048]⟩
abbrev S32768x256 : Shape := ⟨2, ![32768, 256]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S4x8192x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S32768x256, .f32⟩
  | .hbm, ⟨6, _⟩ => ⟨S1x2048, .f32⟩
  | .hbm, ⟨7, _⟩ => ⟨S2048x2048, .bf16⟩
  | .hbm, ⟨8, _⟩ => ⟨S256x2048, .bf16⟩
  | .hbm, ⟨9, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S512x2048, .f32⟩
  | .local _ .vmem, ⟨8, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleRefIdeal.lean ====
abbrev S32768x2048 : Shape := ⟨2, ![32768, 2048]⟩
abbrev S4x8192x256 : Shape := ⟨3, ![4, 8192, 256]⟩
abbrev S2048 : Shape := ⟨1, ![2048]⟩
abbrev S2048x2048 : Shape := ⟨2, ![2048, 2048]⟩
abbrev S256x2048 : Shape := ⟨2, ![256, 2048]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x8192x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S4x8192x2048, .f32⟩
  | .hbm, ⟨6, _⟩ => ⟨S4x8192x2048, .f32⟩
  | .hbm, ⟨7, _⟩ => ⟨S_, .f32⟩
  | .hbm, ⟨8, _⟩ => ⟨S4x8192, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S4x8192x1, .f32⟩
  | .hbm, ⟨17, _⟩ => ⟨S4x8192x2048, .f32⟩
  | .hbm, ⟨18, _⟩ => ⟨S4x8192x2048, .f32⟩
  | .hbm, ⟨19, _⟩ => ⟨S1x1x2048, .f32⟩
  | .hbm, ⟨20, _⟩ => ⟨S4x8192x2048, .f32⟩
  | .hbm, ⟨21, _⟩ => ⟨S4x8192x2048, .f32⟩
  | .hbm, ⟨22, _⟩ => ⟨S4x8192x2048, .f32⟩
  | .hbm, ⟨23, _⟩ => ⟨S4x8192x2048, .f32⟩
  | .hbm, ⟨24, _⟩ => ⟨S4x8192x2048, .f32⟩
  | .hbm, ⟨25, _⟩ => ⟨S_, .f32⟩
  | .hbm, ⟨26, _⟩ => ⟨S4x8192x2048, .f32⟩
  | .hbm, ⟨27, _⟩ => ⟨S4x8192x2048, .f32⟩
  | .hbm, ⟨28, _⟩ => ⟨S_, .f32⟩
  | .hbm, ⟨29, _⟩ => ⟨S4x8192x2048, .f32⟩
  | .hbm, ⟨30, _⟩ => ⟨S4x8192x2048, .f32⟩
  | .hbm, ⟨31, _⟩ => ⟨S4x8192x2048, .f32⟩
  | .hbm, ⟨32, _⟩ => ⟨S4x8192x2048, .f32⟩
  | .hbm, ⟨33, _⟩ => ⟨S4x8192x2048, .f32⟩
  | .hbm, ⟨34, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.FoxBody.lean ====
/-
  The frame of the forgetting-attention kernel, program `KernelIdeal`: the kernel body on whole staging buffers leaves the
  result's buffer at an explicit function of the three inputs' blocks (`out0_4`: the online softmax, two key blocks a
  trip, one more where the query block's number is odd, the diagonal block last), the pipeline's proof data over it,
  and the run of @main.
-/
module

public import proofs.«01_k».proof.Proof.Gen.KernelIdeal.Frame
public import proofs.«01_k».proof.Proof.Gen.KernelIdeal.Points
public import proofs.«01_k».proof.Proof.Gen.KernelIdeal.Launch
public import proofs.«01_k».proof.Proof.Gen.KernelIdeal.Loops

@[expose] public section

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body computes -/

/-- The state the key blocks are folded into: running maximum, denominator, numerator. -/
abbrev St (F : FTy → Type) := FVec F S512x1 .f32 × FVec F S512x1 .f32 × FVec F S512x128 .f32

/-- One unmasked key block folded into the state. -/
def upd (q : FVec F S512x128 .bf16) (kb vb : Vec F S1x512x128 .bf16) (cb : Vec F S1x1x512 .f32) (s : St F) : St F :=
  (k0_pay36 q s.1 kb cb, k0_pay39 q s.1 s.2.1 kb cb, k0_pay40 q s.1 s.2.2 kb cb vb)

/-- The two rectangles of a trip's keys and values, and of its decay row; -/
abbrev r1 (i : grid0.Coords) (k : Fin (k0_t1_loop i).trips) : Rect S1x8192x128 := Rect.unit (s := S1x8192x128) (k0_off1 i k) S1x512x128.size (k0_off1_inb i k)
abbrev r2 (i : grid0.Coords) (k : Fin (k0_t1_loop i).trips) : Rect S1x8x8192 := Rect.unit (s := S1x8x8192) (k0_off2 i k) S1x1x512.size (k0_off2_inb i k)
abbrev r3 (i : grid0.Coords) (k : Fin (k0_t1_loop i).trips) : Rect S1x8192x128 := Rect.unit (s := S1x8192x128) (k0_off3 i k) S1x512x128.size (k0_off3_inb i k)
abbrev r4 (i : grid0.Coords) (k : Fin (k0_t1_loop i).trips) : Rect S1x8x8192 := Rect.unit (s := S1x8x8192) (k0_off4 i k) S1x1x512.size (k0_off4_inb i k)
/-- of the diagonal block; -/
abbrev r9 (i : grid0.Coords) : Rect S1x8192x128 := Rect.unit (s := S1x8192x128) (k0_off9 i) S1x512x128.size (k0_off9_inb i)
abbrev r10 (i : grid0.Coords) : Rect S1x8x8192 := Rect.unit (s := S1x8x8192) (k0_off10 i) S1x1x512.size (k0_off10_inb i)
/-- of the odd block; -/
abbrev r11 (i : grid0.Coords) (h : k0_cond1 i = 1#1) : Rect S1x8192x128 := Rect.unit (s := S1x8192x128) (k0_off11 i) S1x512x128.size (k0_off11_inb i h)
abbrev r12 (i : grid0.Coords) (h : k0_cond1 i = 1#1) : Rect S1x8x8192 := Rect.unit (s := S1x8x8192) (k0_off12 i) S1x1x512.size (k0_off12_inb i h)
/-- and of the whole query block. -/
abbrev r0 : Rect S1x512x128 := Rect.unit (s := S1x512x128) ![0, 0, 0] S1x512x128.size inb_S1x512x128_S1x512x128_0_0_0

/-- The state after `k` trips, two key blocks each. -/
def stp (i : grid0.Coords) (x0 : Vec F S1x512x128 .bf16) (x1 x2 : Vec F S1x8192x128 .bf16) (x3 : Vec F S1x8x8192 .f32) : ℕ → St F
  | 0 => (k0_pay19 (F := F), k0_pay20 (F := F), k0_pay21 (F := F))
  | k + 1 =>
    if h : k < (k0_t1_loop i).trips then
      upd (k0_pay18 (View.ld x0 r0)) (View.ld x1 (r3 i ⟨k, h⟩)) (View.ld x2 (r3 i ⟨k, h⟩)) (View.ld x3 (r4 i ⟨k, h⟩))
        (upd (k0_pay18 (View.ld x0 r0)) (View.ld x1 (r1 i ⟨k, h⟩)) (View.ld x2 (r1 i ⟨k, h⟩)) (View.ld x3 (r2 i ⟨k, h⟩))
          (stp i x0 x1 x2 x3 k))
    else stp i x0 x1 x2 x3 k

/-- The state before the diagonal block: the trips', and the odd block where there is one. -/
def pre (i : grid0.Coords) (x0 : Vec F S1x512x128 .bf16) (x1 x2 : Vec F S1x8192x128 .bf16) (x3 : Vec F S1x8x8192 .f32) : St F :=
  if h : k0_cond1 i = 1#1 then
    upd (k0_pay18 (View.ld x0 r0)) (View.ld x1 (r11 i h)) (View.ld x2 (r11 i h)) (View.ld x3 (r12 i h)) (stp i x0 x1 x2 x3 (k0_t1_loop i).trips)
  else stp i x0 x1 x2 x3 (k0_t1_loop i).trips

/-- The payload of the body's one store: numerator over denominator, the masked diagonal block folded in. -/
def outv (i : grid0.Coords) (x0 : Vec F S1x512x128 .bf16) (x1 x2 : Vec F S1x8192x128 .bf16) (x3 : Vec F S1x8x8192 .f32) : Vec F S1x512x128 .bf16 :=
  k0_pay1
    (k0_pay44 (k0_pay18 (View.ld x0 r0)) k0_pay32 (k0_pay33 (View.ld x1 (r9 i))) (View.ld x3 (r10 i)) (pre i x0 x1 x2 x3).1 (pre i x0 x1 x2 x3).2.2 (View.ld x2 (r9 i)))
    (k0_pay45 (k0_pay18 (View.ld x0 r0)) k0_pay32 (k0_pay33 (View.ld x1 (r9 i))) (View.ld x3 (r10 i)) (pre i x0 x1 x2 x3).1 (pre i x0 x1 x2 x3).2.1)

/-- The result's staging buffer after the body. -/
def out0_4 (i : grid0.Coords) (x0 : Vec F S1x512x128 .bf16) (x1 x2 : Vec F S1x8192x128 .bf16) (x3 : Vec F S1x8x8192 .f32) : Vec F S1x512x128 .bf16 :=
  View.canon [⟨r0, outv i x0 x1 x2 x3⟩]

/-- The body's store covers the buffer. -/
theorem cover0_4 (p0 : Vec F S1x512x128 .bf16) (y : S1x512x128.Idx) :
    ∃ pc ∈ ([⟨r0, p0⟩] : List (View.Piece (Elt F) S1x512x128 .bf16)), y ∈ pc.1.set :=
  View.cover_of_tiled [⟨r0, p0⟩] S1x512x128.size (by rfl) y

/-! ## The loops' carried values -/

/-- One trip folds its two key blocks into the carried state. -/
theorem trip1_eq (𝒱 : Variants) (c : Dev nD) (bd : Option 𝒱.V) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x8x8192 .f32) (harg6 : arg6.IsWhole) (arg7 : Memref sig .tc .vmem S1x512x128 .bf16) (harg7 : arg7.IsWhole)
    (arg1 : BitVec 32) (v0 : Vec F S1x512x128 .bf16) (X4 : BufTy.Contents (Elt F) arg4.view.ty) (X5 : BufTy.Contents (Elt F) arg5.view.ty) (X6 : BufTy.Contents (Elt F) arg6.view.ty) (k : Fin (k0_t1_loop i).trips) (acc : St F) :
    tripR_k0_t1 (F := F) 𝒱 c bd i arg3 harg3 arg4 harg4 arg5 harg5 arg6 harg6 arg7 harg7 arg1 v0 X4 X5 X6 k acc
      = upd (k0_pay18 v0) (View.ld (arg4.view.read (Elt F) X4) (r3 i k)) (View.ld (arg5.view.read (Elt F) X5) (r3 i k)) (View.ld (arg6.view.read (Elt F) X6) (r4 i k))
          (upd (k0_pay18 v0) (View.ld (arg4.view.read (Elt F) X4) (r1 i k)) (View.ld (arg5.view.read (Elt F) X5) (r1 i k)) (View.ld (arg6.view.read (Elt F) X6) (r2 i k)) acc) := by
  unfold tripR_k0_t1 trip_k0_t1
  sl_unfold_words
  rfl

/-- The state before trip `k`, from the generated recursion. -/
theorem st1_eq (𝒱 : Variants) (c : Dev nD) (bd : Option 𝒱.V) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x8x8192 .f32) (harg6 : arg6.IsWhole) (arg7 : Memref sig .tc .vmem S1x512x128 .bf16) (harg7 : arg7.IsWhole)
    (arg1 : BitVec 32) (X3 : BufTy.Contents (Elt F) arg3.view.ty) (X4 : BufTy.Contents (Elt F) arg4.view.ty) (X5 : BufTy.Contents (Elt F) arg5.view.ty) (X6 : BufTy.Contents (Elt F) arg6.view.ty) :
    ∀ k ≤ (k0_t1_loop i).trips,
      st_k0_t1 (F := F) 𝒱 c bd i arg3 harg3 arg4 harg4 arg5 harg5 arg6 harg6 arg7 harg7 arg1 (View.ld (arg3.view.read (Elt F) X3) r0) X4 X5 X6 (k0_pay19 (F := F), k0_pay20 (F := F), k0_pay21 (F := F)) k
        = stp i (arg3.view.read (Elt F) X3) (arg4.view.read (Elt F) X4) (arg5.view.read (Elt F) X5) (arg6.view.read (Elt F) X6) k
  | 0, _ => rfl
  | k + 1, h => by
    have hk : k < (k0_t1_loop i).trips := h
    rw [show k + 1 = (⟨k, hk⟩ : Fin (k0_t1_loop i).trips).val + 1 from rfl, st_k0_t1_succ, trip1_eq,
      st1_eq 𝒱 c bd i arg3 harg3 arg4 harg4 arg5 harg5 arg6 harg6 arg7 harg7 arg1 X3 X4 X5 X6 k (Nat.le_of_lt hk)]
    show _ = stp _ _ _ _ _ (k + 1)
    rw [stp.eq_2, dif_pos hk]

/-- The remainder loop makes no trip. -/
theorem t2_trips (i : grid0.Coords) : (k0_t2_loop i).trips = 0 := Nat.le_zero.mp (k0_t2_abs i).2.1

theorem t2_trips' (i : grid0.Coords) : Scf.trips (k0_t2_loop i).lb (k0_t2_loop i).ub (k0_t2_loop i).st = 0 := t2_trips i

theorem st2_zero (𝒱 : Variants) (c : Dev nD) (bd : Option 𝒱.V) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x8x8192 .f32) (harg6 : arg6.IsWhole) (arg7 : Memref sig .tc .vmem S1x512x128 .bf16) (harg7 : arg7.IsWhole)
    (arg1 : BitVec 32) (v0 : Vec F S1x512x128 .bf16) (n : BitVec 32) (X4 : BufTy.Contents (Elt F) arg4.view.ty) (X5 : BufTy.Contents (Elt F) arg5.view.ty) (X6 : BufTy.Contents (Elt F) arg6.view.ty) (s : St F) :
    st_k0_t2 (F := F) 𝒱 c bd i arg3 harg3 arg4 harg4 arg5 harg5 arg6 harg6 arg7 harg7 arg1 v0 n X4 X5 X6 s 0 = s := rfl

theorem st1_eq' (𝒱 : Variants) (c : Dev nD) (bd : Option 𝒱.V) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x8x8192 .f32) (harg6 : arg6.IsWhole) (arg7 : Memref sig .tc .vmem S1x512x128 .bf16) (harg7 : arg7.IsWhole)
    (arg1 : BitVec 32) (X3 : BufTy.Contents (Elt F) arg3.view.ty) (X4 : BufTy.Contents (Elt F) arg4.view.ty) (X5 : BufTy.Contents (Elt F) arg5.view.ty) (X6 : BufTy.Contents (Elt F) arg6.view.ty) :
    st_k0_t1 (F := F) 𝒱 c bd i arg3 harg3 arg4 harg4 arg5 harg5 arg6 harg6 arg7 harg7 arg1 (View.readAt (Elt F) arg3.view (Rect.unit (s := S1x512x128) ![0, 0, 0] S1x512x128.size inb_S1x512x128_S1x512x128_0_0_0).toLoadRect X3) X4 X5 X6 (k0_pay19 (F := F), k0_pay20 (F := F), k0_pay21 (F := F)) (Scf.trips (k0_t1_loop i).lb (k0_t1_loop i).ub (k0_t1_loop i).st)
      = stp i (arg3.view.read (Elt F) X3) (arg4.view.read (Elt F) X4) (arg5.view.read (Elt F) X5) (arg6.view.read (Elt F) X6) (k0_t1_loop i).trips :=
  st1_eq 𝒱 c bd i arg3 harg3 arg4 harg4 arg5 harg5 arg6 harg6 arg7 harg7 arg1 X3 X4 X5 X6 _ (Nat.le_refl _)

/-! ## The body's triple -/

set_option maxHeartbeats 1000000 in
/-- The kernel body on whole staging buffers runs to the continuation holding the inputs' as they were and the
    result's at `out0_4` of them. -/
theorem sound_kernel (c : Dev nD) (E : Set ℕ) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x8x8192 .f32) (harg6 : arg6.IsWhole) (arg7 : Memref sig .tc .vmem S1x512x128 .bf16) (harg7 : arg7.IsWhole)
    (x0 : Vec F S1x512x128 .bf16) (x1 x2 : Vec F S1x8192x128 .bf16) (x3 : Vec F S1x8x8192 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out0_4 i x0 x1 x2 x3)) -∗ K ⟨⟩))
      ⊢ wp frame (wpE (defs₀ (F := F)) Variants.none c none) E (cc0_fox_attn i arg3 harg3 arg4 harg4 arg5 harg5 arg6 harg6 arg7 harg7) K := by
  simp only [cc0_fox_attn_eq_skeleton]; unfold cc0_fox_attn_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  by_cases hc : k0_cond1 i = 1#1
  · sl_exec (disch := exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists _; isplitr
    swap; · iexact H4
    ipureintro
    refine (View.read_writes_eq_canon _ _ _ (cover0_4 _)).trans ?_
    unfold out0_4 outv pre
    sl_unfold_words
    rw [dif_pos hc, t2_trips' i, st2_zero, st1_eq' Variants.none c none i arg3 harg3 arg4 harg4 arg5 harg5 arg6 harg6 arg7 harg7]
    generalize stp (F := F) i _ _ _ _ _ = S
    rfl
  · sl_exec (disch := exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists _; isplitr
    swap; · iexact H4
    ipureintro
    refine (View.read_writes_eq_canon _ _ _ (cover0_4 _)).trans ?_
    unfold out0_4 outv pre
    sl_unfold_words
    rw [dif_neg hc, t2_trips' i, st2_zero, st1_eq' Variants.none c none i arg3 harg3 arg4 harg4 arg5 harg5 arg6 harg6 arg7 harg7]
    generalize stp (F := F) i _ _ _ _ _ = S
    rfl

/-! ## The pipeline's proof data -/

variable (m : (ℓ : Loc nD τ sig) → Buf (Elt F) ℓ) (ρ : Dev nD → PrngReg)

/-- The proof data: the arrays as launched; after the body each input's buffer at its block and the result's at
    `out0_4` of the blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
  Φ _ := Pipeline.ΦA spec0 c
  q _ := fullShare
  owed _ := 0

/-- The proof data's arrays are the launched ones. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (grid0.coords t) (iblk m c 0 t) (iblk m c 1 t) (iblk m c 2 t) (iblk m c 3 t) := by dsimp only [dats]

/-- Each input's staging buffer holds its block before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, window by window; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s buffers is the body. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- @main terminates with every array at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as launched, every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨
      (h.1 c).1 0 |>.trans (((dats m 0 c).arrAt_in 0 rfl _).trans ((A_eq m c 0).trans (V_main_arg0 m c))),
      (h.1 c).1 1 |>.trans (((dats m 0 c).arrAt_in 1 rfl _).trans ((A_eq m c 1).trans (V_main_arg1 m c))),
      (h.1 c).1 2 |>.trans (((dats m 0 c).arrAt_in 2 rfl _).trans ((A_eq m c 2).trans (V_main_arg2 m c))),
      (h.1 c).1 3 |>.trans (((dats m 0 c).arrAt_in 3 rfl _).trans ((A_eq m c 3).trans (V_main_arg3 m c)))⟩, h.2⟩)
    (run_main_quiescent m ρ)

end Cert.KernelIdeal.Fox

end
-- ==== Proof.Frames.lean ====
/-
  The frames: every program runs, ends with its arguments as launched and with every counter at zero; and what the
  idealisation keeps.
-/
module

public import proofs.«01_k».proof.Defs
public import proofs.«01_k».proof.Proof.FoxBody
public import proofs.«01_k».proof.Proof.FoxBodyBits
public import proofs.«01_k».proof.Proof.Gen.ReferenceIdeal.Run
public import proofs.«01_k».proof.Proof.Gen.Prep.Frame
public import proofs.«01_k».proof.Proof.Gen.PrepIdeal.Frame
public import proofs.«01_k».proof.Proof.Gen.PrepRefIdeal.Run
public import proofs.«01_k».proof.Proof.Gen.In.Frame
public import proofs.«01_k».proof.Proof.Gen.InIdeal.Frame
public import proofs.«01_k».proof.Proof.Gen.InRefIdeal.Run
public import proofs.«01_k».proof.Proof.Gen.Merge.Frame
public import proofs.«01_k».proof.Proof.Gen.MergeIdeal.Frame
public import proofs.«01_k».proof.Proof.Gen.MergeRefIdeal.Run
public import proofs.«01_k».proof.Proof.Gen.Up.Frame
public import proofs.«01_k».proof.Proof.Gen.UpIdeal.Frame
public import proofs.«01_k».proof.Proof.Gen.UpRefIdeal.Run
public import proofs.«01_k».proof.Proof.Gen.Down.Frame
public import proofs.«01_k».proof.Proof.Gen.DownIdeal.Frame
public import proofs.«01_k».proof.Proof.Gen.DownRefIdeal.Run
public import proofs.«01_k».proof.Proof.Gen.Ple.Frame
public import proofs.«01_k».proof.Proof.Gen.PleIdeal.Frame
public import proofs.«01_k».proof.Proof.Gen.PleRefIdeal.Run
public import proofs.«01_k».proof.Proof.Gen.Pre_finite
public import Idealize.ShloMosaic.Lib.Quiescent

@[expose] public section

noncomputable section

namespace Cert.Proof

open Idealize.ShloMosaic Idealize.SL.Sem

/-- The attention kernel's frame. -/
theorem frame_Kernel : Cert.quiescent_Kernel := fun m ρ _ => Cert.Kernel.Fox.framed m ρ
/-- The idealised attention kernel's frame; -/
theorem frame_KernelIdeal : Cert.quiescent_KernelIdeal := fun m ρ _ => Cert.KernelIdeal.Fox.framed m ρ
/-- under the precondition too. -/
theorem frame_KernelIdeal_pre : Cert.quiescent_KernelIdeal_pre_finite := fun m ρ _ => Cert.KernelIdeal.Fox.framed m ρ
/-- The attention reference's frame; -/
theorem frame_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)
/-- under the precondition too. -/
theorem frame_ReferenceIdeal_pre : Cert.quiescent_ReferenceIdeal_pre_finite := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)
/-- The one named constant: the mask is bottom. -/
theorem kept_Kernel : Cert.preserves_Kernel_KernelIdeal := by
  exact IdealRules.named_const.statement Cert.KernelIdeal.κ "mask" .f32 0xF149F2CA#32 ⊥ rfl

/-- The frames of the `Prep` kernel, -/
theorem frame_Prep : Cert.quiescent_Prep := fun m ρ _ => Cert.Prep.Gen.frame m ρ
/-- of its idealisation, -/
theorem frame_PrepIdeal : Cert.quiescent_PrepIdeal := fun m ρ _ => Cert.PrepIdeal.Gen.frame m ρ
/-- and of its reference. -/
theorem frame_PrepRefIdeal : Cert.quiescent_PrepRefIdeal := fun m ρ _ =>
  (θ_run Cert.PrepRefIdeal.defs _ _).mono (fun r h => ⟨fun c => (h c).2.2.2.2, Idealize.ShloMosaic.sem_eq_zero_of_no_sems (by decide) r.2⟩) (Cert.PrepRefIdeal.Value.run (F := Ideal) m ρ)

/-- Its one named constant: the queries' factor is the inverse root of 128. -/
theorem kept_Prep : Cert.preserves_Prep_PrepIdeal := by
  exact IdealRules.named_const.statement Cert.PrepIdeal.κ "scale" .f32 0x3DB504F3#32 (((Real.sqrt 128)⁻¹ : ℝ) : EReal) rfl

/-- The frames of the `In` kernel, -/
theorem frame_In : Cert.quiescent_In := fun m ρ _ => Cert.In.Gen.frame m ρ
/-- of its idealisation, -/
theorem frame_InIdeal : Cert.quiescent_InIdeal := fun m ρ _ => Cert.InIdeal.Gen.frame m ρ
/-- and of its reference. -/
theorem frame_InRefIdeal : Cert.quiescent_InRefIdeal := fun m ρ _ =>
  (θ_run Cert.InRefIdeal.defs _ _).mono (fun r h => ⟨fun c => (h c).2, Idealize.ShloMosaic.sem_eq_zero_of_no_sems (by decide) r.2⟩) (Cert.InRefIdeal.Value.run (F := Ideal) m ρ)

/-- The frames of the `Merge` kernel, -/
theorem frame_Merge : Cert.quiescent_Merge := fun m ρ _ => Cert.Merge.Gen.frame m ρ
/-- of its idealisation, -/
theorem frame_MergeIdeal : Cert.quiescent_MergeIdeal := fun m ρ _ => Cert.MergeIdeal.Gen.frame m ρ
/-- and of its reference. -/
theorem frame_MergeRefIdeal : Cert.quiescent_MergeRefIdeal := fun m ρ _ =>
  (θ_run Cert.MergeRefIdeal.defs _ _).mono (fun r h => ⟨fun c => (h c).2, Idealize.ShloMosaic.sem_eq_zero_of_no_sems (by decide) r.2⟩) (Cert.MergeRefIdeal.Value.run (F := Ideal) m ρ)

/-- The frames of the `Up` kernel, -/
theorem frame_Up : Cert.quiescent_Up := fun m ρ _ => Cert.Up.Gen.frame m ρ
/-- of its idealisation, -/
theorem frame_UpIdeal : Cert.quiescent_UpIdeal := fun m ρ _ => Cert.UpIdeal.Gen.frame m ρ
/-- and of its reference. -/
theorem frame_UpRefIdeal : Cert.quiescent_UpRefIdeal := fun m ρ _ =>
  (θ_run Cert.UpRefIdeal.defs _ _).mono (fun r h => ⟨fun c => (h c).2, Idealize.ShloMosaic.sem_eq_zero_of_no_sems (by decide) r.2⟩) (Cert.UpRefIdeal.Value.run (F := Ideal) m ρ)

/-- The frames of the `Down` kernel, -/
theorem frame_Down : Cert.quiescent_Down := fun m ρ _ => Cert.Down.Gen.frame m ρ
/-- of its idealisation, -/
theorem frame_DownIdeal : Cert.quiescent_DownIdeal := fun m ρ _ => Cert.DownIdeal.Gen.frame m ρ
/-- and of its reference. -/
theorem frame_DownRefIdeal : Cert.quiescent_DownRefIdeal := fun m ρ _ =>
  (θ_run Cert.DownRefIdeal.defs _ _).mono (fun r h => ⟨fun c => (h c).2, Idealize.ShloMosaic.sem_eq_zero_of_no_sems (by decide) r.2⟩) (Cert.DownRefIdeal.Value.run (F := Ideal) m ρ)

/-- The frames of the `Ple` kernel, -/
theorem frame_Ple : Cert.quiescent_Ple := fun m ρ _ => Cert.Ple.Gen.frame m ρ
/-- of its idealisation, -/
theorem frame_PleIdeal : Cert.quiescent_PleIdeal := fun m ρ _ => Cert.PleIdeal.Gen.frame m ρ
/-- and of its reference. -/
theorem frame_PleRefIdeal : Cert.quiescent_PleRefIdeal := fun m ρ _ =>
  (θ_run Cert.PleRefIdeal.defs _ _).mono (fun r h => ⟨fun c => (h c).2, Idealize.ShloMosaic.sem_eq_zero_of_no_sems (by decide) r.2⟩) (Cert.PleRefIdeal.Value.run (F := Ideal) m ρ)

end Cert.Proof

end
-- ==== Proof.FoxRows.lean ====
/-
  The forgetting-attention kernel's block operations, row by row: what one key block does to the running maximum, the
  denominator and the numerator of one query.
-/
module

public import proofs.«01_k».proof.Proof.FoxBody
public import Idealize.ShloMosaic.Lib.Pointwise

@[expose] public section

noncomputable section

namespace Cert.KernelIdeal.Fox

open Cert.KernelIdeal Cert.KernelIdeal.Gen Idealize.ShloMosaic Idealize.ShloMosaic.TcCoe

/-- The score of query row `r` against key row `k` of a block: the dot product less the key's cumulative decay. -/
def sc (q : S512x128.Idx → EReal) (kb : S1x512x128.Idx → EReal) (cb : S1x1x512.Idx → EReal) (r k : Fin 512) : EReal :=
  (∑ d : Fin 128, q (ix2 r d) * kb (ix3 (0 : Fin 1) k d)) - cb (ix3 (0 : Fin 1) (0 : Fin 1) k)

/-- The running maximum after a block, from the block's scores. -/
def nm (M : EReal) (S : Fin 512 → EReal) : EReal := max M (Finset.univ.fold max ⊥ S)

/-- The word the maxima begin with is bottom. -/
theorem ofBits_neg_inf : Ideal.ofBits .f32 4286578688#32 = ⊥ := by simp [Ideal.ofBits, Ideal.ieee]

variable (q : FVec Ideal S512x128 .bf16) (kb vb : Vec Ideal S1x512x128 .bf16) (cb : Vec Ideal S1x1x512 .f32)

set_option maxRecDepth 16384 in
theorem pay35_at (r k : Fin 512) : k0_pay35 q kb cb (ix2 r k) = sc q kb cb r k := by
  pointwise [k0_pay35, sc]

set_option maxRecDepth 16384 in
theorem pay36_at (M : FVec Ideal S512x1 .f32) (r : Fin 512) :
    k0_pay36 q M kb cb (ix2 r (0 : Fin 1)) = nm (M (ix2 r (0 : Fin 1))) (sc q kb cb r) := by
  pointwise [k0_pay36, nm]
  simp only [pay35_at, ofBits_neg_inf]

set_option maxRecDepth 16384 in
theorem pay39_at (M L : FVec Ideal S512x1 .f32) (r : Fin 512) :
    k0_pay39 q M L kb cb (ix2 r (0 : Fin 1)) = Ideal.exp (M (ix2 r (0 : Fin 1)) - nm (M (ix2 r (0 : Fin 1))) (sc q kb cb r)) * L (ix2 r (0 : Fin 1))
      + ∑ k : Fin 512, Ideal.exp (sc q kb cb r k - nm (M (ix2 r (0 : Fin 1))) (sc q kb cb r)) := by
  pointwise [k0_pay39, k0_pay38, k0_pay37]
  simp only [pay35_at, pay36_at]

set_option maxRecDepth 16384 in
theorem pay40_at (M : FVec Ideal S512x1 .f32) (A : FVec Ideal S512x128 .f32) (r : Fin 512) (d : Fin 128) :
    k0_pay40 q M A kb cb vb (ix2 r d) = Ideal.exp (M (ix2 r (0 : Fin 1)) - nm (M (ix2 r (0 : Fin 1))) (sc q kb cb r)) * A (ix2 r d)
      + ∑ k : Fin 512, Ideal.exp (sc q kb cb r k - nm (M (ix2 r (0 : Fin 1))) (sc q kb cb r)) * vb (ix3 (0 : Fin 1) k d) := by
  pointwise [k0_pay40, k0_pay38, k0_pay37]
  simp only [pay35_at, pay36_at]

/-- The diagonal block's scores: a key after the query is masked. -/
def scm (q : S512x128.Idx → EReal) (kb : S1x512x128.Idx → EReal) (cb : S1x1x512.Idx → EReal) (r k : Fin 512) : EReal :=
  if k.val ≤ r.val then sc q kb cb r k else ⊥

/-- The mask's word compare is the order of the indices. -/
theorem sle_iff (r k : Fin 512) : (BitVec.ofNat 32 k.val).sle (BitVec.ofNat 32 r.val) = decide (k.val ≤ r.val) := by
  have hr := r.isLt
  have hk := k.isLt
  rw [BitVec.sle, BitVec.toInt_eq_toNat_of_lt (by simp; omega), BitVec.toInt_eq_toNat_of_lt (by simp; omega)]
  simp
  omega

set_option maxRecDepth 16384 in
theorem pay34_at (r k : Fin 512) : k0_pay34 q k0_pay32 (k0_pay33 kb) cb (ix2 r k) = scm q kb cb r k := by
  pointwise [k0_pay34, k0_pay33, k0_pay32, scm, sc]
  unfold Scalar.select IntOp.cmpi
  simp only [sle_iff]
  by_cases h : k.val ≤ r.val
  · rw [if_pos (by simp [h]), if_pos h]
  · rw [if_neg (by simp [h]), if_neg h]
    rfl

set_option maxRecDepth 16384 in
theorem pay41_at (M : FVec Ideal S512x1 .f32) (r : Fin 512) :
    k0_pay41 q k0_pay32 (k0_pay33 kb) cb M (ix2 r (0 : Fin 1)) = nm (M (ix2 r (0 : Fin 1))) (scm q kb cb r) := by
  pointwise [k0_pay41, nm]
  simp only [pay34_at, ofBits_neg_inf]

set_option maxRecDepth 16384 in
theorem pay45_at (M L : FVec Ideal S512x1 .f32) (r : Fin 512) (d : Fin 128) :
    k0_pay45 q k0_pay32 (k0_pay33 kb) cb M L (ix2 r d)
      = Ideal.exp (M (ix2 r (0 : Fin 1)) - nm (M (ix2 r (0 : Fin 1))) (scm q kb cb r)) * L (ix2 r (0 : Fin 1))
        + ∑ k : Fin 512, Ideal.exp (scm q kb cb r k - nm (M (ix2 r (0 : Fin 1))) (scm q kb cb r)) := by
  pointwise [k0_pay45, k0_pay43, k0_pay42]
  simp only [pay34_at, pay41_at]

set_option maxRecDepth 16384 in
theorem pay44_at (M : FVec Ideal S512x1 .f32) (A : FVec Ideal S512x128 .f32) (r : Fin 512) (d : Fin 128) :
    k0_pay44 q k0_pay32 (k0_pay33 kb) cb M A vb (ix2 r d)
      = Ideal.exp (M (ix2 r (0 : Fin 1)) - nm (M (ix2 r (0 : Fin 1))) (scm q kb cb r)) * A (ix2 r d)
        + ∑ k : Fin 512, Ideal.exp (scm q kb cb r k - nm (M (ix2 r (0 : Fin 1))) (scm q kb cb r)) * vb (ix3 (0 : Fin 1) k d) := by
  pointwise [k0_pay44, k0_pay43, k0_pay42]
  simp only [pay34_at, pay41_at]

set_option maxRecDepth 16384 in
theorem pay1_at (X Y : FVec Ideal S512x128 .f32) (r : Fin 512) (d : Fin 128) :
    k0_pay1 X Y (ix3 (0 : Fin 1) r d) = Ideal.div (X (ix2 r d)) (Y (ix2 r d)) := by
  pointwise [k0_pay1]

set_option maxRecDepth 16384 in
theorem pay19_at (r : Fin 512) : k0_pay19 (F := Ideal) (ix2 r (0 : Fin 1)) = ⊥ := by
  pointwise [k0_pay19]
  rfl

set_option maxRecDepth 16384 in
theorem pay20_at (r : Fin 512) : k0_pay20 (F := Ideal) (ix2 r (0 : Fin 1)) = 0 := by
  pointwise [k0_pay20]

set_option maxRecDepth 16384 in
theorem pay21_at (r : Fin 512) (d : Fin 128) : k0_pay21 (F := Ideal) (ix2 r d) = 0 := by
  pointwise [k0_pay21]

set_option maxRecDepth 16384 in
theorem pay18_at (x : Vec Ideal S1x512x128 .bf16) (r : Fin 512) (d : Fin 128) :
    k0_pay18 x (ix2 r d) = x (ix3 (0 : Fin 1) r d) := by
  pointwise [k0_pay18]

end Cert.KernelIdeal.Fox

end
-- ==== Proof.Softmax.lean ====
/-
  The softmax of scores that are finite or masked (bottom), over the extended reals: a running triple (offset, sum of
  exponentials, weighted sum) folded block by block keeps its meaning under every change of the offset, and its quotient
  is the weighted mean by the normalised exponentials, whatever offsets the two sides used.
-/
module

public import Idealize.ShloMosaic.PureOps.Ideal
public import Idealize.ShloMosaic.PureOps.Ideal.Laws

@[expose] public section

noncomputable section

namespace Cert.Softmax

open Idealize.ShloMosaic

/-- The exponential of a score against an offset. -/
def ex (s M : EReal) : EReal := Ideal.exp (s - M)

theorem exp_bot : Ideal.exp ⊥ = 0 := rfl
theorem exp_coe (x : ℝ) : Ideal.exp (x : EReal) = (Real.exp x : EReal) := rfl

/-- A masked score weighs nothing; a finite one the real exponential. -/
theorem ex_bot (M : ℝ) : ex ⊥ M = 0 := rfl
theorem ex_coe (s M : ℝ) : ex s M = (Real.exp (s - M) : EReal) := rfl

/-- Against a real offset a weight is a nonnegative real. -/
theorem ex_real {s : EReal} (hs : s ≠ ⊤) (M : ℝ) : ∃ x : ℝ, 0 ≤ x ∧ ex s M = x := by
  induction s with
  | bot => exact ⟨0, le_refl _, rfl⟩
  | top => exact absurd rfl hs
  | coe s => exact ⟨Real.exp (s - M), (Real.exp_pos _).le, rfl⟩

/-- Changing the offset scales every weight. -/
theorem ex_mul {s : EReal} (hs : s ≠ ⊤) (M M' : ℝ) : ex M M' * ex s M = ex s M' := by
  induction s with
  | bot => show ex M M' * ex ⊥ M = ex ⊥ M'; rw [ex_bot, ex_bot, mul_zero]
  | top => exact absurd rfl hs
  | coe s =>
    rw [ex_coe, ex_coe, ex_coe, ← EReal.coe_mul, ← Real.exp_add]; congr 2; ring

/-- A nonnegative real factor goes through a sum. -/
theorem mul_sum {ι : Type} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha, ← ih,
      EReal.left_distrib_of_nonneg_of_ne_top (by exact_mod_cast hc) (EReal.coe_ne_top c)]

/-- The running triple after the columns below `n`: no column and the offset bottom, or a real offset and the two sums. -/
structure Inv (s : ℕ → EReal) (v : ℕ → EReal) (n : ℕ) (M L A : EReal) : Prop where
  off : (n = 0 ∧ M = ⊥) ∨ ∃ x : ℝ, M = x
  sum : L = ∑ j ∈ Finset.range n, ex (s j) M
  acc : A = ∑ j ∈ Finset.range n, ex (s j) M * v j

/-- The triple the fold begins with. -/
theorem Inv.init (s v : ℕ → EReal) : Inv s v 0 ⊥ 0 0 := ⟨.inl ⟨rfl, rfl⟩, by simp, by simp⟩

/-- A block's maximum from bottom, the offset taken with it: real when some score of the block is. -/
theorem max_real {K : ℕ} (S : Fin K → EReal) (hS : ∀ k, S k ≠ ⊤) (k₀ : Fin K) (h₀ : S k₀ ≠ ⊥) (M : EReal) (hM : M ≠ ⊤) :
    ∃ x : ℝ, max M (Finset.univ.fold max ⊥ S) = x := by
  have h1 : max M (Finset.univ.fold max ⊥ S) ≠ ⊤ := by
    have : Finset.univ.fold max ⊥ S < ⊤ := Finset.fold_max_lt _ |>.mpr ⟨bot_lt_top, fun k _ => lt_top_iff_ne_top.mpr (hS k)⟩
    exact (max_lt (lt_top_iff_ne_top.mpr hM) this).ne
  have h2 : max M (Finset.univ.fold max ⊥ S) ≠ ⊥ := by
    have : S k₀ ≤ Finset.univ.fold max ⊥ S := Finset.le_fold_max (S k₀) |>.mpr (.inr ⟨k₀, Finset.mem_univ _, le_refl _⟩)
    exact (lt_of_lt_of_le (bot_lt_iff_ne_bot.mpr h₀) (this.trans (le_max_right _ _))).ne'
  exact ⟨_, (EReal.coe_toReal h1 h2).symm⟩

/-- One block folded in. -/
theorem Inv.step {s v : ℕ → EReal} {n : ℕ} {M L A : EReal} (h : Inv s v n M L A) (hs : ∀ j, s j ≠ ⊤) {K : ℕ}
    (S V : Fin K → EReal) (hS : ∀ k, S k = s (n + k)) (hV : ∀ k, V k = v (n + k)) (k₀ : Fin K) (h₀ : s (n + k₀) ≠ ⊥) :
    Inv s v (n + K) (max M (Finset.univ.fold max ⊥ S))
      (Ideal.exp (M - max M (Finset.univ.fold max ⊥ S)) * L + ∑ k, Ideal.exp (S k - max M (Finset.univ.fold max ⊥ S)))
      (Ideal.exp (M - max M (Finset.univ.fold max ⊥ S)) * A + ∑ k, Ideal.exp (S k - max M (Finset.univ.fold max ⊥ S)) * V k) := by
  have hM : M ≠ ⊤ := by
    rcases h.off with ⟨_, h⟩ | ⟨x, h⟩ <;> rw [h]
    · exact bot_ne_top
    · exact EReal.coe_ne_top x
  obtain ⟨x', hx'⟩ := max_real S (fun k => hS k ▸ hs _) k₀ (hS k₀ ▸ h₀) M hM
  rw [hx']
  have key : ∀ f : ℕ → EReal, Ideal.exp (M - x') * ∑ j ∈ Finset.range n, ex (s j) M * f j = ∑ j ∈ Finset.range n, ex (s j) x' * f j := by
    intro f
    rcases h.off with ⟨h0, _⟩ | ⟨x, hx⟩
    · rw [h0]; simp
    · show ex M x' * _ = _
      rw [hx, ex_coe, mul_sum _ (Real.exp_pos _).le]
      refine Finset.sum_congr rfl fun j _ => ?_
      rw [← ex_coe, ← mul_assoc, ex_mul (hs j)]
  refine ⟨.inr ⟨x', rfl⟩, ?_, ?_⟩
  · have e := key fun _ => 1
    simp only [mul_one] at e
    rw [h.sum, e, Finset.sum_range_add, Finset.sum_range fun j => ex (s (n + j)) x']
    exact congrArg _ (Finset.sum_congr rfl fun k _ => by rw [hS]; rfl)
  · rw [h.acc, key v, Finset.sum_range_add, Finset.sum_range fun j => ex (s (n + j)) x' * v (n + j)]
    exact congrArg _ (Finset.sum_congr rfl fun k _ => by rw [hS, hV]; rfl)

/-- A quotient by a positive real is the product with its inverse. -/
theorem div_pos (x : EReal) {y : ℝ} (hy : 0 < y) : Ideal.div x y = x * ((y⁻¹ : ℝ) : EReal) := by
  unfold Ideal.div
  rw [if_neg (by exact_mod_cast hy.ne'), EReal.coe_inv]

/-- The quotient of the running triple's sums over `n` columns is the mean over `N ≥ n` columns, the further ones masked,
    by the weights normalised against any other offset, every score moved by one real. -/
theorem quotient {s v : ℕ → EReal} {n N : ℕ} (hn : n ≤ N) {M L A : EReal} (h : Inv s v n M L A) (hs : ∀ j, s j ≠ ⊤)
    (hmask : ∀ j, n ≤ j → s j = ⊥) (j₀ : ℕ) (hj₀ : j₀ < n) (h₀ : s j₀ ≠ ⊥) (c M' : ℝ) :
    Ideal.div A L = ∑ j ∈ Finset.range N, v j * Ideal.div (Ideal.exp (s j + c - M')) (∑ i ∈ Finset.range N, Ideal.exp (s i + c - M')) := by
  obtain ⟨x, hx⟩ : ∃ x : ℝ, M = x := by
    rcases h.off with ⟨h, _⟩ | h
    · omega
    · exact h
  -- the other side's weights are this side's, scaled
  have hw : ∀ j, Ideal.exp (s j + c - M') = (Real.exp (x + c - M') : EReal) * ex (s j) x := by
    intro j
    have := hs j
    generalize s j = z at this ⊢
    induction z with
    | bot => show Ideal.exp (⊥ + (c : EReal) - M') = _ * ex ⊥ x; rw [ex_bot, mul_zero, EReal.bot_add]; rfl
    | top => exact absurd rfl this
    | coe y =>
      rw [ex_coe, ← EReal.coe_mul, ← Real.exp_add, ← EReal.coe_add, ← EReal.coe_sub, exp_coe]; congr 2; ring
  choose w hw0 hwe using fun j => ex_real (hs j) x
  -- the sums as reals
  have hext : ∀ f : ℕ → EReal, ∑ j ∈ Finset.range N, ex (s j) x * f j = ∑ j ∈ Finset.range n, ex (s j) x * f j := by
    intro f
    refine (Finset.sum_subset (Finset.range_mono hn) fun j _ hj => ?_).symm
    rw [hmask j (by simpa using hj), ex_bot, zero_mul]
  have hsumN : ∀ m : ℕ, ∑ j ∈ Finset.range m, ex (s j) x = ((∑ j ∈ Finset.range m, w j : ℝ) : EReal) := by
    intro m
    induction m with
    | zero => simp
    | succ m ih => rw [Finset.sum_range_succ, Finset.sum_range_succ, ih, hwe, EReal.coe_add]
  set W : ℝ := ∑ j ∈ Finset.range n, w j with hW
  have hWpos : 0 < W := by
    refine Finset.sum_pos' (fun j _ => hw0 j) ⟨j₀, by simpa using hj₀, ?_⟩
    have := hwe j₀
    have h1 := hs j₀
    induction h2 : s j₀ with
    | bot => exact absurd h2 h₀
    | top => exact absurd h2 h1
    | coe y => rw [h2, ex_coe] at this; rw [← EReal.coe_eq_coe_iff.mp this]; exact Real.exp_pos _
  have hL : L = (W : EReal) := by rw [h.sum, hx, hsumN]
  have hNn : ∑ j ∈ Finset.range N, w j = W := by
    have e := hext fun _ => 1
    simp only [mul_one] at e
    rw [hsumN, hsumN] at e
    exact EReal.coe_eq_coe_iff.mp e
  have hC : (0 : ℝ) < Real.exp (x + c - M') := Real.exp_pos _
  have hden : ∑ i ∈ Finset.range N, Ideal.exp (s i + c - M') = ((Real.exp (x + c - M') * W : ℝ) : EReal) := by
    rw [Finset.sum_congr rfl fun i _ => hw i, ← mul_sum _ hC.le, hsumN, hNn, EReal.coe_mul]
  rw [hden, hL, div_pos _ hWpos, mul_comm, h.acc, hx, mul_sum _ (inv_pos.mpr hWpos).le]
  have hterm : ∀ j, v j * Ideal.div (Ideal.exp (s j + c - M')) ((Real.exp (x + c - M') * W : ℝ) : EReal)
      = ex (s j) x * (((W⁻¹ : ℝ) : EReal) * v j) := by
    intro j
    rw [div_pos _ (mul_pos hC hWpos), hw j, hwe j, ← EReal.coe_mul, ← EReal.coe_mul,
      show Real.exp (x + c - M') * w j * (Real.exp (x + c - M') * W)⁻¹ = w j * W⁻¹ by field_simp, EReal.coe_mul, mul_comm, mul_assoc]
  rw [Finset.sum_congr rfl fun j _ => hterm j, hext]
  refine Finset.sum_congr rfl fun j _ => ?_
  rw [← mul_assoc, ← mul_assoc, mul_comm (ex (s j) x)]

end Cert.Softmax

end
-- ==== Proof.FoxState.lean ====
/-
  The forgetting-attention kernel's body as mathematics: at one query row the state before the diagonal block is the
  running triple over every key before the block, and the stored value the triple's quotient over the keys up to the
  block's end, a key after the query masked.
-/
module

public import proofs.«01_k».proof.Proof.FoxRows
public import proofs.«01_k».proof.Proof.Softmax

@[expose] public section

noncomputable section

namespace Cert.KernelIdeal.Fox

open Cert.KernelIdeal Cert.KernelIdeal.Gen Idealize.ShloMosaic Idealize.ShloMosaic.TcCoe Cert.Softmax

/-! ## The offsets, the trips and the condition in closed form -/

theorem trips_eq : ∀ i : grid0.Coords, (k0_t1_loop i).trips = (i 2).val / 2 := by decide +kernel
theorem cond_iff : ∀ i : grid0.Coords, k0_cond1 i = 1#1 ↔ (i 2).val % 2 = 1 := by decide +kernel
theorem off1_eq : ∀ (i : grid0.Coords) (k : Fin (k0_t1_loop i).trips), k0_off1 i k = ![0, 1024 * k.val, 0] := by decide +kernel
theorem off2_eq : ∀ (i : grid0.Coords) (k : Fin (k0_t1_loop i).trips), k0_off2 i k = ![0, (i 1).val, 1024 * k.val] := by decide +kernel
theorem off3_eq : ∀ (i : grid0.Coords) (k : Fin (k0_t1_loop i).trips), k0_off3 i k = ![0, 1024 * k.val + 512, 0] := by decide +kernel
theorem off4_eq : ∀ (i : grid0.Coords) (k : Fin (k0_t1_loop i).trips), k0_off4 i k = ![0, (i 1).val, 1024 * k.val + 512] := by decide +kernel
theorem off9_eq : ∀ i : grid0.Coords, k0_off9 i = ![0, 512 * (i 2).val, 0] := by decide +kernel
theorem off10_eq : ∀ i : grid0.Coords, k0_off10 i = ![0, (i 1).val, 512 * (i 2).val] := by decide +kernel
theorem off11_eq : ∀ i : grid0.Coords, k0_cond1 i = 1#1 → k0_off11 i = ![0, 512 * ((i 2).val - 1), 0] := by decide +kernel
theorem off12_eq : ∀ i : grid0.Coords, k0_cond1 i = 1#1 → k0_off12 i = ![0, (i 1).val, 512 * ((i 2).val - 1)] := by decide +kernel

/-! ## The blocks read -/

/-- A key block at row `o`; -/
theorem ld_rows (x : Vec Ideal S1x8192x128 .bf16) (off : Fin 3 → Nat) (hin : ∀ a, off a + S1x512x128.size a ≤ S1x8192x128.size a)
    (o : Nat) (ho : off = ![0, o, 0]) (k : Fin 512) (d : Fin 128) (hk : o + k.val < 8192) :
    View.ld x (Rect.unit (s := S1x8192x128) off S1x512x128.size hin) (ix3 (0 : Fin 1) k d) = x (ix3 (0 : Fin 1) (⟨o + k.val, hk⟩ : Fin 8192) d) := by
  subst ho
  show x _ = x _
  congr 1; funext a; apply Fin.ext
  match a with
  | ⟨0, _⟩ => rfl
  | ⟨1, _⟩ => show o + 1 * k.val = o + k.val; omega
  | ⟨2, _⟩ => show 0 + 1 * d.val = d.val; omega

/-- its decays, in head `h`'s row. -/
theorem ld_decay (x : Vec Ideal S1x8x8192 .f32) (off : Fin 3 → Nat) (hin : ∀ a, off a + S1x1x512.size a ≤ S1x8x8192.size a)
    (h o : Nat) (ho : off = ![0, h, o]) (hh : h < 8) (k : Fin 512) (hk : o + k.val < 8192) :
    View.ld x (Rect.unit (s := S1x8x8192) off S1x1x512.size hin) (ix3 (0 : Fin 1) (0 : Fin 1) k) = x (ix3 (0 : Fin 1) (⟨h, hh⟩ : Fin 8) (⟨o + k.val, hk⟩ : Fin 8192)) := by
  subst ho
  show x _ = x _
  congr 1; funext a; apply Fin.ext
  match a with
  | ⟨0, _⟩ => rfl
  | ⟨1, _⟩ => show h + 1 * 0 = h; omega
  | ⟨2, _⟩ => show o + 1 * k.val = o + k.val; omega

theorem hz3 : (![0, 0, 0] : Fin 3 → Nat) = fun _ => 0 := funext fun a => by fin_cases a <;> rfl

section Row

variable (i : grid0.Coords) (x0 : Vec Ideal S1x512x128 .bf16) (x1 x2 : Vec Ideal S1x8192x128 .bf16) (x3 : Vec Ideal S1x8x8192 .f32)

theorem h_lt : (i 1).val < 8 := lt_trans (i 1).isLt (by decide)
theorem q_lt : (i 2).val < 16 := (i 2).isLt

/-- The score of query row `r` against the key at position `j`, unmasked; -/
def raw (r : Fin 512) (j : Fin 8192) : EReal :=
  (∑ d : Fin 128, (x0 (ix3 (0 : Fin 1) r d) : EReal) * x1 (ix3 (0 : Fin 1) j d)) - x3 (ix3 (0 : Fin 1) (⟨(i 1).val, h_lt i⟩ : Fin 8) j)

/-- masked after the query's own position. -/
def score (r : Fin 512) (j : ℕ) : EReal :=
  if h : j ≤ 512 * (i 2).val + r.val ∧ j < 8192 then raw i x0 x1 x3 r ⟨j, h.2⟩ else ⊥

/-- The values' column `d`. -/
def val (d : Fin 128) (j : ℕ) : EReal := if h : j < 8192 then x2 (ix3 (0 : Fin 1) ⟨j, h⟩ d) else 0

/-- Every score of the block's rows up to the query is real. -/
def Fin0 (r : Fin 512) : Prop := ∀ j : Fin 8192, ∃ x : ℝ, raw i x0 x1 x3 r j = x

variable {i x0 x1 x3}

theorem score_ne_top {r : Fin 512} (hf : Fin0 i x0 x1 x3 r) (j : ℕ) : score i x0 x1 x3 r j ≠ ⊤ := by
  unfold score
  split
  · obtain ⟨x, hx⟩ := hf ⟨j, by omega⟩
    rw [hx]; exact EReal.coe_ne_top x
  · exact bot_ne_top

theorem score_ne_bot {r : Fin 512} (hf : Fin0 i x0 x1 x3 r) (j : ℕ) (hj : j ≤ 512 * (i 2).val + r.val) (hj' : j < 8192) :
    score i x0 x1 x3 r j ≠ ⊥ := by
  unfold score
  rw [dif_pos ⟨hj, hj'⟩]
  obtain ⟨x, hx⟩ := hf ⟨j, hj'⟩
  rw [hx]; exact EReal.coe_ne_bot x

variable (i x0 x1 x3)

/-- The query block's rows as the body holds them. -/
theorem q_at (r : Fin 512) (d : Fin 128) : k0_pay18 (View.ld x0 r0) (ix2 r d) = x0 (ix3 (0 : Fin 1) r d) := by
  rw [pay18_at, View.ld_unit_zero hz3]

/-- A loaded block's score is the score at its position. -/
theorem sc_ld (offk : Fin 3 → Nat) (hink : ∀ a, offk a + S1x512x128.size a ≤ S1x8192x128.size a)
    (offc : Fin 3 → Nat) (hinc : ∀ a, offc a + S1x1x512.size a ≤ S1x8x8192.size a)
    (o : Nat) (hok : offk = ![0, o, 0]) (hoc : offc = ![0, (i 1).val, o]) (ho : o + 512 ≤ 8192) (r k : Fin 512) :
    sc (k0_pay18 (View.ld x0 r0)) (View.ld x1 (Rect.unit (s := S1x8192x128) offk S1x512x128.size hink))
      (View.ld x3 (Rect.unit (s := S1x8x8192) offc S1x1x512.size hinc)) r k = raw i x0 x1 x3 r ⟨o + k.val, by omega⟩ := by
  unfold sc raw
  rw [ld_decay x3 offc hinc _ o hoc (h_lt i) k (by omega)]
  congr 1
  refine Finset.sum_congr rfl fun d _ => ?_
  rw [q_at, ld_rows x1 offk hink o hok k d (by omega)]

/-- What the state means at row `r` and column `d` after the keys below `n`. -/
def Good (r : Fin 512) (d : Fin 128) (n : ℕ) (s : St Ideal) : Prop :=
  Inv (score i x0 x1 x3 r) (val x2 d) n (s.1 (ix2 r (0 : Fin 1))) (s.2.1 (ix2 r (0 : Fin 1))) (s.2.2 (ix2 r d))

/-- An unmasked block keeps it. -/
theorem good_upd {r : Fin 512} {d : Fin 128} (hf : Fin0 i x0 x1 x3 r) {o : Nat} {s : St Ideal} (hg : Good i x0 x1 x2 x3 r d o s)
    (offk : Fin 3 → Nat) (hink : ∀ a, offk a + S1x512x128.size a ≤ S1x8192x128.size a)
    (offc : Fin 3 → Nat) (hinc : ∀ a, offc a + S1x1x512.size a ≤ S1x8x8192.size a)
    (hok : offk = ![0, o, 0]) (hoc : offc = ![0, (i 1).val, o]) (ho : o + 512 ≤ 512 * (i 2).val) :
    Good i x0 x1 x2 x3 r d (o + 512) (upd (k0_pay18 (View.ld x0 r0)) (View.ld x1 (Rect.unit (s := S1x8192x128) offk S1x512x128.size hink))
      (View.ld x2 (Rect.unit (s := S1x8192x128) offk S1x512x128.size hink)) (View.ld x3 (Rect.unit (s := S1x8x8192) offc S1x1x512.size hinc)) s) := by
  have hq := q_lt i
  unfold Good upd
  dsimp only
  rw [pay36_at, pay39_at, pay40_at]
  refine hg.step (score_ne_top hf) _ (fun k : Fin 512 => View.ld x2 (Rect.unit (s := S1x8192x128) offk S1x512x128.size hink) (ix3 (0 : Fin 1) k d)) (fun k => ?_) (fun k => ?_) 0 (score_ne_bot hf _ ?_ ?_)
  · rw [sc_ld i x0 x1 x3 offk hink offc hinc o hok hoc (by omega)]
    unfold score
    rw [dif_pos ⟨by omega, by omega⟩]
  · unfold val
    rw [dif_pos (by omega)]
    exact ld_rows x2 offk hink o hok k d (by omega)
  · show o + 0 ≤ _; omega
  · show o + 0 < _; omega

/-- After `k` trips the keys below `1024 k` are in. -/
theorem good_stp {r : Fin 512} {d : Fin 128} (hf : Fin0 i x0 x1 x3 r) :
    ∀ k ≤ (k0_t1_loop i).trips, Good i x0 x1 x2 x3 r d (1024 * k) (stp i x0 x1 x2 x3 k)
  | 0, _ => by
    unfold Good
    show Inv _ _ _ (k0_pay19 (F := Ideal) (ix2 r (0 : Fin 1))) (k0_pay20 (F := Ideal) (ix2 r (0 : Fin 1))) (k0_pay21 (F := Ideal) (ix2 r d))
    rw [pay19_at, pay20_at, pay21_at]
    exact Inv.init _ _
  | k + 1, h => by
    have hk : k < (k0_t1_loop i).trips := h
    have ht := trips_eq i
    rw [stp.eq_2, dif_pos hk]
    have h1 := good_upd i x0 x1 x2 x3 (d := d) hf (good_stp hf k (Nat.le_of_lt hk)) _ (k0_off1_inb i ⟨k, hk⟩) _ (k0_off2_inb i ⟨k, hk⟩)
      (off1_eq i ⟨k, hk⟩) (off2_eq i ⟨k, hk⟩) (by omega)
    exact good_upd i x0 x1 x2 x3 hf h1 _ (k0_off3_inb i ⟨k, hk⟩) _ (k0_off4_inb i ⟨k, hk⟩)
      (off3_eq i ⟨k, hk⟩) (off4_eq i ⟨k, hk⟩) (by omega)

/-- Before the diagonal block every earlier key is in. -/
theorem good_pre {r : Fin 512} {d : Fin 128} (hf : Fin0 i x0 x1 x3 r) :
    Good i x0 x1 x2 x3 r d (512 * (i 2).val) (pre i x0 x1 x2 x3) := by
  have hg := good_stp i x0 x1 x2 x3 (d := d) hf _ (le_refl _)
  have ht := trips_eq i
  unfold pre
  by_cases h : k0_cond1 i = 1#1
  · have hc := (cond_iff i).mp h
    rw [dif_pos h]
    rw [show 1024 * (k0_t1_loop i).trips = 512 * ((i 2).val - 1) by omega] at hg
    rw [show 512 * (i 2).val = 512 * ((i 2).val - 1) + 512 by omega]
    exact good_upd i x0 x1 x2 x3 hf hg _ (k0_off11_inb i h) _ (k0_off12_inb i h) (off11_eq i h) (off12_eq i h) (by omega)
  · have hc : ¬ (i 2).val % 2 = 1 := fun e => h ((cond_iff i).mpr e)
    rw [dif_neg h]
    rwa [show 1024 * (k0_t1_loop i).trips = 512 * (i 2).val by omega] at hg

/-- The stored value: the quotient of the sums over every key up to the block's end. -/
theorem outv_at {r : Fin 512} {d : Fin 128} (hf : Fin0 i x0 x1 x3 r) :
    ∃ M L A : EReal, Inv (score i x0 x1 x3 r) (val x2 d) (512 * (i 2).val + 512) M L A
      ∧ outv i x0 x1 x2 x3 (ix3 (0 : Fin 1) r d) = Ideal.div A L := by
  have hq := q_lt i
  have hg := good_pre i x0 x1 x2 x3 (d := d) hf
  unfold Good at hg
  unfold outv
  rw [pay1_at, pay44_at, pay45_at]
  refine ⟨_, _, _, hg.step (score_ne_top hf) (scm (k0_pay18 (View.ld x0 r0)) (View.ld x1 (r9 i)) (View.ld x3 (r10 i)) r)
    (fun k : Fin 512 => View.ld x2 (r9 i) (ix3 (0 : Fin 1) k d)) (fun k => ?_) (fun k => ?_) 0 (score_ne_bot hf _ ?_ ?_), rfl⟩
  · unfold scm
    rw [sc_ld i x0 x1 x3 _ (k0_off9_inb i) _ (k0_off10_inb i) _ (off9_eq i) (off10_eq i) (by omega)]
    unfold score
    by_cases h : k.val ≤ r.val
    · rw [if_pos h, dif_pos ⟨by omega, by omega⟩]
    · rw [if_neg h, dif_neg (by omega)]
  · unfold val
    rw [dif_pos (by omega)]
    exact ld_rows x2 _ (k0_off9_inb i) _ (off9_eq i) k d (by omega)
  · show 512 * (i 2).val + 0 ≤ _; omega
  · show 512 * (i 2).val + 0 < _; omega

end Row

end Cert.KernelIdeal.Fox

end
-- ==== Proof.FoxRef.lean ====
/-
  The forgetting-attention reference at an index: the masked scores, their exponentials against a row maximum that is
  real, and the mean of the values by the normalised exponentials.
-/
module

public import proofs.«01_k».proof.Proof.Gen.ReferenceIdeal.Run
public import Idealize.ShloMosaic.Lib.Pointwise

@[expose] public section

noncomputable section

namespace Cert.ReferenceIdeal.Val

open Cert.ReferenceIdeal Cert.ReferenceIdeal.Gen Idealize.ShloMosaic Idealize.ShloMosaic.TcCoe Idealize.SL.Sem

/-- The masked scores of all heads; -/
def scoresV (a0 a1 : FVec Ideal S4x8192x512 .bf16) (a3 : FVec Ideal S4x8x8192 .f32) : FVec Ideal S4x4x8192x8192 .f32 :=
  select (broadcastInDim S4x4x8192x8192 ![2, 3] bcast_S8192x8192_S4x4x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (addf (Host.dotGeneral dot_S4x8192x4x128_S4x8192x4x128_S4x4x8192x8192_3_3_1_1_02_02 none (shapeCast _ (extf .f32 a0 bitsLt_bf16_f32) shapeCasts_S4x8192x512_S4x8192x4x128) (shapeCast _ (extf .f32 a1 bitsLt_bf16_f32) shapeCasts_S4x8192x512_S4x8192x4x128)) (subf (broadcastInDim S4x4x8192x8192 ![0, 1, 2, 3] bcast_S4x4x8192x1_S4x4x8192x8192_0_1_2_3 (broadcastInDim S4x4x8192x1 ![0, 1, 2] bcast_S4x4x8192_S4x4x8192x1_0_1_2 (extractStridedSlice S4x4x8192 ![0, 0, 0] a3 slices_S4x8x8192_S4x4x8192_0_0_0))) (broadcastInDim S4x4x8192x8192 ![0, 1, 2, 3] bcast_S4x4x1x8192_S4x4x8192x8192_0_1_2_3 (broadcastInDim S4x4x1x8192 ![0, 1, 3] bcast_S4x4x8192_S4x4x1x8192_0_1_3 (extractStridedSlice S4x4x8192 ![0, 0, 0] a3 slices_S4x8x8192_S4x4x8192_0_0_0))))) (broadcastInDim S4x4x8192x8192 ![] bcast_S_S4x4x8192x8192 (id (constant S_ .f32 0xFF800000#32)))

/-- their rows' maxima; -/
def rmaxV (s : FVec Ideal S4x4x8192x8192 .f32) : FVec Ideal S4x4x8192 .f32 :=
  Host.reduce FloatOps.maximumf s (constant S_ .f32 0xFF800000#32) reducesTo_S4x4x8192x8192_S4x4x8192_d3 h_S_

/-- their exponentials against each row's maximum; -/
def expsV (s : FVec Ideal S4x4x8192x8192 .f32) (M : FVec Ideal S4x4x8192 .f32) : FVec Ideal S4x4x8192x8192 .f32 :=
  Host.exp (subf s (broadcastInDim S4x4x8192x8192 ![0, 1, 2, 3] bcast_S4x4x8192x1_S4x4x8192x8192_0_1_2_3 (broadcastInDim S4x4x8192x1 ![0, 1, 2] bcast_S4x4x8192_S4x4x8192x1_0_1_2 (maximumf (broadcastInDim S4x4x8192 ![] bcast_S_S4x4x8192 (constant S_ .f32 0xFF800000#32)) M))))

/-- normalised, and the values averaged by them. -/
def meanV (e : FVec Ideal S4x4x8192x8192 .f32) (a2 : FVec Ideal S4x8192x512 .bf16) : FVec Ideal S4x8192x512 .bf16 :=
  truncf .bf16 (shapeCast _ (transpose S4x8192x4x128 [0, 3, 1, 2] (Host.dotGeneral dot_S4x8192x4x128_S4x4x8192x8192_S4x4x128x8192_1_3_3_2_02_01 none (shapeCast _ (extf .f32 a2 bitsLt_bf16_f32) shapeCasts_S4x8192x512_S4x8192x4x128) (Host.divf e (broadcastInDim S4x4x8192x8192 ![0, 1, 2, 3] bcast_S4x4x8192x1_S4x4x8192x8192_0_1_2_3 (broadcastInDim S4x4x8192x1 ![0, 1, 2] bcast_S4x4x8192_S4x4x8192x1_0_1_2 (Host.reduceAdd e (constant S_ .f32 0x00000000#32) reducesTo_S4x4x8192x8192_S4x4x8192_d3 h_S_))))) transposes_S4x4x128x8192_S4x8192x4x128_0_3_1_2) shapeCasts_S4x8192x4x128_S4x8192x512) bitsLt_bf16_f32

set_option maxRecDepth 16384 in
/-- The reference's result is those three steps. -/
theorem res_eq (m : (ℓ : Loc nD τ sig) → Buf (Elt Ideal) ℓ) (c : Dev nD) :
    Value.res_main_v35 m c = meanV (expsV (scoresV (m ((c.tc : Thread nD τ).loc main_arg0)) (m ((c.tc : Thread nD τ).loc main_arg1)) (m ((c.tc : Thread nD τ).loc main_arg3))) (rmaxV (scoresV (m ((c.tc : Thread nD τ).loc main_arg0)) (m ((c.tc : Thread nD τ).loc main_arg1)) (m ((c.tc : Thread nD τ).loc main_arg3))))) (m ((c.tc : Thread nD τ).loc main_arg2)) := rfl

/-- The word the maxima begin with is bottom. -/
theorem ofBits_neg_inf : Ideal.ofBits .f32 4286578688#32 = ⊥ := by simp [Ideal.ofBits, Ideal.ieee]

/-- The mask's word compare is the order of the positions. -/
theorem sle_iff (j t : Fin 8192) : (BitVec.ofNat 32 j.val).sle (BitVec.ofNat 32 t.val) = decide (j.val ≤ t.val) := by
  have ht := t.isLt
  have hj := j.isLt
  rw [BitVec.sle, BitVec.toInt_eq_toNat_of_lt (by simp; omega), BitVec.toInt_eq_toNat_of_lt (by simp; omega)]
  simp
  omega

/-- Column `d` of head `h`. -/
def hd (h : Fin 4) (d : Fin 128) : Fin 512 := ⟨h.val * 128 + d.val, by omega⟩
/-- Head `h`'s row of the cumulative decays. -/
def hr (h : Fin 4) : Fin 8 := ⟨h.val, by omega⟩

set_option maxRecDepth 16384 in
/-- The score of query `t` and key `j`: their dot product and the decay between them, a later key masked. -/
theorem scores_at (a0 a1 : FVec Ideal S4x8192x512 .bf16) (a3 : FVec Ideal S4x8x8192 .f32) (b h : Fin 4) (t j : Fin 8192) :
    scoresV a0 a1 a3 (ix4 b h t j) = if j.val ≤ t.val then
      ∑ d : Fin 128, a0 (ix3 b t (hd h d)) * a1 (ix3 b j (hd h d)) + (a3 (ix3 b (hr h) t) - a3 (ix3 b (hr h) j)) else (⊥ : EReal) := by
  pointwise [scoresV]
  unfold Scalar.select IntOp.cmpi
  simp only [sle_iff]
  by_cases h' : j.val ≤ t.val
  · rw [if_pos (by simp [h']), if_pos h']; rfl
  · rw [if_neg (by simp [h']), if_neg h']; exact ofBits_neg_inf

set_option maxRecDepth 16384 in
/-- The exponential of a score against its row's maximum. -/
theorem exps_at (s : FVec Ideal S4x4x8192x8192 .f32) (M : FVec Ideal S4x4x8192 .f32) (b h : Fin 4) (t j : Fin 8192) :
    expsV s M (ix4 b h t j) = Ideal.exp (s (ix4 b h t j) - max (⊥ : EReal) (M (ix3 b h t))) := by
  pointwise [expsV]
  simp only [ofBits_neg_inf]

set_option maxRecDepth 16384 in
/-- The mean of the values by the normalised weights. -/
theorem mean_at (s : FVec Ideal S4x4x8192x8192 .f32) (a2 : FVec Ideal S4x8192x512 .bf16) (b h : Fin 4) (t : Fin 8192) (d : Fin 128) :
    meanV s a2 (ix3 b t (hd h d)) = ∑ j : Fin 8192, a2 (ix3 b j (hd h d)) * Ideal.div (s (ix4 b h t j)) (∑ i : Fin 8192, s (ix4 b h t i)) := by
  unfold hd
  pointwise [meanV]

/-- A row's maximum is real when no score is top and one is not bottom. -/
theorem rmax_real (s : FVec Ideal S4x4x8192x8192 .f32) (hs : ∀ i, s i ≠ (⊤ : EReal)) (b h : Fin 4) (t j₀ : Fin 8192)
    (h₀ : s (ix4 b h t j₀) ≠ (⊥ : EReal)) : ∃ x : ℝ, max (⊥ : EReal) (rmaxV s (ix3 b h t)) = x := by
  have e : rmaxV s (ix3 b h t) = (Finset.univ.filter fun i => reducesTo_S4x4x8192x8192_S4x4x8192_d3.drop i = ix3 b h t).fold max (⊥ : EReal) s := by
    unfold rmaxV
    rw [Host.reduce_eq_fold]
    exact congrArg (fun z => Finset.fold max z s _) ofBits_neg_inf
  have hm : ix4 b h t j₀ ∈ Finset.univ.filter fun i => reducesTo_S4x4x8192x8192_S4x4x8192_d3.drop i = ix3 b h t := by
    refine Finset.mem_filter.mpr ⟨Finset.mem_univ _, funext fun a => Fin.ext ?_⟩
    match a with
    | ⟨0, _⟩ => exact reducesTo_S4x4x8192x8192_S4x4x8192_d3.drop_apply_val_of_eq (ix4 b h t j₀) 0 0
    | ⟨1, _⟩ => exact reducesTo_S4x4x8192x8192_S4x4x8192_d3.drop_apply_val_of_eq (ix4 b h t j₀) 1 1
    | ⟨2, _⟩ => exact reducesTo_S4x4x8192x8192_S4x4x8192_d3.drop_apply_val_of_eq (ix4 b h t j₀) 2 2
  have h1 : rmaxV s (ix3 b h t) ≠ (⊤ : EReal) := by
    rw [e]
    exact ((Finset.fold_max_lt _).mpr ⟨bot_lt_top, fun i _ => lt_top_iff_ne_top.mpr (hs i)⟩).ne
  have h2 : rmaxV s (ix3 b h t) ≠ (⊥ : EReal) := by
    rw [e]
    exact (lt_of_lt_of_le (bot_lt_iff_ne_bot.mpr h₀) ((Finset.le_fold_max _).mpr (.inr ⟨_, hm, le_refl _⟩))).ne'
  rw [max_eq_right bot_le]
  exact ⟨_, (EReal.coe_toReal h1 h2).symm⟩

end Cert.ReferenceIdeal.Val

end
-- ==== Proof.FoxValue.lean ====
/-
  The forgetting attention's value: each block the kernel writes back is that block of the reference's result, a softmax
  over the earlier keys with the decay between the two positions added to each score, for queries, keys and decays that
  are real.
-/
module

public import proofs.«01_k».proof.Defs
public import proofs.«01_k».proof.Proof.FoxState
public import proofs.«01_k».proof.Proof.FoxRef
public import proofs.«01_k».proof.Proof.Gen.Pre_finite
public import Idealize.ShloMosaic.Lib.ReduceAll

@[expose] public section

noncomputable section

namespace Cert.KernelIdeal.Fox

open Cert.KernelIdeal Cert.KernelIdeal.Gen Idealize.ShloMosaic Idealize.ShloMosaic.TcCoe Idealize.SL.Sem Cert.Softmax
open Idealize.ShloMosaic.Pipeline (Dat)
open Cert.ReferenceIdeal.Val (hd hr scoresV expsV rmaxV meanV)

variable (m : (ℓ : Loc nD τ sig) → Buf (Elt Ideal) ℓ) (ρ : Dev nD → PrngReg)

/-! ## The blocks in the arrays -/

/-- The grid: sequence, head, query block. -/
theorem coords_eq : ∀ t : Fin cfg0.N, (grid0.coords t 0).val = t.val / 64 ∧ (grid0.coords t 1).val = t.val / 16 % 4 ∧ (grid0.coords t 2).val = t.val % 16 :=
  (by decide +kernel : ∀ t : Fin grid0.N, (grid0.coords t 0).val = t.val / 64 ∧ (grid0.coords t 1).val = t.val / 16 % 4 ∧ (grid0.coords t 2).val = t.val % 16)
theorem idx0 : ∀ t : Fin cfg0.N, win0_0.index t 0 = t.val / 64 ∧ win0_0.index t 1 = t.val % 16 ∧ win0_0.index t 2 = t.val / 16 % 4 :=
  (by decide +kernel : ∀ t : Fin grid0.N, win0_0.index t 0 = t.val / 64 ∧ win0_0.index t 1 = t.val % 16 ∧ win0_0.index t 2 = t.val / 16 % 4)
theorem idx1 : ∀ t : Fin cfg0.N, win0_1.index t 0 = t.val / 64 ∧ win0_1.index t 1 = 0 ∧ win0_1.index t 2 = t.val / 16 % 4 :=
  (by decide +kernel : ∀ t : Fin grid0.N, win0_1.index t 0 = t.val / 64 ∧ win0_1.index t 1 = 0 ∧ win0_1.index t 2 = t.val / 16 % 4)
theorem idx2 : ∀ t : Fin cfg0.N, win0_2.index t 0 = t.val / 64 ∧ win0_2.index t 1 = 0 ∧ win0_2.index t 2 = t.val / 16 % 4 :=
  (by decide +kernel : ∀ t : Fin grid0.N, win0_2.index t 0 = t.val / 64 ∧ win0_2.index t 1 = 0 ∧ win0_2.index t 2 = t.val / 16 % 4)
theorem idx3 : ∀ t : Fin cfg0.N, win0_3.index t 0 = t.val / 64 ∧ win0_3.index t 1 = 0 ∧ win0_3.index t 2 = 0 :=
  (by decide +kernel : ∀ t : Fin grid0.N, win0_3.index t 0 = t.val / 64 ∧ win0_3.index t 1 = 0 ∧ win0_3.index t 2 = 0)
theorem idx4 : ∀ t : Fin cfg0.N, win0_4.index t 0 = t.val / 64 ∧ win0_4.index t 1 = t.val % 16 ∧ win0_4.index t 2 = t.val / 16 % 4 :=
  (by decide +kernel : ∀ t : Fin grid0.N, win0_4.index t 0 = t.val / 64 ∧ win0_4.index t 1 = t.val % 16 ∧ win0_4.index t 2 = t.val / 16 % 4)

theorem lt_N (t : Fin cfg0.N) : t.val < 256 := N_0 ▸ t.isLt

/-- Point `t`'s sequence, head and query positions. -/
def sq (t : Fin cfg0.N) : Fin 4 := ⟨t.val / 64, by have := lt_N t; omega⟩
def hh (t : Fin cfg0.N) : Fin 4 := ⟨t.val / 16 % 4, by omega⟩
def pos (t : Fin cfg0.N) (r : Fin 512) : Fin 8192 := ⟨t.val % 16 * 512 + r.val, by omega⟩

/-- The arguments as arrays of extended reals. -/
abbrev A0 (c : Dev nD) : S4x8192x512.Idx → EReal := m ((c : Thread nD τ).loc main_arg0)
abbrev A1 (c : Dev nD) : S4x8192x512.Idx → EReal := m ((c : Thread nD τ).loc main_arg1)
abbrev A2 (c : Dev nD) : S4x8192x512.Idx → EReal := m ((c : Thread nD τ).loc main_arg2)
abbrev A3 (c : Dev nD) : S4x8x8192.Idx → EReal := m ((c : Thread nD τ).loc main_arg3)

theorem blk0 (c : Dev nD) (t : Fin cfg0.N) (r : Fin 512) (d : Fin 128) :
    iblk m c 0 t (ix3 (0 : Fin 1) r d) = A0 m c (ix3 (sq t) (pos t r) (hd (hh t) d)) := by
  refine Eq.trans ?_ (congrFun (V_main_arg0 m c) _)
  show V m c main_arg0 (((cfg0.win 0).blk t).view.emb (ix3 (0 : Fin 1) r d)) = _
  congr 1; funext a; apply Fin.ext
  match a with
  | ⟨0, _⟩ => show win0_0.index t 0 * 1 + 1 * 0 = t.val / 64; rw [(idx0 t).1]; omega
  | ⟨1, _⟩ => show win0_0.index t 1 * 512 + 1 * r.val = t.val % 16 * 512 + r.val; rw [(idx0 t).2.1]; omega
  | ⟨2, _⟩ => show win0_0.index t 2 * 128 + 1 * d.val = t.val / 16 % 4 * 128 + d.val; rw [(idx0 t).2.2]; omega
theorem blk1 (c : Dev nD) (t : Fin cfg0.N) (j : Fin 8192) (d : Fin 128) :
    iblk m c 1 t (ix3 (0 : Fin 1) j d) = A1 m c (ix3 (sq t) j (hd (hh t) d)) := by
  refine Eq.trans ?_ (congrFun (V_main_arg1 m c) _)
  show V m c main_arg1 (((cfg0.win 1).blk t).view.emb (ix3 (0 : Fin 1) j d)) = _
  congr 1; funext a; apply Fin.ext
  match a with
  | ⟨0, _⟩ => show win0_1.index t 0 * 1 + 1 * 0 = t.val / 64; rw [(idx1 t).1]; omega
  | ⟨1, _⟩ => show win0_1.index t 1 * 8192 + 1 * j.val = j.val; rw [(idx1 t).2.1]; omega
  | ⟨2, _⟩ => show win0_1.index t 2 * 128 + 1 * d.val = t.val / 16 % 4 * 128 + d.val; rw [(idx1 t).2.2]; omega
theorem blk2 (c : Dev nD) (t : Fin cfg0.N) (j : Fin 8192) (d : Fin 128) :
    iblk m c 2 t (ix3 (0 : Fin 1) j d) = A2 m c (ix3 (sq t) j (hd (hh t) d)) := by
  refine Eq.trans ?_ (congrFun (V_main_arg2 m c) _)
  show V m c main_arg2 (((cfg0.win 2).blk t).view.emb (ix3 (0 : Fin 1) j d)) = _
  congr 1; funext a; apply Fin.ext
  match a with
  | ⟨0, _⟩ => show win0_2.index t 0 * 1 + 1 * 0 = t.val / 64; rw [(idx2 t).1]; omega
  | ⟨1, _⟩ => show win0_2.index t 1 * 8192 + 1 * j.val = j.val; rw [(idx2 t).2.1]; omega
  | ⟨2, _⟩ => show win0_2.index t 2 * 128 + 1 * d.val = t.val / 16 % 4 * 128 + d.val; rw [(idx2 t).2.2]; omega
theorem blk3 (c : Dev nD) (t : Fin cfg0.N) (h : Fin 8) (j : Fin 8192) :
    iblk m c 3 t (ix3 (0 : Fin 1) h j) = A3 m c (ix3 (sq t) h j) := by
  refine Eq.trans ?_ (congrFun (V_main_arg3 m c) _)
  show V m c main_arg3 (((cfg0.win 3).blk t).view.emb (ix3 (0 : Fin 1) h j)) = _
  congr 1; funext a; apply Fin.ext
  match a with
  | ⟨0, _⟩ => show win0_3.index t 0 * 1 + 1 * 0 = t.val / 64; rw [(idx3 t).1]; omega
  | ⟨1, _⟩ => show win0_3.index t 1 * 8 + 1 * h.val = h.val; rw [(idx3 t).2.1]; omega
  | ⟨2, _⟩ => show win0_3.index t 2 * 8192 + 1 * j.val = j.val; rw [(idx3 t).2.2]; omega
theorem emb4 (t : Fin cfg0.N) (r : Fin 512) (d : Fin 128) :
    ((cfg0.win 4).blk t).view.emb (ix3 (0 : Fin 1) r d) = (ix3 (sq t) (pos t r) (hd (hh t) d) : S4x8192x512.Idx) := by
  funext a; apply Fin.ext
  match a with
  | ⟨0, _⟩ => show win0_4.index t 0 * 1 + 1 * 0 = t.val / 64; rw [(idx4 t).1]; omega
  | ⟨1, _⟩ => show win0_4.index t 1 * 512 + 1 * r.val = t.val % 16 * 512 + r.val; rw [(idx4 t).2.1]; omega
  | ⟨2, _⟩ => show win0_4.index t 2 * 128 + 1 * d.val = t.val / 16 % 4 * 128 + d.val; rw [(idx4 t).2.2]; omega

/-! ## The reference's result at a row, and the kernel's -/

/-- Every element is real. -/
def Real3 {s : Shape} (a : s.Idx → EReal) : Prop := ∀ i, ∃ x : ℝ, a i = x

/-- A sum of reals is real. -/
theorem sum_real {n : ℕ} (f : Fin n → EReal) (h : ∀ k, ∃ x : ℝ, f k = x) : ∃ x : ℝ, ∑ k, f k = x := by
  choose g hg using h
  refine ⟨∑ k, g k, ?_⟩
  rw [Finset.sum_congr rfl fun k _ => hg k]
  exact (map_sum (⟨⟨Real.toEReal, EReal.coe_zero⟩, EReal.coe_add⟩ : ℝ →+ EReal) g _).symm

/-- The reference's result, as a function of the four arrays. -/
def R (a0 a1 a2 : S4x8192x512.Idx → EReal) (a3 : S4x8x8192.Idx → EReal) : S4x8192x512.Idx → EReal :=
  meanV (expsV (scoresV a0 a1 a3) (rmaxV (scoresV a0 a1 a3))) a2

/-- The unmasked score of the block's row is real when the arrays are. -/
theorem raw_eq (c : Dev nD) (t : Fin cfg0.N) (r : Fin 512) (j : Fin 8192) :
    raw (grid0.coords t) (iblk m c 0 t) (iblk m c 1 t) (iblk m c 3 t) r j
      = (∑ d : Fin 128, A0 m c (ix3 (sq t) (pos t r) (hd (hh t) d)) * A1 m c (ix3 (sq t) j (hd (hh t) d))) - A3 m c (ix3 (sq t) (hr (hh t)) j) := by
  unfold raw
  have e : (⟨(grid0.coords t 1).val, h_lt (grid0.coords t)⟩ : Fin 8) = hr (hh t) := Fin.ext (coords_eq t).2.1
  rw [e, blk3]
  congr 1
  exact Finset.sum_congr rfl fun d _ => congrArg₂ (· * ·) (blk0 m c t r d) (blk1 m c t j d)

theorem fin0 (c : Dev nD) (h0 : Real3 (A0 m c)) (h1 : Real3 (A1 m c)) (h3 : Real3 (A3 m c)) (t : Fin cfg0.N) (r : Fin 512) :
    Fin0 (grid0.coords t) (iblk m c 0 t) (iblk m c 1 t) (iblk m c 3 t) r := fun j => by
  rw [raw_eq]
  obtain ⟨x, hx⟩ := sum_real (fun d : Fin 128 => A0 m c (ix3 (sq t) (pos t r) (hd (hh t) d)) * A1 m c (ix3 (sq t) j (hd (hh t) d))) fun d => by
    obtain ⟨x, hx⟩ := h0 (ix3 (sq t) (pos t r) (hd (hh t) d))
    obtain ⟨y, hy⟩ := h1 (ix3 (sq t) j (hd (hh t) d))
    exact ⟨x * y, by rw [hx, hy, EReal.coe_mul]⟩
  obtain ⟨y, hy⟩ := h3 (ix3 (sq t) (hr (hh t)) j)
  exact ⟨x - y, by rw [hx, hy, EReal.coe_sub]⟩

/-- The reference's score is the kernel's plus the query's own cumulative decay. -/
theorem scores_eq (c : Dev nD) (t : Fin cfg0.N) (r : Fin 512) (j : Fin 8192) :
    (scoresV (A0 m c) (A1 m c) (A3 m c) (ix4 (sq t) (hh t) (pos t r) j) : EReal)
      = score (grid0.coords t) (iblk m c 0 t) (iblk m c 1 t) (iblk m c 3 t) r j.val + A3 m c (ix3 (sq t) (hr (hh t)) (pos t r)) := by
  rw [Cert.ReferenceIdeal.Val.scores_at]
  have hq := (coords_eq t).2.2
  have hp : (pos t r).val = 512 * (grid0.coords t 2).val + r.val := by
    show t.val % 16 * 512 + r.val = _; omega
  unfold score
  by_cases h : j.val ≤ (pos t r).val
  · rw [if_pos h, dif_pos ⟨by omega, j.isLt⟩, raw_eq, sub_eq_add_neg, sub_eq_add_neg, add_assoc]
    exact congrArg _ (add_comm _ _)
  · rw [if_neg h, dif_neg (by omega), EReal.bot_add]

set_option maxRecDepth 16384 in
/-- The stored value is the reference's result there. -/
theorem outv_eq (c : Dev nD) (h0 : Real3 (A0 m c)) (h1 : Real3 (A1 m c)) (h3 : Real3 (A3 m c)) (t : Fin cfg0.N) (r : Fin 512) (d : Fin 128) :
    outv (grid0.coords t) (iblk m c 0 t) (iblk m c 1 t) (iblk m c 2 t) (iblk m c 3 t) (ix3 (0 : Fin 1) r d)
      = R (A0 m c) (A1 m c) (A2 m c) (A3 m c) (ix3 (sq t) (pos t r) (hd (hh t) d)) := by
  have hf := fin0 m c h0 h1 h3 t r
  have hq : (grid0.coords t 2).val < 16 := (grid0.coords t 2).isLt
  obtain ⟨M, L, A, hI, e⟩ := outv_at (grid0.coords t) (iblk m c 0 t) (iblk m c 1 t) (iblk m c 2 t) (iblk m c 3 t) (d := d) hf
  obtain ⟨ct, hct⟩ := h3 (ix3 (sq t) (hr (hh t)) (pos t r))
  have htop : ∀ i, scoresV (A0 m c) (A1 m c) (A3 m c) i ≠ (⊤ : EReal) := by
    intro i
    obtain ⟨b, h, p, j, rfl⟩ : ∃ (b h : Fin 4) (p j : Fin 8192), i = ix4 b h p j := ⟨i 0, i 1, i 2, i 3, eq_ix4 i⟩
    rw [Cert.ReferenceIdeal.Val.scores_at]
    split
    · obtain ⟨x, hx⟩ := sum_real (fun d : Fin 128 => A0 m c (ix3 b p (hd h d)) * A1 m c (ix3 b j (hd h d))) fun d => by
        obtain ⟨x, hx⟩ := h0 (ix3 b p (hd h d))
        obtain ⟨y, hy⟩ := h1 (ix3 b j (hd h d))
        exact ⟨x * y, by rw [hx, hy, EReal.coe_mul]⟩
      obtain ⟨y, hy⟩ := h3 (ix3 b (hr h) p)
      obtain ⟨z, hz⟩ := h3 (ix3 b (hr h) j)
      rw [hx, hy, hz, ← EReal.coe_sub, ← EReal.coe_add]
      exact EReal.coe_ne_top _
    · exact bot_ne_top
  obtain ⟨M', hM'⟩ := Cert.ReferenceIdeal.Val.rmax_real (scoresV (A0 m c) (A1 m c) (A3 m c)) htop (sq t) (hh t) (pos t r) 0 (by
    rw [scores_eq]
    have hs : score (grid0.coords t) (iblk m c 0 t) (iblk m c 1 t) (iblk m c 3 t) r (0 : Fin 8192).val ≠ ⊥ := score_ne_bot hf 0 (Nat.zero_le _) (by omega)
    have hs' := score_ne_top hf 0
    rw [hct]
    intro hb
    rcases EReal.add_eq_bot_iff.mp hb with h | h
    · exact hs h
    · exact EReal.coe_ne_bot _ h)
  rw [e, quotient (N := 8192) (by omega) hI (score_ne_top hf) (fun j hj => dif_neg (by omega)) 0 (by omega) (score_ne_bot hf 0 (Nat.zero_le _) (by omega)) ct M']
  unfold R
  rw [Cert.ReferenceIdeal.Val.mean_at]
  have hex : ∀ j : Fin 8192, (expsV (scoresV (A0 m c) (A1 m c) (A3 m c)) (rmaxV (scoresV (A0 m c) (A1 m c) (A3 m c))) (ix4 (sq t) (hh t) (pos t r) j) : EReal)
      = Ideal.exp (score (grid0.coords t) (iblk m c 0 t) (iblk m c 1 t) (iblk m c 3 t) r j.val + ct - M') := by
    intro j
    rw [Cert.ReferenceIdeal.Val.exps_at, scores_eq, hM', hct]
  rw [Finset.sum_congr rfl fun i _ => hex i, Finset.sum_range, Finset.sum_range]
  refine Finset.sum_congr rfl fun j _ => ?_
  have hv : val (iblk m c 2 t) d j.val = A2 m c (ix3 (sq t) j (hd (hh t) d)) := by
    unfold val
    rw [dif_pos j.isLt]
    exact blk2 m c t j d
  rw [hex, hv]

/-- What each point writes back is its block of the result. -/
theorem flushed_eq (c : Dev nD) (h0 : Real3 (A0 m c)) (h1 : Real3 (A1 m c)) (h3 : Real3 (A3 m c)) (t : Fin cfg0.N) :
    (dats m 0 c).flushed 4 t = ((cfg0.win 4).blk t).view.read (Elt Ideal) (R (A0 m c) (A1 m c) (A2 m c) (A3 m c)) := by
  show (cfg0.win 4).cut (grid0.coords t) ((dats m 0 c).after 4 t) = _
  rw [after0_4]
  unfold out0_4
  rw [View.canon_unit_zero hz3]
  funext y
  obtain ⟨z, r, d, rfl⟩ : ∃ (z : Fin 1) (r : Fin 512) (d : Fin 128), y = ix3 z r d := ⟨y 0, y 1, y 2, eq_ix3 y⟩
  obtain rfl : z = 0 := Subsingleton.elim _ _
  show outv (grid0.coords t) (iblk m c 0 t) (iblk m c 1 t) (iblk m c 2 t) (iblk m c 3 t) (ix3 (0 : Fin 1) r d)
    = R (A0 m c) (A1 m c) (A2 m c) (A3 m c) (((cfg0.win 4).blk t).view.emb (ix3 (0 : Fin 1) r d))
  rw [emb4]
  exact outv_eq m c h0 h1 h3 t r d

/-- The blocks cover the result. -/
theorem cover (i : S4x8192x512.Idx) :
    ∃ t : Fin cfg0.N, (cfg0.win 4).flush t = true ∧ i ∈ ((cfg0.win 4).blk t).view.set := by
  have h0 : (i 0 : Nat) < 4 := (i 0).isLt
  have h1 : (i 1 : Nat) < 8192 := (i 1).isLt
  have h2 : (i 2 : Nat) < 512 := (i 2).isLt
  have ht : ((i 0 : Nat) * 4 + (i 2 : Nat) / 128) * 16 + (i 1 : Nat) / 512 < cfg0.N := by rw [show cfg0.N = 256 from N_0]; omega
  obtain ⟨t, ht⟩ : ∃ t : Fin cfg0.N, t.val = ((i 0 : Nat) * 4 + (i 2 : Nat) / 128) * 16 + (i 1 : Nat) / 512 := ⟨⟨_, ht⟩, rfl⟩
  have e := ((cfg0.win 4).blk t).view.emb_mem_set (ix3 (0 : Fin 1) (⟨(i 1 : Nat) % 512, by omega⟩ : Fin 512) (⟨(i 2 : Nat) % 128, by omega⟩ : Fin 128) : S1x512x128.Idx)
  rw [emb4] at e
  have hi : i = ix3 (sq t) (pos t ⟨(i 1 : Nat) % 512, by omega⟩) (hd (hh t) ⟨(i 2 : Nat) % 128, by omega⟩) := by
    funext a; apply Fin.ext
    match a with
    | ⟨0, _⟩ => show (i 0 : Nat) = t.val / 64; omega
    | ⟨1, _⟩ => show (i 1 : Nat) = t.val % 16 * 512 + (i 1 : Nat) % 512; omega
    | ⟨2, _⟩ => show (i 2 : Nat) = t.val / 16 % 4 * 128 + (i 2 : Nat) % 128; omega
  exact ⟨t, flush0_4 _, hi ▸ e⟩

/-- The result array after the run. -/
theorem final (c : Dev nD) (h0 : Real3 (A0 m c)) (h1 : Real3 (A1 m c)) (h3 : Real3 (A3 m c)) :
    (dats m 0 c).arrAt 4 cfg0.N = R (A0 m c) (A1 m c) (A2 m c) (A3 m c) :=
  (dats m 0 c).arrAt_eq_of_cover 4 (R (A0 m c) (A1 m c) (A2 m c) (A3 m c)) (fun t _ => flushed_eq m c h0 h1 h3 t) cover

/-- A value whose absolute value is below top is real. -/
theorem real_of_abs (x : EReal) (h : max x (-x) < ⊤) : ∃ y : ℝ, x = y := by
  have h1 : x ≠ ⊤ := (lt_of_le_of_lt (le_max_left _ _) h).ne
  have h2 : x ≠ ⊥ := by
    intro e
    rw [e] at h
    simp at h
  exact ⟨_, (EReal.coe_toReal h1 h2).symm⟩

/-- The word the absolute values stay below is top. -/
theorem ofBits_inf : Ideal.ofBits .f32 0x7F800000#32 = ⊤ := by simp [Ideal.ofBits, Ideal.ieee]

/-- The comparison as a word. -/
theorem cmp_olt_top {x y : EReal} : Ideal.cmp .olt x y = 1#1 ↔ x < y := by
  by_cases h : x < y <;> simp [Ideal.cmp, h]

/-- The precondition makes queries, keys and decays real. -/
theorem real_of_pre (a0 a1 a2 : S4x8192x512.Idx → EReal) (a3 : S4x8x8192.Idx → EReal)
    (h : Cert.Pre_finite.fn (F := Ideal) a0 a1 a2 a3 = fun _ => 1#1) : Real3 a0 ∧ Real3 a1 ∧ Real3 a3 := by
  have e := congrFun h ix0
  dsimp only [Cert.Pre_finite.fn] at e
  obtain ⟨e01, e3⟩ := IntOp.andi_eq_one.mp e
  obtain ⟨e0, e1⟩ := IntOp.andi_eq_one.mp e01
  refine ⟨fun i => ?_, fun i => ?_, fun i => ?_⟩
  · have w := Host.reduce_andi_all _ _ _ _ _ e0 i
    refine real_of_abs _ (lt_of_lt_of_eq (cmp_olt_top.mp w) ofBits_inf)
  · have w := Host.reduce_andi_all _ _ _ _ _ e1 i
    refine real_of_abs _ (lt_of_lt_of_eq (cmp_olt_top.mp w) ofBits_inf)
  · have w := Host.reduce_andi_all _ _ _ _ _ e3 i
    refine real_of_abs _ (lt_of_lt_of_eq (cmp_olt_top.mp w) ofBits_inf)

end Cert.KernelIdeal.Fox

namespace Cert.Proof

open Idealize.ShloMosaic Idealize.ShloMosaic.TcCoe Idealize.SL.Sem
open Cert.KernelIdeal.Fox (A0 A1 A2 A3 R)

/-- The forgetting attention is its reference. -/
theorem value_Fox : Cert.algebraic_KernelIdeal_ReferenceIdeal_pre_finite := by
  intro m g m' g' hpre hagree
  refine ⟨fun c => R (A0 m c) (A1 m c) (A2 m c) (A3 m c), ?_, ?_⟩
  · refine (θ_run Cert.KernelIdeal.defs _ _).mono (fun r h c => ?_) (Cert.KernelIdeal.Fox.run_main m g)
    obtain ⟨h0, h1, h3⟩ := Cert.KernelIdeal.Fox.real_of_pre (A0 m c) (A1 m c) (A2 m c) (A3 m c) (hpre c)
    exact ⟨((h c).1 4).trans (Cert.KernelIdeal.Fox.final m c h0 h1 h3),
      (h c).1 0 |>.trans (((Cert.KernelIdeal.Fox.dats m 0 c).arrAt_in 0 rfl _).trans ((Cert.KernelIdeal.Fox.A_eq m c 0).trans (Cert.KernelIdeal.Gen.V_main_arg0 m c))),
      (h c).1 1 |>.trans (((Cert.KernelIdeal.Fox.dats m 0 c).arrAt_in 1 rfl _).trans ((Cert.KernelIdeal.Fox.A_eq m c 1).trans (Cert.KernelIdeal.Gen.V_main_arg1 m c))),
      (h c).1 2 |>.trans (((Cert.KernelIdeal.Fox.dats m 0 c).arrAt_in 2 rfl _).trans ((Cert.KernelIdeal.Fox.A_eq m c 2).trans (Cert.KernelIdeal.Gen.V_main_arg2 m c))),
      (h c).1 3 |>.trans (((Cert.KernelIdeal.Fox.dats m 0 c).arrAt_in 3 rfl _).trans ((Cert.KernelIdeal.Fox.A_eq m c 3).trans (Cert.KernelIdeal.Gen.V_main_arg3 m c)))⟩
  · refine (θ_run Cert.ReferenceIdeal.defs _ _).mono (fun r h c => ?_) (Cert.ReferenceIdeal.Value.run (F := Ideal) m' g')
    refine ⟨(h c).1.trans ?_, (h c).2⟩
    refine (Cert.ReferenceIdeal.Val.res_eq m' c).trans ?_
    rw [(hagree c).1, (hagree c).2.1, (hagree c).2.2.1, (hagree c).2.2.2]
    rfl

end Cert.Proof

end
-- ==== Proof.Cumsum.lean ====
/-
  Sums over the entries up to one: the host's cumulative sum of a rank-three array along its middle axis, the same sum as a
  product with a triangle of ones of three parts that add up to the summand, and a row filled from its start by the host.
-/
module

public import proofs.«01_k».proof.Defs
public import Idealize.ShloMosaic.Lib.Pointwise
public import Idealize.ShloMosaic.Lib.Routing.OpsOne

@[expose] public section

noncomputable section

namespace Cert.Proof

open Idealize.ShloMosaic

/-- A fold that adds is the sum. -/
theorem foldl_add_sum {ι : Type} (g : ι → EReal) (l : List ι) : ∀ v : EReal, l.foldl (fun r n => r + g n) v = v + (l.map g).sum := by
  induction l with
  | nil => intro v; simp
  | cons a l ih => intro v; rw [List.foldl_cons, ih, List.map_cons, List.sum_cons, add_assoc]

/-- Sums over a window that ends at `j` are sums over the entries up to `j`. -/
theorem window_sum {N M : ℕ} (hN : M + 1 = N) (f : Fin N → EReal) (j : Fin N) :
    (∑ k : Fin N, if h : M ≤ j.val + k.val ∧ j.val + k.val - M < N then f ⟨j.val + k.val - M, h.2⟩ else 0)
      = ∑ s : Fin N, if s.val ≤ j.val then f s else 0 := by
  classical
  have hj := j.isLt
  have e : ∀ k : Fin N, (if h : M ≤ j.val + k.val ∧ j.val + k.val - M < N then f ⟨j.val + k.val - M, h.2⟩ else 0)
      = if M ≤ j.val + k.val then f ⟨(j.val + k.val - M) % N, Nat.mod_lt _ (by omega)⟩ else 0 := by
    intro k
    have hk := k.isLt
    by_cases h : M ≤ j.val + k.val
    · have h2 : j.val + k.val - M < N := by omega
      rw [dif_pos ⟨h, h2⟩, if_pos h]
      exact congrArg f (Fin.ext (Nat.mod_eq_of_lt h2).symm)
    · rw [dif_neg fun e => h e.1, if_neg h]
  rw [Finset.sum_congr rfl fun k _ => e k, ← Finset.sum_filter, ← Finset.sum_filter]
  refine Finset.sum_bij' (fun k _ => ⟨(j.val + k.val - M) % N, Nat.mod_lt _ (by omega)⟩)
    (fun s _ => ⟨(s.val + M - j.val) % N, Nat.mod_lt _ (by omega)⟩) ?_ ?_ ?_ ?_ ?_
  · intro k hk
    have h := (Finset.mem_filter.1 hk).2
    have hk := k.isLt
    refine Finset.mem_filter.2 ⟨Finset.mem_univ _, ?_⟩
    show (j.val + k.val - M) % N ≤ j.val
    rw [Nat.mod_eq_of_lt (by omega)]; omega
  · intro s hs
    have h := (Finset.mem_filter.1 hs).2
    refine Finset.mem_filter.2 ⟨Finset.mem_univ _, ?_⟩
    show M ≤ j.val + (s.val + M - j.val) % N
    rw [Nat.mod_eq_of_lt (by omega)]; omega
  · intro k hk
    have h := (Finset.mem_filter.1 hk).2
    have hk := k.isLt
    apply Fin.ext
    show ((j.val + k.val - M) % N + M - j.val) % N = k.val
    rw [Nat.mod_eq_of_lt (show j.val + k.val - M < N by omega), Nat.mod_eq_of_lt (by omega)]; omega
  · intro s hs
    have h := (Finset.mem_filter.1 hs).2
    apply Fin.ext
    show (j.val + (s.val + M - j.val) % N - M) % N = s.val
    rw [Nat.mod_eq_of_lt (show s.val + M - j.val < N by omega), Nat.mod_eq_of_lt (by omega)]; omega
  · intro k hk; rfl

/-- Sums over the entries up to `r`, over all entries and over the first `r + 1`. -/
theorem sum_le {N : ℕ} (g : ℕ → EReal) (r : ℕ) (hr : r < N) :
    (∑ s : Fin N, if s.val ≤ r then g s.val else 0) = ∑ x ∈ Finset.range (r + 1), g x := by
  rw [← Finset.sum_range (fun s => if s ≤ r then g s else 0), ← Finset.sum_filter]
  refine Finset.sum_congr (Finset.ext fun x => ?_) fun _ _ => rfl
  rw [Finset.mem_filter, Finset.mem_range, Finset.mem_range]
  omega

/-- The cumulative sum along the middle axis, as it prints. -/
theorem cumsum_mid {A N M C : ℕ} (hN : M + 1 = N) (x : (⟨3, ![A, N, C]⟩ : Shape).Idx → EReal)
    (h : (⟨3, ![A, N, C]⟩ : Shape).ReduceWindows ![1, N, 1] ![1, 1, 1] ![0, M, 0] ![0, 0, 0] ⟨3, ![A, N, C]⟩)
    (b : Fin A) (j : Fin N) (c : Fin C) :
    Ideal.hostReduceWindowAdd ![1, N, 1] ![1, 1, 1] ![0, M, 0] ![0, 0, 0] h x 0 (ix3 b j c)
      = ∑ s : Fin N, if s.val ≤ j.val then x (ix3 b s c) else 0 := by
  have hN0 : 0 < N := by omega
  unfold Ideal.hostReduceWindowAdd Host.reduceWindow
  dsimp only
  rw [foldl_add_sum, zero_add, ← window_sum hN (fun s => x (ix3 b s c)) j]
  have hW : ∀ g : (⟨3, ![1, N, 1]⟩ : Shape).Idx → EReal,
      ((List.finRange (⟨3, ![1, N, 1]⟩ : Shape).numel).map fun n => g ((⟨3, ![1, N, 1]⟩ : Shape).rowMajor.symm n)).sum
        = ∑ k : Fin N, g (ix3 (0 : Fin 1) k (0 : Fin 1)) := by
    intro g
    rw [← List.ofFn_eq_map, List.sum_ofFn, Equiv.sum_comp (⟨3, ![1, N, 1]⟩ : Shape).rowMajor.symm g]
    refine (Fintype.sum_equiv ⟨fun k : Fin N => (ix3 (0 : Fin 1) k (0 : Fin 1) : (⟨3, ![1, N, 1]⟩ : Shape).Idx), fun i => i 1, fun k => rfl, fun i => ?_⟩ _ _ fun k => rfl).symm
    refine Eq.trans ?_ (eq_ix3 i).symm
    show (ix3 (0 : Fin 1) (i 1) (0 : Fin 1) : (⟨3, ![1, N, 1]⟩ : Shape).Idx) = ix3 (i 0) (i 1) (i 2)
    have e0 : (0 : Fin 1) = i 0 := Fin.ext (by have := (i 0).isLt; change (i 0).val < 1 at this; show 0 = (i 0).val; omega)
    have e2 : (0 : Fin 1) = i 2 := Fin.ext (by have := (i 2).isLt; change (i 2).val < 1 at this; show 0 = (i 2).val; omega)
    exact congrArg₂ (fun p q => (ix3 p (i 1) q : (⟨3, ![1, N, 1]⟩ : Shape).Idx)) e0 e2
  refine (congrArg List.sum (List.map_congr_left fun n _ => ?_)).trans
    (hW fun w => if hh : M ≤ j.val + (w 1).val ∧ j.val + (w 1).val - M < N then x (ix3 b ⟨j.val + (w 1).val - M, hh.2⟩ c) else 0)
  have w0 : ((⟨3, ![1, N, 1]⟩ : Shape).rowMajor.symm n 0).val < 1 := ((⟨3, ![1, N, 1]⟩ : Shape).rowMajor.symm n 0).isLt
  have w2 : ((⟨3, ![1, N, 1]⟩ : Shape).rowMajor.symm n 2).val < 1 := ((⟨3, ![1, N, 1]⟩ : Shape).rowMajor.symm n 2).isLt
  dsimp only
  split
  · next hin =>
    have h1 := hin 1
    change M ≤ j.val * 1 + ((⟨3, ![1, N, 1]⟩ : Shape).rowMajor.symm n 1).val ∧ j.val * 1 + ((⟨3, ![1, N, 1]⟩ : Shape).rowMajor.symm n 1).val - M < N at h1
    rw [dif_pos ⟨by omega, by omega⟩]
    refine congrArg x (funext fun a => Fin.ext ?_)
    match a with
    | ⟨0, _⟩ => show b.val * 1 + ((⟨3, ![1, N, 1]⟩ : Shape).rowMajor.symm n 0).val - 0 = b.val; omega
    | ⟨1, _⟩ => show j.val * 1 + ((⟨3, ![1, N, 1]⟩ : Shape).rowMajor.symm n 1).val - M = j.val + ((⟨3, ![1, N, 1]⟩ : Shape).rowMajor.symm n 1).val - M; omega
    | ⟨2, _⟩ => show c.val * 1 + ((⟨3, ![1, N, 1]⟩ : Shape).rowMajor.symm n 2).val - 0 = c.val; omega
  · next hin =>
    rw [dif_neg fun hh => hin fun a => by
      match a with
      | ⟨0, _⟩ =>
        show 0 ≤ b.val * 1 + ((⟨3, ![1, N, 1]⟩ : Shape).rowMajor.symm n 0).val ∧ b.val * 1 + ((⟨3, ![1, N, 1]⟩ : Shape).rowMajor.symm n 0).val - 0 < A
        have := b.isLt; omega
      | ⟨1, _⟩ =>
        show M ≤ j.val * 1 + ((⟨3, ![1, N, 1]⟩ : Shape).rowMajor.symm n 1).val ∧ j.val * 1 + ((⟨3, ![1, N, 1]⟩ : Shape).rowMajor.symm n 1).val - M < N
        omega
      | ⟨2, _⟩ =>
        show 0 ≤ c.val * 1 + ((⟨3, ![1, N, 1]⟩ : Shape).rowMajor.symm n 2).val ∧ c.val * 1 + ((⟨3, ![1, N, 1]⟩ : Shape).rowMajor.symm n 2).val - 0 < C
        have := c.isLt; omega]

/-- A summand below plus infinity taken in three parts, the rounded value, what the rounding left and what is left again,
    against ones and zeros. -/
theorem split_sum {n : ℕ} (f mk : Fin n → EReal) (P : Fin n → Prop) [DecidablePred P] (hf : ∀ s, f s ≠ ⊤)
    (hm : ∀ s, mk s = if P s then 1 else 0) :
    (∑ s, mk s * f s) + (∑ s, mk s * (f s - f s)) + (∑ s, mk s * ((f s - f s) - (f s - f s))) = ∑ s, if P s then f s else 0 := by
  rw [← Finset.sum_add_distrib, ← Finset.sum_add_distrib]
  refine Finset.sum_congr rfl fun s _ => ?_
  rw [hm]
  by_cases h : P s
  · rw [if_pos h, if_pos h, one_mul, one_mul, one_mul]
    have hs := hf s
    generalize f s = y at hs
    induction y using EReal.rec with
    | bot => rw [EReal.bot_add, EReal.bot_add]
    | coe y => rw [← EReal.coe_sub, sub_self, ← EReal.coe_sub, sub_self, EReal.coe_zero, add_zero, add_zero]
    | top => exact absurd rfl hs
  · rw [if_neg h, if_neg h, zero_mul, zero_mul, zero_mul, add_zero, add_zero]

/-- The logarithm of one plus an exponential is not minus infinity. -/
theorem log1p_exp_ne_bot (y : EReal) : Ideal.log1p (Ideal.exp y) ≠ ⊥ := by
  unfold Ideal.log1p
  induction y using EReal.rec with
  | bot =>
    have e : (1 : EReal) + Ideal.exp ⊥ = ((1 : ℝ) : EReal) := by
      show (1 : EReal) + 0 = _
      rw [add_zero, EReal.coe_one]
    rw [e]
    show (if (1 : ℝ) ≤ 0 then ⊥ else (Real.log 1 : EReal)) ≠ ⊥
    rw [if_neg (by norm_num)]
    exact EReal.coe_ne_bot _
  | coe y =>
    have e : (1 : EReal) + Ideal.exp (y : EReal) = ((1 + Real.exp y : ℝ) : EReal) := by
      show (1 : EReal) + (Real.exp y : EReal) = _
      rw [EReal.coe_add, EReal.coe_one]
    rw [e]
    show (if 1 + Real.exp y ≤ 0 then ⊥ else (Real.log (1 + Real.exp y) : EReal)) ≠ ⊥
    rw [if_neg (by have := Real.exp_pos y; linarith)]
    exact EReal.coe_ne_bot _
  | top =>
    have e : (1 : EReal) + Ideal.exp ⊤ = ⊤ := by
      show (1 : EReal) + ⊤ = ⊤
      exact EReal.add_top_of_ne_bot (by rw [← EReal.coe_one]; exact EReal.coe_ne_bot _)
    rw [e]
    exact fun h => nomatch h

/-- Update `k` of `x.at[i, j : j + U].set(v)` lands at `(r, c)` exactly when the first index word is `r` and the second plus `k` is `c`. -/
theorem lands_row {R C U w : Nat} (d : ScatterDims ⟨2, ![R, C]⟩ ⟨1, ![2]⟩ ⟨1, ![U]⟩) (hiw : d.insertedWindowDims = [0])
    (hsd : d.scatterDimsToOperandDims = [0, 1]) (hivd : d.indexVectorDim = 0) (idx : IVec ⟨1, ![2]⟩ w) (k : Fin U) (r : Fin R) (c : Fin C) :
    d.resultIdx? (ix1 k) idx = some (ix2 r c) ↔ (idx (ix1 (0 : Fin 2))).toInt = r.val ∧ (idx (ix1 (1 : Fin 2))).toInt + (k.val : Int) = c.val := by
  have hwin0 : d.window (ix1 k) 0 = 0 := by
    unfold ScatterDims.window
    rw [dif_neg fun h => (of_decide_eq_true (List.mem_filter.1 h).2) (by rw [hiw]; simp)]
  have hwin1 : d.window (ix1 k) 1 = k.val := by
    have hk : d.sKept = [1] := by
      show (⟨2, ![R, C]⟩ : Shape).kept d.insertedWindowDims = _
      rw [hiw]
      rfl
    unfold ScatterDims.window
    rw [dif_pos (by rw [hk]; simp)]
    exact congrArg (fun t => ((ix1 k : (⟨1, ![U]⟩ : Shape).Idx) t).val) (Subsingleton.elim (α := Fin 1) _ 0)
  have s0 : d.start (ix1 k) idx 0 = (idx (ix1 (0 : Fin 2))).toInt := Routing.start_pair d hsd hivd idx (ix1 k) 0
  have s1 : d.start (ix1 k) idx 1 = (idx (ix1 (1 : Fin 2))).toInt := Routing.start_pair d hsd hivd idx (ix1 k) 1
  refine Iff.trans (Routing.resultIdx?_ix2 d (ix1 k) idx r c) ?_
  rw [s0, s1, hwin0, hwin1]
  omega

/-- The first row filled from its start. -/
theorem fill_row {C U w : Nat} (d : ScatterDims ⟨2, ![1, C]⟩ ⟨1, ![2]⟩ ⟨1, ![U]⟩) (hiw : d.insertedWindowDims = [0])
    (hsd : d.scatterDimsToOperandDims = [0, 1]) (hivd : d.indexVectorDim = 0) (x : (⟨2, ![1, C]⟩ : Shape).Idx → EReal) (idx : IVec ⟨1, ![2]⟩ w)
    (hi : ∀ q : Fin 2, (idx (ix1 q)).toInt = 0) (v : (⟨1, ![U]⟩ : Shape).Idx → EReal) (c : Fin C) :
    Host.scatter d (fun _ b => b) x idx v (ix2 0 c) = if h : c.val < U then v (ix1 ⟨c.val, h⟩) else x (ix2 0 c) := by
  have hl : ∀ k : (⟨1, ![U]⟩ : Shape).Idx, d.resultIdx? k idx = some (ix2 0 c) ↔ (k 0).val = c.val := fun k => by
    have e := lands_row d hiw hsd hivd idx (k 0) 0 c
    rw [← eq_ix1 k, hi, hi] at e
    rw [e]
    constructor
    · intro h; have := h.2; omega
    · intro h; exact ⟨rfl, by omega⟩
  by_cases h : c.val < U
  · rw [dif_pos h]
    exact Routing.scatter_set_hit d x idx v _ _ (fun k hk => congrArg v ((eq_ix1 k).trans (congrArg ix1 (Fin.ext ((hl k).1 hk))))) (ix1 ⟨c.val, h⟩) ((hl _).2 rfl)
  · rw [dif_neg h]
    exact Routing.scatter_set_miss d x idx v _ fun k hk => h ((hl k).1 hk ▸ (k 0).isLt)

end Cert.Proof

end
-- ==== Proof.PrepPays.lean ====
/-
  The values of the forgetting attention's preparation at an index: a head's rows over their root mean square, and the
  cumulated logarithms of the gates.
-/
module

public import proofs.«01_k».proof.Defs
public import proofs.«01_k».proof.Proof.Gen.PrepIdeal.Value
public import proofs.«01_k».proof.Proof.Cumsum
public import Idealize.ShloMosaic.Lib.Pointwise

@[expose] public section

set_option maxRecDepth 16384

noncomputable section

namespace Cert.PrepIdeal.Val

open Cert.PrepIdeal Cert.PrepIdeal.Gen Idealize.ShloMosaic Idealize.ShloMosaic.TcCoe Idealize.SL.Sem
open Idealize.ShloMosaic.Pipeline (Dat)

/-- A row over its root mean square, times the norm's weight. -/
def nq (v w : Fin 128 → EReal) (d : Fin 128) : EReal :=
  v d * Ideal.rsqrt (Ideal.div (∑ k : Fin 128, v k * v k) (Ideal.ofBits .f32 0x43000000#32) + Ideal.ofBits .f32 0x358637BD#32) * w d

/-- The factor of the queries, and what it stands for. -/
def sc : EReal := Named.named (F := Ideal) Cert.PrepIdeal.κ "scale" (φ := .f32) 0x3DB504F3#32
theorem sc_eq : sc = (((Real.sqrt 128)⁻¹ : ℝ) : EReal) :=
  IdealRules.named_const.ideal_named_scalar _ _ _ _ rfl

/-- The logarithm of the gate's logistic function. -/
def lf (z : EReal) : EReal := -(max (-z) 0 + Ideal.log1p (Ideal.exp (-(max (-z) (- -z)))))

theorem lf_ne_top (z : EReal) : lf z ≠ ⊤ := by
  unfold lf
  rw [Ne, EReal.neg_eq_top_iff, EReal.add_eq_bot_iff]
  rintro (h | h)
  · have := le_max_right (-z) (0 : EReal)
    rw [h] at this
    exact absurd this (by decide)
  · exact Cert.Proof.log1p_exp_ne_bot _ h

theorem pay3_at (v : Vec Ideal S1x512x128 .f32) (w : Vec Ideal S1x128 .f32) (r : Fin 512) (d : Fin 128) :
    k0_pay3 v w (ix3 0 r d) = nq (fun k => v (ix3 0 r k)) (fun k => w (ix2 0 k)) d * sc := by
  pointwise [k0_pay3, nq, sc]
theorem pay8_at (v : Vec Ideal S1x512x128 .f32) (w : Vec Ideal S1x128 .f32) (r : Fin 512) (d : Fin 128) :
    k0_pay8 v w (ix3 0 r d) = nq (fun k => v (ix3 0 r k)) (fun k => w (ix2 0 k)) d * sc := by
  pointwise [k0_pay8, nq, sc]
theorem pay13_at (v : Vec Ideal S1x512x128 .f32) (w : Vec Ideal S1x128 .f32) (r : Fin 512) (d : Fin 128) :
    k0_pay13 v w (ix3 0 r d) = nq (fun k => v (ix3 0 r k)) (fun k => w (ix2 0 k)) d * sc := by
  pointwise [k0_pay13, nq, sc]
theorem pay16_at (v : Vec Ideal S1x512x128 .f32) (w : Vec Ideal S1x128 .f32) (r : Fin 512) (d : Fin 128) :
    k0_pay16 (k0_pay15 v w) (ix3 0 r d) = nq (fun k => v (ix3 0 r k)) (fun k => w (ix2 0 k)) d * sc := by
  pointwise [k0_pay16, k0_pay15, nq, sc]
theorem pay7_at (v : Vec Ideal S1x512x128 .f32) (w : Vec Ideal S1x128 .f32) (r : Fin 512) (d : Fin 128) :
    k0_pay7 (k0_pay4 v) (k0_pay5 w) (k0_pay6 v) (Scalar.ofBits .f32 0x358637BD#32) (ix3 0 r d) = nq (fun k => v (ix3 0 r k)) (fun k => w (ix2 0 k)) d := by
  pointwise [k0_pay7, k0_pay6, k0_pay5, k0_pay4, nq]
theorem pay12_at (v : Vec Ideal S1x512x128 .f32) (w : Vec Ideal S1x128 .f32) (r : Fin 512) (d : Fin 128) :
    k0_pay12 (k0_pay9 v) (k0_pay10 w) (k0_pay11 v) (ix3 0 r d) = nq (fun k => v (ix3 0 r k)) (fun k => w (ix2 0 k)) d := by
  pointwise [k0_pay12, k0_pay11, k0_pay10, k0_pay9, nq]
theorem pay14_at (v : Vec Ideal S1x512x128 .f32) (w : Vec Ideal S1x128 .f32) (r : Fin 512) (d : Fin 128) :
    k0_pay14 v w (ix3 0 r d) = nq (fun k => v (ix3 0 r k)) (fun k => w (ix2 0 k)) d := by
  pointwise [k0_pay14, nq]
theorem pay17_at (v : Vec Ideal S1x512x128 .f32) (w : Vec Ideal S1x128 .f32) (r : Fin 512) (d : Fin 128) :
    k0_pay17 v w (ix3 0 r d) = nq (fun k => v (ix3 0 r k)) (fun k => w (ix2 0 k)) d := by
  pointwise [k0_pay17, nq]
theorem pay18_at (v : Vec Ideal S1x512x512 .f32) (r : Fin 512) (d : Fin 512) :
    k0_pay18 v (ix3 0 r d) = v (ix3 0 r d) := by
  pointwise [k0_pay18]
theorem pay19_at (v : Vec Ideal S1x512x128 .f32) (w : Vec Ideal S1x128 .f32) (r : Fin 512) (d : Fin 128) :
    k0_pay19 v w (ix2 r d) = v (ix3 0 r d) + w (ix2 0 d) := by
  pointwise [k0_pay19]
theorem pay2_at (r : Fin 8) (d : Fin 128) : k0_pay2 (F := Ideal) (ix2 r d) = 0 := by
  pointwise [k0_pay2]

/-- The triangle of ones. -/
def tri (r s : Fin 512) : EReal := FloatOps.sitofp (F := Ideal) .f32 ((if s.val ≤ r.val then 1#1 else 0#1 : BitVec 1).setWidth 32)
theorem tri_eq (r s : Fin 512) : tri r s = if s.val ≤ r.val then 1 else 0 := by
  unfold tri
  by_cases h : s.val ≤ r.val
  · rw [if_pos h, if_pos h]
    show ((((1#1 : BitVec 1).setWidth 32).toInt : ℝ) : EReal) = 1
    rw [show ((1#1 : BitVec 1).setWidth 32).toInt = 1 from rfl, Int.cast_one, EReal.coe_one]
  · rw [if_neg h, if_neg h]
    show ((((0#1 : BitVec 1).setWidth 32).toInt : ℝ) : EReal) = 0
    rw [show ((0#1 : BitVec 1).setWidth 32).toInt = 0 from rfl, Int.cast_zero, EReal.coe_zero]

theorem cmp_iota (x r : Fin 512) : IntOp.cmpi .sle (BitVec.ofNat 32 x.val) (BitVec.ofNat 32 r.val) = if x.val ≤ r.val then 1#1 else 0#1 := by
  have hx := x.isLt
  have hr := r.isLt
  show BitVec.ofBool ((BitVec.ofNat 32 x.val).sle (BitVec.ofNat 32 r.val)) = _
  have tx : (BitVec.ofNat 32 x.val).toInt = x.val := by
    rw [BitVec.toInt_eq_toNat_of_lt (by rw [BitVec.toNat_ofNat]; omega), BitVec.toNat_ofNat, Nat.mod_eq_of_lt (by omega)]
  have tr : (BitVec.ofNat 32 r.val).toInt = r.val := by
    rw [BitVec.toInt_eq_toNat_of_lt (by rw [BitVec.toNat_ofNat]; omega), BitVec.toNat_ofNat, Nat.mod_eq_of_lt (by omega)]
  have e : (BitVec.ofNat 32 x.val).sle (BitVec.ofNat 32 r.val) = decide (x.val ≤ r.val) := by
    unfold BitVec.sle
    rw [tx, tr]
    exact decide_eq_decide.2 Int.ofNat_le
  rw [e]
  by_cases h : x.val ≤ r.val
  · rw [if_pos h]; simp [h]
  · rw [if_neg h]; simp [h]

theorem pay20_at (v : FVec Ideal S512x128 .f32) (o : Vec Ideal S1x128 .f32) (r : Fin 512) (d : Fin 128) :
    k0_pay20 v o (ix2 r d) = (∑ s : Fin 512, tri r s * lf (v (ix2 s d))) + (∑ s : Fin 512, tri r s * (lf (v (ix2 s d)) - lf (v (ix2 s d))))
      + (∑ s : Fin 512, tri r s * ((lf (v (ix2 s d)) - lf (v (ix2 s d))) - (lf (v (ix2 s d)) - lf (v (ix2 s d))))) + o (ix2 0 d) := by
  have e : ∀ x : Fin 512, FloatOps.sitofp (F := Ideal) .f32 ((IntOp.cmpi .sle (BitVec.ofNat 32 x.val) (BitVec.ofNat 32 r.val)).setWidth 32) = tri r x := fun x => by
    unfold tri
    rw [cmp_iota]
  have e' : ∀ x : Fin 512, (0 : EReal) - (max (0 - v (ix2 x d)) 0 + Ideal.log1p (Ideal.exp (0 - FloatOps.absf (F := Ideal) (φ := .f32) (0 - v (ix2 x d))))) = lf (v (ix2 x d)) := fun x => by
    show (0 : EReal) - (max (0 - v (ix2 x d)) 0 + Ideal.log1p (Ideal.exp (0 - max (0 - v (ix2 x d)) (-(0 - v (ix2 x d)))))) = _
    rw [zero_sub, zero_sub, zero_sub]
    rfl
  pointwise [k0_pay20]
  simp only [e, e']

/-- The cumulated sum in the block and what came before. -/
theorem pay20_sum (v : FVec Ideal S512x128 .f32) (o : Vec Ideal S1x128 .f32) (r : Fin 512) (d : Fin 128) :
    k0_pay20 v o (ix2 r d) = (∑ s : Fin 512, if s.val ≤ r.val then lf (v (ix2 s d)) else 0) + o (ix2 0 d) := by
  rw [pay20_at, Cert.Proof.split_sum (fun s => lf (v (ix2 s d))) (tri r) (fun s => s.val ≤ r.val) (fun s => lf_ne_top _) (tri_eq r)]
theorem pay21_at (v : FVec Ideal S512x128 .f32) (o : Vec Ideal S1x128 .f32) (d : Fin 128) :
    k0_pay21 v o (ix2 0 d) = k0_pay20 v o (ix2 511 d) := by
  pointwise [k0_pay21]
theorem pay22_at (v : FVec Ideal S512x128 .f32) (o : Vec Ideal S1x128 .f32) (j : Fin 8) (r : Fin 512) :
    k0_pay1 (k0_pay22 v o) (ix3 0 j r) = k0_pay20 v o (ix2 r (⟨j.val, by omega⟩ : Fin 128)) := by
  pointwise [k0_pay1, k0_pay22]

end Cert.PrepIdeal.Val

end
-- ==== Proof.PrepBlocks.lean ====
/-
  The forgetting attention's preparation, block by block: the queries and keys are written a head at a time, and the
  cumulated gates are those of the block plus the sums the blocks before left in the scratch.
-/
module

public import proofs.«01_k».proof.Proof.PrepPays
public import Idealize.ShloMosaic.Lib.WritesUnit

@[expose] public section

set_option maxRecDepth 16384

noncomputable section

namespace Cert.PrepIdeal.Val

open Cert.PrepIdeal Cert.PrepIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

/-- A block written a head at a time. -/
def wr (p : Fin 4 → Vec Ideal S1x512x128 .bf16) : Vec Ideal S1x512x512 .bf16 :=
  View.canon [⟨Rect.unit (s := S1x512x512) ![0, 0, 384] S1x512x128.size inb_S1x512x512_S1x512x128_0_0_384, p 3⟩,
    ⟨Rect.unit (s := S1x512x512) ![0, 0, 256] S1x512x128.size inb_S1x512x512_S1x512x128_0_0_256, p 2⟩,
    ⟨Rect.unit (s := S1x512x512) ![0, 0, 128] S1x512x128.size inb_S1x512x512_S1x512x128_0_0_128, p 1⟩,
    ⟨Rect.unit (s := S1x512x512) ![0, 0, 0] S1x512x128.size inb_S1x512x512_S1x512x128_0_0_0, p 0⟩]

/-- A block's columns of one head. -/
def hd (x : Vec Ideal S1x512x512 .f32) : Fin 4 → Vec Ideal S1x512x128 .f32
  | 0 => View.ld x (Rect.unit (s := S1x512x512) ![0, 0, 0] S1x512x128.size inb_S1x512x512_S1x512x128_0_0_0)
  | 1 => View.ld x (Rect.unit (s := S1x512x512) ![0, 0, 128] S1x512x128.size inb_S1x512x512_S1x512x128_0_0_128)
  | 2 => View.ld x (Rect.unit (s := S1x512x512) ![0, 0, 256] S1x512x128.size inb_S1x512x512_S1x512x128_0_0_256)
  | 3 => View.ld x (Rect.unit (s := S1x512x512) ![0, 0, 384] S1x512x128.size inb_S1x512x512_S1x512x128_0_0_384)

/-- What is written of the queries and of the keys. -/
def qs (x : Vec Ideal S1x512x512 .f32) (w : Vec Ideal S1x128 .f32) : Fin 4 → Vec Ideal S1x512x128 .bf16
  | 0 => k0_pay3 (hd x 0) w
  | 1 => k0_pay8 (hd x 1) w
  | 2 => k0_pay13 (hd x 2) w
  | 3 => k0_pay16 (k0_pay15 (hd x 3) w)
def ks (x : Vec Ideal S1x512x512 .f32) (w : Vec Ideal S1x128 .f32) : Fin 4 → Vec Ideal S1x512x128 .bf16
  | 0 => k0_pay7 (k0_pay4 (hd x 0)) (k0_pay5 w) (k0_pay6 (hd x 0)) (Scalar.ofBits .f32 0x358637BD#32)
  | 1 => k0_pay12 (k0_pay9 (hd x 1)) (k0_pay10 w) (k0_pay11 (hd x 1))
  | 2 => k0_pay14 (hd x 2) w
  | 3 => k0_pay17 (hd x 3) w

/-- The scratch's first row. -/
def row0 (v : Vec Ideal S8x128 .f32) : Vec Ideal S1x128 .f32 :=
  View.ld v (Rect.unit (s := S8x128) ![0, 0] S1x128.size inb_S8x128_S1x128_0_0)

/-- A position of that row in the whole scratch. -/
theorem row_emb (d : Fin 128) : (ix2 0 d : S8x128.Idx) = (Rect.unit (s := S8x128) ![0, 0] S1x128.size inb_S8x128_S1x128_0_0).emb (ix2 0 d) := by
  funext a; apply Fin.ext
  match a with
  | ⟨0, _⟩ => rfl
  | ⟨1, _⟩ => show d.val = 0 + 1 * d.val; omega
theorem row0_at (v : Vec Ideal S8x128 .f32) (d : Fin 128) : row0 v (ix2 0 d) = v (ix2 0 d) := by
  show v ((Rect.unit (s := S8x128) ![0, 0] S1x128.size inb_S8x128_S1x128_0_0).emb (ix2 0 d)) = _
  rw [← row_emb]

section Cases

variable (c : Dev nD) (i : grid0.Coords)
  (a2 : Memref sig .tc .vmem S1x512x512 .f32) (h2 : a2.IsWhole)
  (a3 : Memref sig .tc .vmem S1x512x512 .f32) (h3 : a3.IsWhole)
  (a4 : Memref sig .tc .vmem S1x512x512 .f32) (h4 : a4.IsWhole)
  (a5 : Memref sig .tc .vmem S1x512x128 .f32) (h5 : a5.IsWhole)
  (a6 : Memref sig .tc .vmem S1x128 .f32) (h6 : a6.IsWhole)
  (a7 : Memref sig .tc .vmem S1x128 .f32) (h7 : a7.IsWhole)
  (a8 : Memref sig .tc .vmem S1x128 .f32) (h8 : a8.IsWhole)
  (a9 : Memref sig .tc .vmem S1x512x512 .bf16) (h9 : a9.IsWhole)
  (a10 : Memref sig .tc .vmem S1x512x512 .bf16) (h10 : a10.IsWhole)
  (a11 : Memref sig .tc .vmem S1x512x512 .bf16) (h11 : a11.IsWhole)
  (a12 : Memref sig .tc .vmem S1x8x512 .f32) (h12 : a12.IsWhole)
  (a13 : Memref sig .tc .vmem S8x128 .f32) (h13 : a13.IsWhole)
  (x0 x1 x2 : Vec Ideal S1x512x512 .f32) (x3 : Vec Ideal S1x512x128 .f32) (x4 x5 x6 : Vec Ideal S1x128 .f32) (xs : Vec Ideal S8x128 .f32)

/-- The queries. -/
theorem out7_A (hc : cond0_0 i) : out0_A_7 c i a2 h2 a3 h3 a4 h4 a5 h5 a6 h6 a7 h7 a8 h8 a9 h9 a10 h10 a11 h11 a12 h12 a13 h13 hc x0 x1 x2 x3 x4 x5 x6 = wr (qs x0 x4) := by
  unfold out0_A_7
  rw [View.read_writes_eq_canon _ _ _ (cover0_A_7 c i a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  simp only [View.readAt_eq_ld, h2.read_unread, h3.read_unread, h4.read_unread, h5.read_unread, h6.read_unread, h7.read_unread, h8.read_unread, h13.read_unread]
  repeat rw [View.ld_unit_zero hz]
  rfl
/-- The keys. -/
theorem out8_A (hc : cond0_0 i) : out0_A_8 c i a2 h2 a3 h3 a4 h4 a5 h5 a6 h6 a7 h7 a8 h8 a9 h9 a10 h10 a11 h11 a12 h12 a13 h13 hc x0 x1 x2 x3 x4 x5 x6 = wr (ks x1 x5) := by
  unfold out0_A_8
  rw [View.read_writes_eq_canon _ _ _ (cover0_A_8 c i a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  simp only [View.readAt_eq_ld, h2.read_unread, h3.read_unread, h4.read_unread, h5.read_unread, h6.read_unread, h7.read_unread, h8.read_unread, h13.read_unread]
  repeat rw [View.ld_unit_zero hz]
  rfl
/-- The values. -/
theorem out9_A (hc : cond0_0 i) : out0_A_9 c i a2 h2 a3 h3 a4 h4 a5 h5 a6 h6 a7 h7 a8 h8 a9 h9 a10 h10 a11 h11 a12 h12 a13 h13 hc x0 x1 x2 x3 x4 x5 x6 = k0_pay18 x2 := by
  unfold out0_A_9
  rw [View.read_writes_eq_canon _ _ _ (cover0_A_9 c i a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  simp only [View.readAt_eq_ld, h2.read_unread, h3.read_unread, h4.read_unread, h5.read_unread, h6.read_unread, h7.read_unread, h8.read_unread, h13.read_unread]
  repeat rw [View.ld_unit_zero hz]
  rw [View.canon_unit_zero hz3]
  repeat rw [View.ld_unit_zero hz3]
  rfl
/-- The queries. -/
theorem out7_B (hc : ¬cond0_0 i) : out0_B_7 c i a2 h2 a3 h3 a4 h4 a5 h5 a6 h6 a7 h7 a8 h8 a9 h9 a10 h10 a11 h11 a12 h12 a13 h13 hc x0 x1 x2 x3 x4 x5 x6 xs = wr (qs x0 x4) := by
  unfold out0_B_7
  rw [View.read_writes_eq_canon _ _ _ (cover0_B_7 c i a2 h2 a3 h3 a4 h4 a5 h5 a6 h6 a7 h7 a8 h8 a9 h9 a10 h10 a11 h11 a12 h12 a13 h13 hc x0 x1 x2 x3 x4 x5 x6 xs)]
  unfold kernelRun0_B
  dsimp only
  sl_unfold_words
  simp only [View.readAt_eq_ld, h2.read_unread, h3.read_unread, h4.read_unread, h5.read_unread, h6.read_unread, h7.read_unread, h8.read_unread, h13.read_unread]
  repeat rw [View.ld_unit_zero hz]
  rfl
/-- The keys. -/
theorem out8_B (hc : ¬cond0_0 i) : out0_B_8 c i a2 h2 a3 h3 a4 h4 a5 h5 a6 h6 a7 h7 a8 h8 a9 h9 a10 h10 a11 h11 a12 h12 a13 h13 hc x0 x1 x2 x3 x4 x5 x6 xs = wr (ks x1 x5) := by
  unfold out0_B_8
  rw [View.read_writes_eq_canon _ _ _ (cover0_B_8 c i a2 h2 a3 h3 a4 h4 a5 h5 a6 h6 a7 h7 a8 h8 a9 h9 a10 h10 a11 h11 a12 h12 a13 h13 hc x0 x1 x2 x3 x4 x5 x6 xs)]
  unfold kernelRun0_B
  dsimp only
  sl_unfold_words
  simp only [View.readAt_eq_ld, h2.read_unread, h3.read_unread, h4.read_unread, h5.read_unread, h6.read_unread, h7.read_unread, h8.read_unread, h13.read_unread]
  repeat rw [View.ld_unit_zero hz]
  rfl
/-- The values. -/
theorem out9_B (hc : ¬cond0_0 i) : out0_B_9 c i a2 h2 a3 h3 a4 h4 a5 h5 a6 h6 a7 h7 a8 h8 a9 h9 a10 h10 a11 h11 a12 h12 a13 h13 hc x0 x1 x2 x3 x4 x5 x6 xs = k0_pay18 x2 := by
  unfold out0_B_9
  rw [View.read_writes_eq_canon _ _ _ (cover0_B_9 c i a2 h2 a3 h3 a4 h4 a5 h5 a6 h6 a7 h7 a8 h8 a9 h9 a10 h10 a11 h11 a12 h12 a13 h13 hc x0 x1 x2 x3 x4 x5 x6 xs)]
  unfold kernelRun0_B
  dsimp only
  sl_unfold_words
  simp only [View.readAt_eq_ld, h2.read_unread, h3.read_unread, h4.read_unread, h5.read_unread, h6.read_unread, h7.read_unread, h8.read_unread, h13.read_unread]
  repeat rw [View.ld_unit_zero hz]
  rw [View.canon_unit_zero hz3]
  repeat rw [View.ld_unit_zero hz3]
  rfl
/-- The cumulated gates after a first block. -/
theorem out10_B (hc : ¬cond0_0 i) : out0_B_10 c i a2 h2 a3 h3 a4 h4 a5 h5 a6 h6 a7 h7 a8 h8 a9 h9 a10 h10 a11 h11 a12 h12 a13 h13 hc x0 x1 x2 x3 x4 x5 x6 xs = k0_pay1 (k0_pay22 (k0_pay19 x3 x6) (row0 xs)) := by
  unfold out0_B_10
  rw [View.read_writes_eq_canon _ _ _ (cover0_B_10 c i a2 h2 a3 h3 a4 h4 a5 h5 a6 h6 a7 h7 a8 h8 a9 h9 a10 h10 a11 h11 a12 h12 a13 h13 hc x0 x1 x2 x3 x4 x5 x6 xs)]
  unfold kernelRun0_B
  dsimp only
  sl_unfold_words
  simp only [View.readAt_eq_ld, h2.read_unread, h3.read_unread, h4.read_unread, h5.read_unread, h6.read_unread, h7.read_unread, h8.read_unread, h13.read_unread]
  rw [View.canon_unit_zero hz3, View.ld_unit_zero hz3, View.ld_unit_zero hz]
  rfl
/-- The cumulated gates of a first block. -/
theorem out10_A (hc : cond0_0 i) : out0_A_10 c i a2 h2 a3 h3 a4 h4 a5 h5 a6 h6 a7 h7 a8 h8 a9 h9 a10 h10 a11 h11 a12 h12 a13 h13 hc x0 x1 x2 x3 x4 x5 x6 = k0_pay1 (k0_pay22 (k0_pay19 x3 x6) (row0 (k0_pay2 (F := Ideal)))) := by
  unfold out0_A_10
  rw [View.read_writes_eq_canon _ _ _ (cover0_A_10 c i a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_unit_zero hz3, View.readCov_eq_canon_ld _ _ _ (fun y => View.cover_of_wholeMem _ (by sl_whole_mem) y), View.canon_unit_zero hz]
  simp only [View.readAt_eq_ld, h5.read_unread, h8.read_unread]
  rw [View.ld_unit_zero hz3, View.ld_unit_zero hz]
  rfl
/-- The sums a block leaves for the next. -/
theorem sout_A (hc : cond0_0 i) (d : Fin 128) : sout0_A_0 c i a2 h2 a3 h3 a4 h4 a5 h5 a6 h6 a7 h7 a8 h8 a9 h9 a10 h10 a11 h11 a12 h12 a13 h13 hc x0 x1 x2 x3 x4 x5 x6 (ix2 0 d) = k0_pay21 (k0_pay19 x3 x6) (row0 (k0_pay2 (F := Ideal))) (ix2 0 d) := by
  unfold sout0_A_0
  rw [View.read_writes_eq_canon _ _ _ (scover0_A_0 c i a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [row_emb, View.canon_cons_emb, View.readCov_eq_canon_ld _ _ _ (fun y => View.cover_of_wholeMem _ (by sl_whole_mem) y), View.canon_unit_zero hz]
  simp only [View.readAt_eq_ld, h5.read_unread, h8.read_unread]
  rw [View.ld_unit_zero hz3, View.ld_unit_zero hz]
  rfl
theorem sout_B (hc : ¬cond0_0 i) (d : Fin 128) : sout0_B_0 c i a2 h2 a3 h3 a4 h4 a5 h5 a6 h6 a7 h7 a8 h8 a9 h9 a10 h10 a11 h11 a12 h12 a13 h13 hc x0 x1 x2 x3 x4 x5 x6 xs (ix2 0 d) = k0_pay21 (k0_pay19 x3 x6) (row0 xs) (ix2 0 d) := by
  unfold sout0_B_0
  unfold kernelRun0_B
  dsimp only
  sl_unfold_words
  refine (View.read_writes_cons_unit_of_mem _ _ inb_S8x128_S1x128_0_0 _ _ (ix2 0 d) (ix2 0 d) rfl (fun a => by match a with | ⟨0, _⟩ => rfl | ⟨1, _⟩ => show d.val = 0 + d.val; omega)).trans ?_
  simp only [View.readAt_eq_ld, h5.read_unread, h8.read_unread, h13.read_unread]
  rw [View.ld_unit_zero hz3, View.ld_unit_zero hz]
  rfl

end Cases

end Cert.PrepIdeal.Val

end
-- ==== Proof.PrepArrays.lean ====
/-
  The forgetting attention's preparation over the whole arrays: every block of the queries, the keys, the values and the
  cumulated gates is the block of one array of the arguments.
-/
module

public import proofs.«01_k».proof.Proof.PrepBlocks

@[expose] public section

set_option maxRecDepth 16384

noncomputable section

namespace Cert.PrepIdeal.Val

open Cert.PrepIdeal Cert.PrepIdeal.Gen Idealize.ShloMosaic Idealize.ShloMosaic.TcCoe Idealize.SL.Sem
open Idealize.ShloMosaic.Pipeline (Dat)

/-- A rectangle of one head's columns holds a position of those columns, and no other. -/
theorem hit {o : ℕ} (inb : ∀ a, (![0, 0, o] : Fin 3 → Nat) a + S1x512x128.size a ≤ S1x512x512.size a) (r : Fin 512) (q : Fin 512) (d : Fin 128)
    (h : q.val = o + d.val) : (ix3 0 r q : S1x512x512.Idx) = (Rect.unit (s := S1x512x512) ![0, 0, o] S1x512x128.size inb).emb (ix3 0 r d) := by
  funext a; apply Fin.ext
  match a with
  | ⟨0, _⟩ => rfl
  | ⟨1, _⟩ => show r.val = 0 + 1 * r.val; omega
  | ⟨2, _⟩ => show q.val = o + 1 * d.val; omega
theorem miss {o : ℕ} (inb : ∀ a, (![0, 0, o] : Fin 3 → Nat) a + S1x512x128.size a ≤ S1x512x512.size a) (r : Fin 512) (q : Fin 512)
    (h : q.val < o) : (ix3 0 r q : S1x512x512.Idx) ∉ (Rect.unit (s := S1x512x512) ![0, 0, o] S1x512x128.size inb).set := fun hm => by
  obtain ⟨y, hy⟩ := LoadRect.exists_idx_of_mem (Rect.unit (s := S1x512x512) ![0, 0, o] S1x512x128.size inb).toLoadRect hm
  have e : o + 1 * (y 2).val = q.val := congrArg (fun z : S1x512x512.Idx => (z 2).val) hy
  omega
theorem canon_hit (o : ℕ) (inb : ∀ a, (![0, 0, o] : Fin 3 → Nat) a + S1x512x128.size a ≤ S1x512x512.size a) (p : Vec Ideal S1x512x128 .bf16)
    (L : List (View.Piece (Elt Ideal) S1x512x512 .bf16)) (r q : Fin 512) (d : Fin 128) (h : q.val = o + d.val) :
    View.canon ((⟨Rect.unit (s := S1x512x512) ![0, 0, o] S1x512x128.size inb, p⟩ : View.Piece (Elt Ideal) S1x512x512 .bf16) :: L) (ix3 0 r q) = p (ix3 0 r d) := by
  rw [hit inb r q d h, View.canon_cons_emb]
theorem canon_miss (o : ℕ) (inb : ∀ a, (![0, 0, o] : Fin 3 → Nat) a + S1x512x128.size a ≤ S1x512x512.size a) (p : Vec Ideal S1x512x128 .bf16)
    (L : List (View.Piece (Elt Ideal) S1x512x512 .bf16)) (r q : Fin 512) (h : q.val < o) :
    View.canon ((⟨Rect.unit (s := S1x512x512) ![0, 0, o] S1x512x128.size inb, p⟩ : View.Piece (Elt Ideal) S1x512x512 .bf16) :: L) (ix3 0 r q) = View.canon L (ix3 0 r q) :=
  View.canon_cons_of_not_mem _ _ (miss inb r q h)

/-- A block written a head at a time, at a position. -/
theorem wr_at (p : Fin 4 → Vec Ideal S1x512x128 .bf16) (r q : Fin 512) (d : Fin 128) : ∀ h : Fin 4, q.val = h.val * 128 + d.val →
    wr p (ix3 0 r q) = p h (ix3 0 r d)
  | ⟨0, _⟩, e => by
    have e : q.val = 0 * 128 + d.val := e
    unfold wr
    exact (canon_miss 384 _ _ _ r q (by omega)).trans ((canon_miss 256 _ _ _ r q (by omega)).trans ((canon_miss 128 _ _ _ r q (by omega)).trans (canon_hit 0 _ _ _ r q d (by omega))))
  | ⟨1, _⟩, e => by
    have e : q.val = 1 * 128 + d.val := e
    unfold wr
    exact (canon_miss 384 _ _ _ r q (by omega)).trans ((canon_miss 256 _ _ _ r q (by omega)).trans (canon_hit 128 _ _ _ r q d (by omega)))
  | ⟨2, _⟩, e => by
    have e : q.val = 2 * 128 + d.val := e
    unfold wr
    exact (canon_miss 384 _ _ _ r q (by omega)).trans (canon_hit 256 _ _ _ r q d (by omega))
  | ⟨3, _⟩, e => by
    have e : q.val = 3 * 128 + d.val := e
    unfold wr
    exact canon_hit 384 _ _ _ r q d (by omega)

/-- A head's columns at a position. -/
theorem hd_at (x : Vec Ideal S1x512x512 .f32) (r : Fin 512) (k : Fin 128) : ∀ h : Fin 4,
    hd x h (ix3 0 r k) = x (ix3 0 r (⟨h.val * 128 + k.val, by omega⟩ : Fin 512))
  | ⟨0, _⟩ => congrArg x (hit inb_S1x512x512_S1x512x128_0_0_0 r _ k (by show 0 * 128 + k.val = _; omega)).symm
  | ⟨1, _⟩ => congrArg x (hit inb_S1x512x512_S1x512x128_0_0_128 r _ k (by show 1 * 128 + k.val = _; omega)).symm
  | ⟨2, _⟩ => congrArg x (hit inb_S1x512x512_S1x512x128_0_0_256 r _ k (by show 2 * 128 + k.val = _; omega)).symm
  | ⟨3, _⟩ => congrArg x (hit inb_S1x512x512_S1x512x128_0_0_384 r _ k (by show 3 * 128 + k.val = _; omega)).symm

/-- What is written, at a position. -/
theorem qs_hd (x : Vec Ideal S1x512x512 .f32) (w : Vec Ideal S1x128 .f32) (r : Fin 512) (d : Fin 128) : ∀ h : Fin 4,
    qs x w h (ix3 0 r d) = nq (fun k => hd x h (ix3 0 r k)) (fun k => w (ix2 0 k)) d * sc
  | ⟨0, _⟩ => pay3_at _ _ _ _
  | ⟨1, _⟩ => pay8_at _ _ _ _
  | ⟨2, _⟩ => pay13_at _ _ _ _
  | ⟨3, _⟩ => pay16_at _ _ _ _
theorem ks_hd (x : Vec Ideal S1x512x512 .f32) (w : Vec Ideal S1x128 .f32) (r : Fin 512) (d : Fin 128) : ∀ h : Fin 4,
    ks x w h (ix3 0 r d) = nq (fun k => hd x h (ix3 0 r k)) (fun k => w (ix2 0 k)) d
  | ⟨0, _⟩ => pay7_at _ _ _ _
  | ⟨1, _⟩ => pay12_at _ _ _ _
  | ⟨2, _⟩ => pay14_at _ _ _ _
  | ⟨3, _⟩ => pay17_at _ _ _ _
theorem qs_at (x : Vec Ideal S1x512x512 .f32) (w : Vec Ideal S1x128 .f32) (r : Fin 512) (d : Fin 128) (h : Fin 4) :
    qs x w h (ix3 0 r d) = nq (fun k => x (ix3 0 r (⟨h.val * 128 + k.val, by omega⟩ : Fin 512))) (fun k => w (ix2 0 k)) d * sc := by
  rw [qs_hd]
  simp only [hd_at]
theorem ks_at (x : Vec Ideal S1x512x512 .f32) (w : Vec Ideal S1x128 .f32) (r : Fin 512) (d : Fin 128) (h : Fin 4) :
    ks x w h (ix3 0 r d) = nq (fun k => x (ix3 0 r (⟨h.val * 128 + k.val, by omega⟩ : Fin 512))) (fun k => w (ix2 0 k)) d := by
  rw [ks_hd]
  simp only [hd_at]

variable (m : (ℓ : Loc nD τ sig) → Buf (Elt Ideal) ℓ) (ρ : Dev nD → PrngReg)

/-- The arguments as arrays of extended reals. -/
abbrev A0 (c : Dev nD) : S32768x14336.Idx → EReal := m ((c : Thread nD τ).loc main_arg0)
abbrev A1 (c : Dev nD) : S128.Idx → EReal := m ((c : Thread nD τ).loc main_arg1)
abbrev A2 (c : Dev nD) : S128.Idx → EReal := m ((c : Thread nD τ).loc main_arg2)
abbrev A3 (c : Dev nD) : S4.Idx → EReal := m ((c : Thread nD τ).loc main_arg3)

/-- The projection by sequences, a norm's weight as a row, and the gates' bias in a row of zeros. -/
def X (a0 : S32768x14336.Idx → EReal) : S4x8192x14336.Idx → EReal := shapeCast S4x8192x14336 a0 shapeCasts_S32768x14336_S4x8192x14336
def Rw (a : S128.Idx → EReal) : S1x128.Idx → EReal := shapeCast S1x128 a shapeCasts_S128_S1x128
def Fb (a3 : S4.Idx → EReal) : S1x128.Idx → EReal :=
  Host.scatter scatter_S1x128_S2_S4_0_0_01_0 (fun _ b => b) (broadcastInDim S1x128 ![] bcast_S_S1x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) a3
theorem Rw_at (a : S128.Idx → EReal) (k : Fin 128) : Rw a (ix2 0 k) = a (ix1 k) := by
  pointwise [Rw]
theorem Fb_at (a3 : S4.Idx → EReal) (d : Fin 128) : Fb a3 (ix2 0 d) = if h : d.val < 4 then a3 (ix1 ⟨d.val, h⟩) else 0 := by
  refine (Cert.Proof.fill_row scatter_S1x128_S2_S4_0_0_01_0 rfl rfl rfl _ _ (fun q => by fin_cases q <;> rfl) a3 d).trans ?_
  show (if h : d.val < 4 then a3 (ix1 ⟨d.val, h⟩) else Ideal.ofBits .f32 0x00000000#32) = _
  rw [Ideal.ofBits_zero_f32]

theorem V_x (c : Dev nD) : V m c main_v0 = X (A0 m c) := by
  show StableHlo.after hostOps0 (fun b => m (c, b)) main_v0 = _
  simp only [hostOps0]
  after_results_simp
  rfl
theorem V_q (c : Dev nD) : V m c main_v1 = Rw (A1 m c) := by
  show StableHlo.after hostOps0 (fun b => m (c, b)) main_v1 = _
  simp only [hostOps0]
  after_results_simp
  rfl
theorem V_k (c : Dev nD) : V m c main_v2 = Rw (A2 m c) := by
  show StableHlo.after hostOps0 (fun b => m (c, b)) main_v2 = _
  simp only [hostOps0]
  after_results_simp
  rfl
theorem V_f (c : Dev nD) : V m c main_v7 = Fb (A3 m c) := by
  show StableHlo.after hostOps0 (fun b => m (c, b)) main_v7 = _
  simp only [hostOps0]
  after_results_simp
  rfl

/-- The index maps: four sequences outside, sixteen row blocks inside. -/
theorem idx0 : ∀ t : Fin cfg0.N, win0_0.index t 0 = t.val / 16 ∧ win0_0.index t 1 = t.val % 16 ∧ win0_0.index t 2 = 18 :=
  (by decide +kernel : ∀ t : Fin grid0.N, win0_0.index t 0 = t.val / 16 ∧ win0_0.index t 1 = t.val % 16 ∧ win0_0.index t 2 = 18)
theorem idx1 : ∀ t : Fin cfg0.N, win0_1.index t 0 = t.val / 16 ∧ win0_1.index t 1 = t.val % 16 ∧ win0_1.index t 2 = 19 :=
  (by decide +kernel : ∀ t : Fin grid0.N, win0_1.index t 0 = t.val / 16 ∧ win0_1.index t 1 = t.val % 16 ∧ win0_1.index t 2 = 19)
theorem idx2 : ∀ t : Fin cfg0.N, win0_2.index t 0 = t.val / 16 ∧ win0_2.index t 1 = t.val % 16 ∧ win0_2.index t 2 = 20 :=
  (by decide +kernel : ∀ t : Fin grid0.N, win0_2.index t 0 = t.val / 16 ∧ win0_2.index t 1 = t.val % 16 ∧ win0_2.index t 2 = 20)
theorem idx3 : ∀ t : Fin cfg0.N, win0_3.index t 0 = t.val / 16 ∧ win0_3.index t 1 = t.val % 16 ∧ win0_3.index t 2 = 84 :=
  (by decide +kernel : ∀ t : Fin grid0.N, win0_3.index t 0 = t.val / 16 ∧ win0_3.index t 1 = t.val % 16 ∧ win0_3.index t 2 = 84)
theorem idx7 : ∀ t : Fin cfg0.N, win0_7.index t 0 = t.val / 16 ∧ win0_7.index t 1 = t.val % 16 ∧ win0_7.index t 2 = 0 :=
  (by decide +kernel : ∀ t : Fin grid0.N, win0_7.index t 0 = t.val / 16 ∧ win0_7.index t 1 = t.val % 16 ∧ win0_7.index t 2 = 0)
theorem idx8 : ∀ t : Fin cfg0.N, win0_8.index t 0 = t.val / 16 ∧ win0_8.index t 1 = t.val % 16 ∧ win0_8.index t 2 = 0 :=
  (by decide +kernel : ∀ t : Fin grid0.N, win0_8.index t 0 = t.val / 16 ∧ win0_8.index t 1 = t.val % 16 ∧ win0_8.index t 2 = 0)
theorem idx9 : ∀ t : Fin cfg0.N, win0_9.index t 0 = t.val / 16 ∧ win0_9.index t 1 = t.val % 16 ∧ win0_9.index t 2 = 0 :=
  (by decide +kernel : ∀ t : Fin grid0.N, win0_9.index t 0 = t.val / 16 ∧ win0_9.index t 1 = t.val % 16 ∧ win0_9.index t 2 = 0)
theorem idx10 : ∀ t : Fin cfg0.N, win0_10.index t 0 = t.val / 16 ∧ win0_10.index t 1 = 0 ∧ win0_10.index t 2 = t.val % 16 :=
  (by decide +kernel : ∀ t : Fin grid0.N, win0_10.index t 0 = t.val / 16 ∧ win0_10.index t 1 = 0 ∧ win0_10.index t 2 = t.val % 16)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)

theorem lt_N (t : Fin cfg0.N) : t.val < 64 := N_0 ▸ t.isLt

/-- A point's sequence, and row `r` of its block in the sequence. -/
def bt (t : Fin cfg0.N) : Fin 4 := ⟨t.val / 16, by have := lt_N t; omega⟩
def row (t : Fin cfg0.N) (r : Fin 512) : Fin 8192 := ⟨t.val % 16 * 512 + r.val, by omega⟩

/-- The blocks' elements in the whole arrays. -/
theorem blk0 (c : Dev nD) (t : Fin cfg0.N) (r : Fin 512) (q : Fin 512) :
    iblk m c 0 t (ix3 0 r q) = V m c main_v0 (ix3 (bt t) (row t r) (⟨9216 + q.val, by omega⟩ : Fin 14336)) := by
  show V m c main_v0 (((cfg0.win 0).blk t).view.emb (ix3 0 r q)) = _
  congr 1; funext a; apply Fin.ext
  match a with
  | ⟨0, _⟩ => show win0_0.index t 0 * 1 + 1 * 0 = t.val / 16; rw [(idx0 t).1]; omega
  | ⟨1, _⟩ => show win0_0.index t 1 * 512 + 1 * r.val = t.val % 16 * 512 + r.val; rw [(idx0 t).2.1]; omega
  | ⟨2, _⟩ => show win0_0.index t 2 * 512 + 1 * q.val = 9216 + q.val; rw [(idx0 t).2.2]; omega
theorem blk1 (c : Dev nD) (t : Fin cfg0.N) (r : Fin 512) (q : Fin 512) :
    iblk m c 1 t (ix3 0 r q) = V m c main_v0 (ix3 (bt t) (row t r) (⟨9728 + q.val, by omega⟩ : Fin 14336)) := by
  show V m c main_v0 (((cfg0.win 1).blk t).view.emb (ix3 0 r q)) = _
  congr 1; funext a; apply Fin.ext
  match a with
  | ⟨0, _⟩ => show win0_1.index t 0 * 1 + 1 * 0 = t.val / 16; rw [(idx1 t).1]; omega
  | ⟨1, _⟩ => show win0_1.index t 1 * 512 + 1 * r.val = t.val % 16 * 512 + r.val; rw [(idx1 t).2.1]; omega
  | ⟨2, _⟩ => show win0_1.index t 2 * 512 + 1 * q.val = 9728 + q.val; rw [(idx1 t).2.2]; omega
theorem blk2 (c : Dev nD) (t : Fin cfg0.N) (r : Fin 512) (q : Fin 512) :
    iblk m c 2 t (ix3 0 r q) = V m c main_v0 (ix3 (bt t) (row t r) (⟨10240 + q.val, by omega⟩ : Fin 14336)) := by
  show V m c main_v0 (((cfg0.win 2).blk t).view.emb (ix3 0 r q)) = _
  congr 1; funext a; apply Fin.ext
  match a with
  | ⟨0, _⟩ => show win0_2.index t 0 * 1 + 1 * 0 = t.val / 16; rw [(idx2 t).1]; omega
  | ⟨1, _⟩ => show win0_2.index t 1 * 512 + 1 * r.val = t.val % 16 * 512 + r.val; rw [(idx2 t).2.1]; omega
  | ⟨2, _⟩ => show win0_2.index t 2 * 512 + 1 * q.val = 10240 + q.val; rw [(idx2 t).2.2]; omega
theorem blk3 (c : Dev nD) (t : Fin cfg0.N) (r : Fin 512) (q : Fin 128) :
    iblk m c 3 t (ix3 0 r q) = V m c main_v0 (ix3 (bt t) (row t r) (⟨10752 + q.val, by omega⟩ : Fin 14336)) := by
  show V m c main_v0 (((cfg0.win 3).blk t).view.emb (ix3 0 r q)) = _
  congr 1; funext a; apply Fin.ext
  match a with
  | ⟨0, _⟩ => show win0_3.index t 0 * 1 + 1 * 0 = t.val / 16; rw [(idx3 t).1]; omega
  | ⟨1, _⟩ => show win0_3.index t 1 * 512 + 1 * r.val = t.val % 16 * 512 + r.val; rw [(idx3 t).2.1]; omega
  | ⟨2, _⟩ => show win0_3.index t 2 * 128 + 1 * q.val = 10752 + q.val; rw [(idx3 t).2.2]; omega
theorem blk4 (c : Dev nD) (t : Fin cfg0.N) (k : Fin 128) :
    iblk m c 4 t (ix2 0 k) = V m c main_v1 (ix2 0 k) := by
  show V m c main_v1 (((cfg0.win 4).blk t).view.emb (ix2 0 k)) = _
  congr 1; funext a; apply Fin.ext
  match a with
  | ⟨0, _⟩ => show win0_4.index t 0 * 1 + 1 * 0 = 0; rw [(idx4 t).1]
  | ⟨1, _⟩ => show win0_4.index t 1 * 128 + 1 * k.val = k.val; rw [(idx4 t).2]; omega
theorem blk5 (c : Dev nD) (t : Fin cfg0.N) (k : Fin 128) :
    iblk m c 5 t (ix2 0 k) = V m c main_v2 (ix2 0 k) := by
  show V m c main_v2 (((cfg0.win 5).blk t).view.emb (ix2 0 k)) = _
  congr 1; funext a; apply Fin.ext
  match a with
  | ⟨0, _⟩ => show win0_5.index t 0 * 1 + 1 * 0 = 0; rw [(idx5 t).1]
  | ⟨1, _⟩ => show win0_5.index t 1 * 128 + 1 * k.val = k.val; rw [(idx5 t).2]; omega
theorem blk6 (c : Dev nD) (t : Fin cfg0.N) (k : Fin 128) :
    iblk m c 6 t (ix2 0 k) = V m c main_v7 (ix2 0 k) := by
  show V m c main_v7 (((cfg0.win 6).blk t).view.emb (ix2 0 k)) = _
  congr 1; funext a; apply Fin.ext
  match a with
  | ⟨0, _⟩ => show win0_6.index t 0 * 1 + 1 * 0 = 0; rw [(idx6 t).1]
  | ⟨1, _⟩ => show win0_6.index t 1 * 128 + 1 * k.val = k.val; rw [(idx6 t).2]; omega

/-- The logarithm's argument, for a lane of the scratch and for one of the eight written. -/
def Z (a0 : S32768x14336.Idx → EReal) (a3 : S4.Idx → EReal) (b : Fin 4) (s : Fin 8192) (j : Fin 128) : EReal :=
  X a0 (ix3 b s (⟨10752 + j.val, by omega⟩ : Fin 14336)) + if h : j.val < 4 then a3 (ix1 ⟨j.val, h⟩) else 0
def up (j : Fin 8) : Fin 128 := ⟨j.val, by omega⟩

/-- The results of the arguments. -/
def Gq (a0 : S32768x14336.Idx → EReal) (a1 : S128.Idx → EReal) : S4x8192x512.Idx → EReal := fun j =>
  nq (fun k : Fin 128 => X a0 (ix3 (j 0) (j 1) (⟨9216 + ((j 2).val / 128 * 128 + k.val), by have h : (j 2).val < 512 := (j 2).isLt; omega⟩ : Fin 14336)))
    (fun k => a1 (ix1 k)) ⟨(j 2).val % 128, Nat.mod_lt _ (by decide)⟩ * sc
def Gk (a0 : S32768x14336.Idx → EReal) (a2 : S128.Idx → EReal) : S4x8192x512.Idx → EReal := fun j =>
  nq (fun k : Fin 128 => X a0 (ix3 (j 0) (j 1) (⟨9728 + ((j 2).val / 128 * 128 + k.val), by have h : (j 2).val < 512 := (j 2).isLt; omega⟩ : Fin 14336)))
    (fun k => a2 (ix1 k)) ⟨(j 2).val % 128, Nat.mod_lt _ (by decide)⟩
def Gv (a0 : S32768x14336.Idx → EReal) : S4x8192x512.Idx → EReal := fun j =>
  X a0 (ix3 (j 0) (j 1) (⟨10240 + (j 2).val, by have h : (j 2).val < 512 := (j 2).isLt; omega⟩ : Fin 14336))
def Gc (a0 : S32768x14336.Idx → EReal) (a3 : S4.Idx → EReal) : S4x8x8192.Idx → EReal := fun j =>
  ∑ r : Fin 8192, if r.val ≤ (j 2).val then lf (Z a0 a3 (j 0) r (up (j 1))) else 0
theorem Gc_at (a0 : S32768x14336.Idx → EReal) (a3 : S4.Idx → EReal) (b : Fin 4) (j : Fin 8) (s : Fin 8192) :
    Gc a0 a3 (ix3 b j s) = ∑ r : Fin 8192, if r.val ≤ s.val then lf (Z a0 a3 b r (up j)) else 0 := rfl

/-- The queries', the keys' and the values' blocks. -/
theorem q_eq (c : Dev nD) (t : Fin cfg0.N) (r q : Fin 512) :
    wr (qs (iblk m c 0 t) (iblk m c 4 t)) (ix3 0 r q) = Gq (A0 m c) (A1 m c) (ix3 (bt t) (row t r) q) := by
  rw [wr_at _ r q ⟨q.val % 128, Nat.mod_lt _ (by decide)⟩ ⟨q.val / 128, by omega⟩ (by show q.val = q.val / 128 * 128 + q.val % 128; omega), qs_at]
  unfold Gq
  refine congrArg₂ (fun f g => nq f g _ * sc) (funext fun k => ?_) (funext fun k => ?_)
  · rw [blk0, V_x]; rfl
  · rw [blk4, V_q, Rw_at]
theorem k_eq (c : Dev nD) (t : Fin cfg0.N) (r q : Fin 512) :
    wr (ks (iblk m c 1 t) (iblk m c 5 t)) (ix3 0 r q) = Gk (A0 m c) (A2 m c) (ix3 (bt t) (row t r) q) := by
  rw [wr_at _ r q ⟨q.val % 128, Nat.mod_lt _ (by decide)⟩ ⟨q.val / 128, by omega⟩ (by show q.val = q.val / 128 * 128 + q.val % 128; omega), ks_at]
  unfold Gk
  refine congrArg₂ (fun f g => nq f g _) (funext fun k => ?_) (funext fun k => ?_)
  · rw [blk1, V_x]; rfl
  · rw [blk5, V_k, Rw_at]
theorem v_eq (c : Dev nD) (t : Fin cfg0.N) (r q : Fin 512) :
    k0_pay18 (iblk m c 2 t) (ix3 0 r q) = Gv (A0 m c) (ix3 (bt t) (row t r) q) := by
  rw [pay18_at, blk2, V_x]
  rfl

/-- The logarithms one after another, and their sums. -/
def zn (a0 : S32768x14336.Idx → EReal) (a3 : S4.Idx → EReal) (b : Fin 4) (j : Fin 128) (s : ℕ) : EReal :=
  if h : s < 8192 then lf (Z a0 a3 b ⟨s, h⟩ j) else 0
def ctv (a0 : S32768x14336.Idx → EReal) (a3 : S4.Idx → EReal) (b : Fin 4) (j : Fin 128) (n : ℕ) : EReal :=
  ∑ x ∈ Finset.range n, zn a0 a3 b j x
theorem ctv_eq (a0 : S32768x14336.Idx → EReal) (a3 : S4.Idx → EReal) (b : Fin 4) (j : Fin 8) (s : Fin 8192) :
    ctv a0 a3 b (up j) (s.val + 1) = Gc a0 a3 (ix3 b j s) := by
  rw [Gc_at]
  unfold ctv
  rw [← Cert.Proof.sum_le (N := 8192) (zn a0 a3 b (up j)) s.val s.isLt]
  refine Finset.sum_congr rfl fun r _ => ?_
  unfold zn
  rw [dif_pos r.isLt]

/-- The gates of a block. -/
theorem blkv (c : Dev nD) (t : Fin cfg0.N) (r : Fin 512) (d : Fin 128) :
    k0_pay19 (iblk m c 3 t) (iblk m c 6 t) (ix2 r d) = Z (A0 m c) (A3 m c) (bt t) (row t r) d := by
  rw [pay19_at, blk3, blk6, V_x, V_f, Fb_at]
  rfl

/-- A block's sums over what came before. -/
theorem pay20_blk (c : Dev nD) (t : Fin cfg0.N) (o : Vec Ideal S1x128 .f32) (r : Fin 512) (d : Fin 128)
    (ho : o (ix2 0 d) = ctv (A0 m c) (A3 m c) (bt t) d (t.val % 16 * 512)) :
    k0_pay20 (k0_pay19 (iblk m c 3 t) (iblk m c 6 t)) o (ix2 r d) = ctv (A0 m c) (A3 m c) (bt t) d (t.val % 16 * 512 + (r.val + 1)) := by
  rw [pay20_sum, ho]
  have e : (∑ s : Fin 512, if s.val ≤ r.val then lf (k0_pay19 (iblk m c 3 t) (iblk m c 6 t) (ix2 s d)) else 0)
      = ∑ x ∈ Finset.range (r.val + 1), zn (A0 m c) (A3 m c) (bt t) d (t.val % 16 * 512 + x) := by
    rw [← Cert.Proof.sum_le (N := 512) (fun x => zn (A0 m c) (A3 m c) (bt t) d (t.val % 16 * 512 + x)) r.val r.isLt]
    refine Finset.sum_congr rfl fun s _ => ?_
    rw [blkv]
    show _ = if s.val ≤ r.val then zn (A0 m c) (A3 m c) (bt t) d (row t s).val else 0
    unfold zn
    rw [dif_pos (row t s).isLt]
  rw [e]
  unfold ctv
  rw [Finset.sum_range_add (zn (A0 m c) (A3 m c) (bt t) d) (t.val % 16 * 512) (r.val + 1), add_comm]

/-- The start of a sequence. -/
theorem row0_zero (c : Dev nD) (t : Fin cfg0.N) (h0 : t.val % 16 = 0) (d : Fin 128) :
    row0 (k0_pay2 (F := Ideal)) (ix2 0 d) = ctv (A0 m c) (A3 m c) (bt t) d (t.val % 16 * 512) := by
  rw [row0_at, pay2_at, h0]
  unfold ctv
  rw [Nat.zero_mul, Finset.range_zero, Finset.sum_empty]

/-- What the scratch's first row holds after a point. -/
theorem scratch (c : Dev nD) : ∀ (n : ℕ) (h : n < cfg0.N) (d : Fin 128),
    (outsAt0 m c n h).2.2.2.2 (ix2 0 d) = ctv (A0 m c) (A3 m c) (bt ⟨n, h⟩) d (n % 16 * 512 + 512)
  | 0, h, d => by
    rw [outsAt0_A m c ⟨0, h⟩ rfl]
    dsimp only
    rw [sout_A, pay21_at, pay20_blk m c ⟨0, h⟩ _ _ d (row0_zero m c ⟨0, h⟩ rfl d)]
    rfl
  | n + 1, h, d => by
    by_cases h0 : (n + 1) % 16 = 0
    · rw [outsAt0_A m c ⟨n + 1, h⟩ h0]
      dsimp only
      rw [sout_A, pay21_at, pay20_blk m c ⟨n + 1, h⟩ _ _ d (row0_zero m c ⟨n + 1, h⟩ h0 d)]
      rfl
    · rw [outsAt0_B m c ⟨n + 1, h⟩ h0]
      dsimp only
      rw [sout_B, pay21_at, pay20_blk m c ⟨n + 1, h⟩ _ _ d ?_]
      · rfl
      · rw [row0_at]
        refine (scratch c n (Nat.lt_of_succ_lt h) d).trans ?_
        have e1 : bt ⟨n, Nat.lt_of_succ_lt h⟩ = bt ⟨n + 1, h⟩ := Fin.ext (by show n / 16 = (n + 1) / 16; omega)
        have e2 : n % 16 * 512 + 512 = (n + 1) % 16 * 512 := by omega
        rw [e1, e2]

/-- The cumulated gates' blocks. -/
theorem c_eq (c : Dev nD) (t : Fin cfg0.N) (o : Vec Ideal S1x128 .f32) (j : Fin 8) (r : Fin 512)
    (ho : ∀ d : Fin 128, o (ix2 0 d) = ctv (A0 m c) (A3 m c) (bt t) d (t.val % 16 * 512)) :
    k0_pay1 (k0_pay22 (k0_pay19 (iblk m c 3 t) (iblk m c 6 t)) o) (ix3 0 j r) = Gc (A0 m c) (A3 m c) (ix3 (bt t) j (row t r)) := by
  rw [pay22_at, pay20_blk m c t o r _ (ho _), ← ctv_eq]
  rfl

theorem one3 {B C : ℕ} (y : (⟨3, ![1, B, C]⟩ : Shape).Idx) : ∃ (r : Fin B) (q : Fin C), y = ix3 0 r q :=
  ⟨y 1, y 2, (eq_ix3 y).trans (congrArg (fun z => (ix3 z (y 1) (y 2) : (⟨3, ![1, B, C]⟩ : Shape).Idx)) (Subsingleton.elim (α := Fin 1) _ _))⟩

theorem emb7 (t : Fin cfg0.N) (r q : Fin 512) :
    ((cfg0.win 7).blk t).view.emb (ix3 0 r q) = (ix3 (bt t) (row t r) q : S4x8192x512.Idx) := by
  funext a; apply Fin.ext
  match a with
  | ⟨0, _⟩ => show win0_7.index t 0 * 1 + 1 * 0 = t.val / 16; rw [(idx7 t).1]; omega
  | ⟨1, _⟩ => show win0_7.index t 1 * 512 + 1 * r.val = t.val % 16 * 512 + r.val; rw [(idx7 t).2.1]; omega
  | ⟨2, _⟩ => show win0_7.index t 2 * 512 + 1 * q.val = q.val; rw [(idx7 t).2.2]; omega
theorem emb8 (t : Fin cfg0.N) (r q : Fin 512) :
    ((cfg0.win 8).blk t).view.emb (ix3 0 r q) = (ix3 (bt t) (row t r) q : S4x8192x512.Idx) := by
  funext a; apply Fin.ext
  match a with
  | ⟨0, _⟩ => show win0_8.index t 0 * 1 + 1 * 0 = t.val / 16; rw [(idx8 t).1]; omega
  | ⟨1, _⟩ => show win0_8.index t 1 * 512 + 1 * r.val = t.val % 16 * 512 + r.val; rw [(idx8 t).2.1]; omega
  | ⟨2, _⟩ => show win0_8.index t 2 * 512 + 1 * q.val = q.val; rw [(idx8 t).2.2]; omega
theorem emb9 (t : Fin cfg0.N) (r q : Fin 512) :
    ((cfg0.win 9).blk t).view.emb (ix3 0 r q) = (ix3 (bt t) (row t r) q : S4x8192x512.Idx) := by
  funext a; apply Fin.ext
  match a with
  | ⟨0, _⟩ => show win0_9.index t 0 * 1 + 1 * 0 = t.val / 16; rw [(idx9 t).1]; omega
  | ⟨1, _⟩ => show win0_9.index t 1 * 512 + 1 * r.val = t.val % 16 * 512 + r.val; rw [(idx9 t).2.1]; omega
  | ⟨2, _⟩ => show win0_9.index t 2 * 512 + 1 * q.val = q.val; rw [(idx9 t).2.2]; omega
theorem emb10 (t : Fin cfg0.N) (j : Fin 8) (r : Fin 512) :
    ((cfg0.win 10).blk t).view.emb (ix3 0 j r) = (ix3 (bt t) j (row t r) : S4x8x8192.Idx) := by
  funext a; apply Fin.ext
  match a with
  | ⟨0, _⟩ => show win0_10.index t 0 * 1 + 1 * 0 = t.val / 16; rw [(idx10 t).1]; omega
  | ⟨1, _⟩ => show win0_10.index t 1 * 8 + 1 * j.val = j.val; rw [(idx10 t).2.1]; omega
  | ⟨2, _⟩ => show win0_10.index t 2 * 512 + 1 * r.val = t.val % 16 * 512 + r.val; rw [(idx10 t).2.2]; omega

/-- What every point writes back is its block of the result, the blocks cover the result, and so the result array after the run. -/
theorem flushed7_eq (c : Dev nD) (t : Fin cfg0.N) :
    (dats m 0 c).flushed 7 t = ((cfg0.win 7).blk t).view.read (Elt Ideal) (Gq (A0 m c) (A1 m c)) := by
  by_cases h0 : t.val % 16 = 0
  · rw [Value.flushed7_A m c t h0, out7_A]
    funext y
    obtain ⟨r, q, rfl⟩ := one3 y
    show wr (qs (iblk m c 0 t) (iblk m c 4 t)) (ix3 0 r q) = Gq (A0 m c) (A1 m c) (((cfg0.win 7).blk t).view.emb (ix3 0 r q))
    rw [emb7]
    exact q_eq m c t r q
  · rw [Value.flushed7_B m c t h0, out7_B]
    funext y
    obtain ⟨r, q, rfl⟩ := one3 y
    show wr (qs (iblk m c 0 t) (iblk m c 4 t)) (ix3 0 r q) = Gq (A0 m c) (A1 m c) (((cfg0.win 7).blk t).view.emb (ix3 0 r q))
    rw [emb7]
    exact q_eq m c t r q
theorem final7 (c : Dev nD) : (dats m 0 c).arrAt 7 cfg0.N = Gq (A0 m c) (A1 m c) :=
  (dats m 0 c).arrAt_eq_of_cover 7 (Gq (A0 m c) (A1 m c)) (fun t _ => flushed7_eq m c t) fun i => (Value.covered_iff7 i).2 (by
    have h0 : (i 0).val < 4 := (i 0).isLt
    have h1 : (i 1).val < 8192 := (i 1).isLt
    have h2 : (i 2).val < 512 := (i 2).isLt
    omega)
theorem flushed8_eq (c : Dev nD) (t : Fin cfg0.N) :
    (dats m 0 c).flushed 8 t = ((cfg0.win 8).blk t).view.read (Elt Ideal) (Gk (A0 m c) (A2 m c)) := by
  by_cases h0 : t.val % 16 = 0
  · rw [Value.flushed8_A m c t h0, out8_A]
    funext y
    obtain ⟨r, q, rfl⟩ := one3 y
    show wr (ks (iblk m c 1 t) (iblk m c 5 t)) (ix3 0 r q) = Gk (A0 m c) (A2 m c) (((cfg0.win 8).blk t).view.emb (ix3 0 r q))
    rw [emb8]
    exact k_eq m c t r q
  · rw [Value.flushed8_B m c t h0, out8_B]
    funext y
    obtain ⟨r, q, rfl⟩ := one3 y
    show wr (ks (iblk m c 1 t) (iblk m c 5 t)) (ix3 0 r q) = Gk (A0 m c) (A2 m c) (((cfg0.win 8).blk t).view.emb (ix3 0 r q))
    rw [emb8]
    exact k_eq m c t r q
theorem final8 (c : Dev nD) : (dats m 0 c).arrAt 8 cfg0.N = Gk (A0 m c) (A2 m c) :=
  (dats m 0 c).arrAt_eq_of_cover 8 (Gk (A0 m c) (A2 m c)) (fun t _ => flushed8_eq m c t) fun i => (Value.covered_iff8 i).2 (by
    have h0 : (i 0).val < 4 := (i 0).isLt
    have h1 : (i 1).val < 8192 := (i 1).isLt
    have h2 : (i 2).val < 512 := (i 2).isLt
    omega)
theorem flushed9_eq (c : Dev nD) (t : Fin cfg0.N) :
    (dats m 0 c).flushed 9 t = ((cfg0.win 9).blk t).view.read (Elt Ideal) (Gv (A0 m c)) := by
  by_cases h0 : t.val % 16 = 0
  · rw [Value.flushed9_A m c t h0, out9_A]
    funext y
    obtain ⟨r, q, rfl⟩ := one3 y
    show k0_pay18 (iblk m c 2 t) (ix3 0 r q) = Gv (A0 m c) (((cfg0.win 9).blk t).view.emb (ix3 0 r q))
    rw [emb9]
    exact v_eq m c t r q
  · rw [Value.flushed9_B m c t h0, out9_B]
    funext y
    obtain ⟨r, q, rfl⟩ := one3 y
    show k0_pay18 (iblk m c 2 t) (ix3 0 r q) = Gv (A0 m c) (((cfg0.win 9).blk t).view.emb (ix3 0 r q))
    rw [emb9]
    exact v_eq m c t r q
theorem final9 (c : Dev nD) : (dats m 0 c).arrAt 9 cfg0.N = Gv (A0 m c) :=
  (dats m 0 c).arrAt_eq_of_cover 9 (Gv (A0 m c)) (fun t _ => flushed9_eq m c t) fun i => (Value.covered_iff9 i).2 (by
    have h0 : (i 0).val < 4 := (i 0).isLt
    have h1 : (i 1).val < 8192 := (i 1).isLt
    have h2 : (i 2).val < 512 := (i 2).isLt
    omega)
theorem flushed10_eq (c : Dev nD) (t : Fin cfg0.N) :
    (dats m 0 c).flushed 10 t = ((cfg0.win 10).blk t).view.read (Elt Ideal) (Gc (A0 m c) (A3 m c)) := by
  by_cases h0 : t.val % 16 = 0
  · rw [Value.flushed10_A m c t h0, out10_A]
    funext y
    obtain ⟨j, r, rfl⟩ := one3 y
    show k0_pay1 (k0_pay22 (k0_pay19 (iblk m c 3 t) (iblk m c 6 t)) (row0 (k0_pay2 (F := Ideal)))) (ix3 0 j r)
      = Gc (A0 m c) (A3 m c) (((cfg0.win 10).blk t).view.emb (ix3 0 j r))
    rw [emb10]
    exact c_eq m c t _ j r (row0_zero m c t h0)
  · rw [Value.flushed10_B m c t h0, out10_B]
    funext y
    obtain ⟨j, r, rfl⟩ := one3 y
    show k0_pay1 (k0_pay22 (k0_pay19 (iblk m c 3 t) (iblk m c 6 t)) (row0 (outsAt0 m c (t.val - 1) (Nat.lt_of_le_of_lt (Nat.sub_le _ _) t.isLt)).2.2.2.2)) (ix3 0 j r)
      = Gc (A0 m c) (A3 m c) (((cfg0.win 10).blk t).view.emb (ix3 0 j r))
    rw [emb10]
    refine c_eq m c t _ j r fun d => ?_
    rw [row0_at]
    refine (scratch m c _ _ d).trans ?_
    have e1 : bt ⟨t.val - 1, Nat.lt_of_le_of_lt (Nat.sub_le _ _) t.isLt⟩ = bt t := Fin.ext (by show (t.val - 1) / 16 = t.val / 16; omega)
    have e2 : (t.val - 1) % 16 * 512 + 512 = t.val % 16 * 512 := by omega
    rw [e1, e2]
theorem final10 (c : Dev nD) : (dats m 0 c).arrAt 10 cfg0.N = Gc (A0 m c) (A3 m c) :=
  (dats m 0 c).arrAt_eq_of_cover 10 (Gc (A0 m c) (A3 m c)) (fun t _ => flushed10_eq m c t) fun i => (Value.covered_iff10 i).2 (by
    have h0 : (i 0).val < 4 := (i 0).isLt
    have h1 : (i 1).val < 8 := (i 1).isLt
    have h2 : (i 2).val < 8192 := (i 2).isLt
    omega)

end Cert.PrepIdeal.Val

end
-- ==== Proof.PrepValue.lean ====
/-
  The forgetting attention's preparation: the heads' norms and the cumulated gates of the kernel are those of the reference.
-/
module

public import proofs.«01_k».proof.Proof.PrepArrays
public import proofs.«01_k».proof.Proof.Gen.Prep.Frame
public import proofs.«01_k».proof.Proof.Gen.PrepRefIdeal.Run

@[expose] public section

set_option maxRecDepth 16384

noncomputable section

namespace Cert.PrepRefIdeal.Val

open Cert.PrepRefIdeal Cert.PrepRefIdeal.Gen Idealize.ShloMosaic Idealize.ShloMosaic.TcCoe Idealize.SL.Sem

/-- The reference's results of its arguments. -/
def refQ (a0 : FVec Ideal S32768x14336 .f32) (a1 : FVec Ideal S128 .f32) : FVec Ideal S4x8192x512 .bf16 :=
  truncf .bf16 (shapeCast _ (Host.divf (mulf (mulf (shapeCast _ (extractStridedSlice S4x8192x512 ![0, 0, 9216] (shapeCast _ a0 shapeCasts_S32768x14336_S4x8192x14336) slices_S4x8192x14336_S4x8192x512_0_0_9216) shapeCasts_S4x8192x512_S4x8192x4x128) (broadcastInDim S4x8192x4x128 ![0, 1, 2, 3] bcast_S4x8192x4x1_S4x8192x4x128_0_1_2_3 (Host.rsqrt (addf (Host.divf (broadcastInDim S4x8192x4x1 ![0, 1, 2] bcast_S4x8192x4_S4x8192x4x1_0_1_2 (Host.reduceAdd (mulf (shapeCast _ (extractStridedSlice S4x8192x512 ![0, 0, 9216] (shapeCast _ a0 shapeCasts_S32768x14336_S4x8192x14336) slices_S4x8192x14336_S4x8192x512_0_0_9216) shapeCasts_S4x8192x512_S4x8192x4x128) (shapeCast _ (extractStridedSlice S4x8192x512 ![0, 0, 9216] (shapeCast _ a0 shapeCasts_S32768x14336_S4x8192x14336) slices_S4x8192x14336_S4x8192x512_0_0_9216) shapeCasts_S4x8192x512_S4x8192x4x128)) (constant S_ .f32 0x00000000#32) reducesTo_S4x8192x4x128_S4x8192x4_d3 h_S_)) (broadcastInDim S4x8192x4x1 ![] bcast_S_S4x8192x4x1 (constant S_ .f32 0x43000000#32))) (broadcastInDim S4x8192x4x1 ![] bcast_S_S4x8192x4x1 (constant S_ .f32 0x358637BD#32)))))) (broadcastInDim S4x8192x4x128 ![0, 1, 2, 3] bcast_S1x1x1x128_S4x8192x4x128_0_1_2_3 (broadcastInDim S1x1x1x128 ![3] bcast_S128_S1x1x1x128_3 a1))) (broadcastInDim S4x8192x4x128 ![] bcast_S_S4x8192x4x128 (Host.sqrt (constant S_ .f32 0x43000000#32)))) shapeCasts_S4x8192x4x128_S4x8192x512) bitsLt_bf16_f32
def refK (a0 : FVec Ideal S32768x14336 .f32) (a2 : FVec Ideal S128 .f32) : FVec Ideal S4x8192x512 .bf16 :=
  truncf .bf16 (shapeCast _ (mulf (mulf (shapeCast _ (extractStridedSlice S4x8192x512 ![0, 0, 9728] (shapeCast _ a0 shapeCasts_S32768x14336_S4x8192x14336) slices_S4x8192x14336_S4x8192x512_0_0_9728) shapeCasts_S4x8192x512_S4x8192x4x128) (broadcastInDim S4x8192x4x128 ![0, 1, 2, 3] bcast_S4x8192x4x1_S4x8192x4x128_0_1_2_3 (Host.rsqrt (addf (Host.divf (broadcastInDim S4x8192x4x1 ![0, 1, 2] bcast_S4x8192x4_S4x8192x4x1_0_1_2 (Host.reduceAdd (mulf (shapeCast _ (extractStridedSlice S4x8192x512 ![0, 0, 9728] (shapeCast _ a0 shapeCasts_S32768x14336_S4x8192x14336) slices_S4x8192x14336_S4x8192x512_0_0_9728) shapeCasts_S4x8192x512_S4x8192x4x128) (shapeCast _ (extractStridedSlice S4x8192x512 ![0, 0, 9728] (shapeCast _ a0 shapeCasts_S32768x14336_S4x8192x14336) slices_S4x8192x14336_S4x8192x512_0_0_9728) shapeCasts_S4x8192x512_S4x8192x4x128)) (constant S_ .f32 0x00000000#32) reducesTo_S4x8192x4x128_S4x8192x4_d3 h_S_)) (broadcastInDim S4x8192x4x1 ![] bcast_S_S4x8192x4x1 (constant S_ .f32 0x43000000#32))) (broadcastInDim S4x8192x4x1 ![] bcast_S_S4x8192x4x1 (constant S_ .f32 0x358637BD#32)))))) (broadcastInDim S4x8192x4x128 ![0, 1, 2, 3] bcast_S1x1x1x128_S4x8192x4x128_0_1_2_3 (broadcastInDim S1x1x1x128 ![3] bcast_S128_S1x1x1x128_3 a2))) shapeCasts_S4x8192x4x128_S4x8192x512) bitsLt_bf16_f32
def refV (a0 : FVec Ideal S32768x14336 .f32) : FVec Ideal S4x8192x512 .bf16 :=
  truncf .bf16 (extractStridedSlice S4x8192x512 ![0, 0, 10240] (shapeCast _ a0 shapeCasts_S32768x14336_S4x8192x14336) slices_S4x8192x14336_S4x8192x512_0_0_10240) bitsLt_bf16_f32
def gateV (a0 : FVec Ideal S32768x14336 .f32) (a3 : FVec Ideal S4 .f32) : FVec Ideal S4x8192x8 .f32 :=
  addf (extractStridedSlice S4x8192x8 ![0, 0, 10752] (shapeCast S4x8192x14336 a0 shapeCasts_S32768x14336_S4x8192x14336) slices_S4x8192x14336_S4x8192x8_0_0_10752) (broadcastInDim S4x8192x8 ![0, 1, 2] bcast_S1x1x8_S4x8192x8_0_1_2 (broadcastInDim S1x1x8 ![2] bcast_S8_S1x1x8_2 (pad S8 ![0] ![4] ![0] a3 (sitofp .f32 (constantI S_ 32 0#32)) pads_S4_S8_040 h_S_)))
def logV (z : FVec Ideal S4x8192x8 .f32) : FVec Ideal S4x8192x8 .f32 :=
  Host.negf (select (cmpf .une (subf (Host.negf z) (broadcastInDim S4x8192x8 ![] bcast_S_S4x8192x8 (constant S_ .f32 0x00000000#32))) (subf (Host.negf z) (broadcastInDim S4x8192x8 ![] bcast_S_S4x8192x8 (constant S_ .f32 0x00000000#32)))) (addf (Host.negf z) (broadcastInDim S4x8192x8 ![] bcast_S_S4x8192x8 (constant S_ .f32 0x00000000#32))) (addf (maximumf (Host.negf z) (broadcastInDim S4x8192x8 ![] bcast_S_S4x8192x8 (constant S_ .f32 0x00000000#32))) (Host.log1p (Host.exp (Host.negf (Host.absf (subf (Host.negf z) (broadcastInDim S4x8192x8 ![] bcast_S_S4x8192x8 (constant S_ .f32 0x00000000#32)))))))))
def cumV (x : FVec Ideal S4x8192x8 .f32) : FVec Ideal S4x8192x8 .f32 :=
  Host.reduceWindowAdd ![1, 8192, 1] ![1, 1, 1] ![0, 8191, 0] ![0, 0, 0] x (broadcastInDim S_ ![] bcast_S_S_ (constant S_ .f32 0x00000000#32)) reduceWindows_S4x8192x8_S4x8192x8_w1s1p0_0_w8192s1p8191_0_w1s1p0_0 h_S_
def refC (a0 : FVec Ideal S32768x14336 .f32) (a3 : FVec Ideal S4 .f32) : FVec Ideal S4x8x8192 .f32 :=
  transpose S4x8x8192 [0, 2, 1] (cumV (logV (gateV a0 a3))) transposes_S4x8192x8_S4x8x8192_0_2_1

open Cert.PrepIdeal.Val (nq sc lf X)

/-- A quotient by the root of 128 is a product with the kernel's factor. -/
theorem div_sqrt (x : EReal) : Ideal.div x (Ideal.sqrt (Ideal.ofBits .f32 0x43000000#32)) = x * sc := by
  have e : Ideal.ofBits .f32 0x43000000#32 = ((128 : ℝ) : EReal) := by
    simp [Ideal.ofBits, Ideal.ieee, -EReal.coe_mul]; norm_num
  rw [e, Cert.PrepIdeal.Val.sc_eq, Ideal.sqrt_coe, if_neg (by norm_num : ¬(128 : ℝ) < 0),
    Ideal.div_coe (show Real.sqrt 128 ≠ 0 from (Real.sqrt_pos.mpr (by norm_num)).ne'), one_div]

theorem refQ_at (a0 : FVec Ideal S32768x14336 .f32) (a1 : FVec Ideal S128 .f32) (b : Fin 4) (s : Fin 8192) (q : Fin 512) :
    refQ a0 a1 (ix3 b s q) = Cert.PrepIdeal.Val.Gq a0 a1 (ix3 b s q) := by
  pointwise [refQ, Cert.PrepIdeal.Val.Gq, nq, X]
  have e : q.val / 128 * 128 + q.val % 128 = q.val := by omega
  simp only [e]
  exact div_sqrt _
theorem refK_at (a0 : FVec Ideal S32768x14336 .f32) (a2 : FVec Ideal S128 .f32) (b : Fin 4) (s : Fin 8192) (q : Fin 512) :
    refK a0 a2 (ix3 b s q) = Cert.PrepIdeal.Val.Gk a0 a2 (ix3 b s q) := by
  pointwise [refK, Cert.PrepIdeal.Val.Gk, nq, X]
  have e : q.val / 128 * 128 + q.val % 128 = q.val := by omega
  simp only [e]
theorem refV_at (a0 : FVec Ideal S32768x14336 .f32) (b : Fin 4) (s : Fin 8192) (q : Fin 512) :
    refV a0 (ix3 b s q) = Cert.PrepIdeal.Val.Gv a0 (ix3 b s q) := by
  pointwise [refV, Cert.PrepIdeal.Val.Gv, X]

/-- The padding word is zero. -/
theorem sitofp_zero : FloatOps.sitofp (F := Ideal) .f32 (0#32) = (0 : EReal) := by
  show (((0#32 : BitVec 32).toInt : ℝ) : EReal) = 0
  rw [show (0#32 : BitVec 32).toInt = 0 from rfl, Int.cast_zero, EReal.coe_zero]
theorem dite_pad {P Q : Prop} [Decidable P] [Decidable Q] (hpq : P ↔ Q) (f : Q → EReal) (z : EReal) (hz : z = 0) :
    (if h : P then f (hpq.mp h) else z) = if h : Q then f h else 0 := by
  subst hz
  by_cases h : Q
  · rw [dif_pos h, dif_pos (hpq.mpr h)]
  · rw [dif_neg h, dif_neg fun e => h (hpq.mp e)]

theorem gateV_at (a0 : FVec Ideal S32768x14336 .f32) (a3 : FVec Ideal S4 .f32) (b : Fin 4) (s : Fin 8192) (j : Fin 8) :
    gateV a0 a3 (ix3 b s j) = Cert.PrepIdeal.Val.Z a0 a3 b s (Cert.PrepIdeal.Val.up j) := by
  pointwise [gateV, Cert.PrepIdeal.Val.Z, Cert.PrepIdeal.Val.up, X]
  have hq : (j.val < 4) ↔ j.val < 4 := Iff.rfl
  exact congrArg _ (dite_pad hq (fun h => a3 (ix1 (⟨j.val, h⟩ : Fin 4))) _ sitofp_zero)

/-- The logarithm of the logistic function as it prints: the other branch is of no number. -/
theorem logV_at (z : FVec Ideal S4x8192x8 .f32) (i : S4x8192x8.Idx) : logV z i = lf (z i) := by
  pointwise [logV, lf]
  rw [if_neg fun h => h rfl]
  rfl

theorem cumV_at (x : FVec Ideal S4x8192x8 .f32) (b : Fin 4) (s : Fin 8192) (j : Fin 8) :
    cumV x (ix3 b s j) = ∑ r : Fin 8192, if r.val ≤ s.val then x (ix3 b r j) else 0 := by
  have h := Cert.Proof.cumsum_mid (A := 4) (N := 8192) (M := 8191) (C := 8) (by norm_num) x reduceWindows_S4x8192x8_S4x8192x8_w1s1p0_0_w8192s1p8191_0_w1s1p0_0 b s j
  unfold cumV Host.reduceWindowAdd
  rw [Ideal.hostReduceWindowAdd_def]
  have e : broadcastInDim S_ ![] bcast_S_S_ (constant (F := Ideal) S_ .f32 0x00000000#32) (Shape.Idx.first h_S_) = (0 : EReal) := by
    show Ideal.ofBits .f32 0x00000000#32 = 0
    exact Ideal.ofBits_zero_f32
  rw [e]
  exact h

theorem refC_at (a0 : FVec Ideal S32768x14336 .f32) (a3 : FVec Ideal S4 .f32) (b : Fin 4) (j : Fin 8) (s : Fin 8192) :
    refC a0 a3 (ix3 b j s) = Cert.PrepIdeal.Val.Gc a0 a3 (ix3 b j s) := by
  have e : refC a0 a3 (ix3 b j s) = cumV (logV (gateV a0 a3)) (ix3 b s j) := by
    unfold refC
    generalize cumV (logV (gateV a0 a3)) = y
    pointwise []
  rw [e, cumV_at]
  refine Eq.trans ?_ (Cert.PrepIdeal.Val.Gc_at a0 a3 b j s).symm
  refine Finset.sum_congr rfl fun r _ => ?_
  rw [logV_at, gateV_at]

end Cert.PrepRefIdeal.Val

namespace Cert.Proof

open Idealize.ShloMosaic Idealize.SL.Sem

/-- The preparation is its reference. -/
theorem value_Prep : Cert.algebraic_PrepIdeal_PrepRefIdeal := by
  intro m g m' g' _ hagree
  refine ⟨fun c => Cert.PrepIdeal.Val.Gq (Cert.PrepIdeal.Val.A0 m c) (Cert.PrepIdeal.Val.A1 m c),
    fun c => Cert.PrepIdeal.Val.Gk (Cert.PrepIdeal.Val.A0 m c) (Cert.PrepIdeal.Val.A2 m c),
    fun c => Cert.PrepIdeal.Val.Gv (Cert.PrepIdeal.Val.A0 m c),
    fun c => Cert.PrepIdeal.Val.Gc (Cert.PrepIdeal.Val.A0 m c) (Cert.PrepIdeal.Val.A3 m c), ?_, ?_⟩
  · refine (θ_run Cert.PrepIdeal.defs _ _).mono (fun r h c => ?_) (Cert.PrepIdeal.Value.run_blocks m g)
    exact ⟨(h c).1.trans (Cert.PrepIdeal.Val.final7 m c), (h c).2.1.trans (Cert.PrepIdeal.Val.final8 m c),
      (h c).2.2.1.trans (Cert.PrepIdeal.Val.final9 m c), (h c).2.2.2.1.trans (Cert.PrepIdeal.Val.final10 m c), (h c).2.2.2.2⟩
  · refine (θ_run Cert.PrepRefIdeal.defs _ _).mono (fun r h c => ?_) (Cert.PrepRefIdeal.Value.run (F := Ideal) m' g')
    refine ⟨(h c).1.trans ?_, (h c).2.1.trans ?_, (h c).2.2.1.trans ?_, (h c).2.2.2.1.trans ?_, (h c).2.2.2.2⟩
    · clear h
      rw [(hagree c).1, (hagree c).2.1]
      funext i
      exact (congrArg _ (eq_ix3 i)).trans ((Cert.PrepRefIdeal.Val.refQ_at _ _ _ _ _).trans (congrArg _ (eq_ix3 i).symm))
    · clear h
      rw [(hagree c).1, (hagree c).2.2.1]
      funext i
      exact (congrArg _ (eq_ix3 i)).trans ((Cert.PrepRefIdeal.Val.refK_at _ _ _ _ _).trans (congrArg _ (eq_ix3 i).symm))
    · clear h
      rw [(hagree c).1]
      funext i
      exact (congrArg _ (eq_ix3 i)).trans ((Cert.PrepRefIdeal.Val.refV_at _ _ _ _).trans (congrArg _ (eq_ix3 i).symm))
    · clear h
      rw [(hagree c).1, (hagree c).2.2.2]
      funext i
      exact (congrArg _ (eq_ix3 i)).trans ((Cert.PrepRefIdeal.Val.refC_at _ _ _ _ _).trans (congrArg _ (eq_ix3 i).symm))

end Cert.Proof

end
-- ==== Proof.InValue.lean ====
/-
  The input projection's value: at the first column block of a row block the kernel writes the normalised rows into its
  scratch, which stays until the next row block; every column block is then the product of those rows with the weight's
  columns, which is the reference's product of the normalised array with the weight padded by zeros.
-/
module

public import proofs.«01_k».proof.Defs
public import proofs.«01_k».proof.Proof.Gen.InIdeal.Value
public import proofs.«01_k».proof.Proof.Gen.InRefIdeal.Run
public import Idealize.ShloMosaic.Lib.Pointwise

@[expose] public section

noncomputable section

namespace Cert.InIdeal.Val

open Cert.InIdeal Cert.InIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

section Cases

variable (c : Dev nD) (i : grid0.Coords) (a2 : Memref sig .tc .vmem S1024x2048 .f32) (h2 : a2.IsWhole)
  (a3 : Memref sig .tc .vmem S1x2048 .f32) (h3 : a3.IsWhole) (a4 : Memref sig .tc .vmem S2048x1024 .bf16) (h4 : a4.IsWhole)
  (a5 : Memref sig .tc .vmem S1024x1024 .f32) (h5 : a5.IsWhole) (a6 : Memref sig .tc .vmem S1024x2048 .bf16) (h6 : a6.IsWhole)
  (x0 : Vec Ideal S1024x2048 .f32) (x1 : Vec Ideal S1x2048 .f32) (x2 : Vec Ideal S2048x1024 .bf16) (xs : Vec Ideal S1024x2048 .bf16)

/-- At a later column block the result is the product of the scratch with the weight's block. -/
theorem out_B (hc : ¬cond0_0 i) : out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz]
  simp only [View.readAt_eq_ld, h4.read_unread, h6.read_unread]
  rw [View.ld_unit_zero hz, View.ld_unit_zero hz]

/-- At the first column block the scratch receives the normalised rows. -/
theorem sout_A (hc : cond0_0 i) : sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread]
  rw [View.ld_unit_zero hz, View.ld_unit_zero hz]

/-- And the result is the product of those rows with the weight's block. -/
theorem out_A (hc : cond0_0 i) : out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S1024x2048) _ hz]
  simp only [View.readAt_eq_ld, h2.read_unread, h3.read_unread, h4.read_unread]
  rw [View.ld_unit_zero hz, View.ld_unit_zero hz, View.ld_unit_zero hz]

end Cases

variable (m : (ℓ : Loc nD τ sig) → Buf (Elt Ideal) ℓ) (ρ : Dev nD → PrngReg)

/-- The index maps: 32 row blocks outside, 14 column blocks inside. -/
theorem idx0 : ∀ t : Fin cfg0.N, win0_0.index t 0 = t.val / 14 ∧ win0_0.index t 1 = 0 :=
  (by decide +kernel : ∀ t : Fin grid0.N, win0_0.index t 0 = t.val / 14 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = t.val % 14 :=
  (by decide +kernel : ∀ t : Fin grid0.N, win0_2.index t 0 = 0 ∧ win0_2.index t 1 = t.val % 14)
theorem idx3 : ∀ t : Fin cfg0.N, win0_3.index t 0 = t.val / 14 ∧ win0_3.index t 1 = t.val % 14 :=
  (by decide +kernel : ∀ t : Fin grid0.N, win0_3.index t 0 = t.val / 14 ∧ win0_3.index t 1 = t.val % 14)

theorem lt_N (t : Fin cfg0.N) : t.val < 448 := N_0 ▸ t.isLt

/-- Row `r` of row block `n`, and column `q` of point `t`'s column block, in the whole arrays. -/
def row (t : Fin cfg0.N) (r : Fin 1024) : Fin 32768 := ⟨t.val / 14 * 1024 + r.val, by have := lt_N t; omega⟩
def col (t : Fin cfg0.N) (q : Fin 1024) : Fin 14336 := ⟨t.val % 14 * 1024 + q.val, by omega⟩

/-- The blocks' elements in the whole arrays. -/
theorem blk0 (c : Dev nD) (t : Fin cfg0.N) (r : Fin 1024) (k : Fin 2048) :
    iblk m c 0 t (ix2 r k) = V m c main_v0 (ix2 (row t r) k) := by
  show V m c main_v0 (((cfg0.win 0).blk t).view.emb (ix2 r k)) = _
  congr 1; funext a; apply Fin.ext
  match a with
  | ⟨0, _⟩ => show win0_0.index t 0 * 1024 + 1 * r.val = t.val / 14 * 1024 + r.val; rw [(idx0 t).1]; omega
  | ⟨1, _⟩ => show win0_0.index t 1 * 2048 + 1 * k.val = k.val; rw [(idx0 t).2]; omega
theorem blk1 (c : Dev nD) (t : Fin cfg0.N) (k : Fin 2048) :
    iblk m c 1 t (ix2 0 k) = V m c main_v1 (ix2 0 k) := by
  show V m c main_v1 (((cfg0.win 1).blk t).view.emb (ix2 0 k)) = _
  congr 1; funext a; apply Fin.ext
  match a with
  | ⟨0, _⟩ => show win0_1.index t 0 * 1 + 1 * 0 = 0; rw [(idx1 t).1]
  | ⟨1, _⟩ => show win0_1.index t 1 * 2048 + 1 * k.val = k.val; rw [(idx1 t).2]; omega
theorem blk2 (c : Dev nD) (t : Fin cfg0.N) (k : Fin 2048) (q : Fin 1024) :
    iblk m c 2 t (ix2 k q) = V m c main_v3 (ix2 k (col t q)) := by
  show V m c main_v3 (((cfg0.win 2).blk t).view.emb (ix2 k q)) = _
  congr 1; funext a; apply Fin.ext
  match a with
  | ⟨0, _⟩ => show win0_2.index t 0 * 2048 + 1 * k.val = k.val; rw [(idx2 t).1]; omega
  | ⟨1, _⟩ => show win0_2.index t 1 * 1024 + 1 * q.val = t.val % 14 * 1024 + q.val; rw [(idx2 t).2]; omega
theorem emb3 (t : Fin cfg0.N) (r : Fin 1024) (q : Fin 1024) :
    ((cfg0.win 3).blk t).view.emb (ix2 r q) = (ix2 (row t r) (col t q) : S32768x14336.Idx) := by
  funext a; apply Fin.ext
  match a with
  | ⟨0, _⟩ => show win0_3.index t 0 * 1024 + 1 * r.val = t.val / 14 * 1024 + r.val; rw [(idx3 t).1]; omega
  | ⟨1, _⟩ => show win0_3.index t 1 * 1024 + 1 * q.val = t.val % 14 * 1024 + q.val; rw [(idx3 t).2]; omega

/-- The arguments as arrays of extended reals. -/
abbrev A0 (c : Dev nD) : S4x8192x2048.Idx → EReal := m ((c : Thread nD τ).loc main_arg0)
abbrev A1 (c : Dev nD) : S2048.Idx → EReal := m ((c : Thread nD τ).loc main_arg1)
abbrev A2 (c : Dev nD) : S2048x14092.Idx → EReal := m ((c : Thread nD τ).loc main_arg2)

/-- The arrays the kernel reads: the rows of all sequences one after the other, the norm's weight as a row, and the
    projection's weight padded with zero columns. -/
def X (a0 : S4x8192x2048.Idx → EReal) : S32768x2048.Idx → EReal :=
  shapeCast S32768x2048 a0 shapeCasts_S4x8192x2048_S32768x2048
def Nw (a1 : S2048.Idx → EReal) : S1x2048.Idx → EReal :=
  shapeCast S1x2048 a1 shapeCasts_S2048_S1x2048
def W (a2 : S2048x14092.Idx → EReal) : S2048x14336.Idx → EReal :=
  pad S2048x14336 ![0, 0] ![0, 244] ![0, 0] a2 (sitofp (F := Ideal) .f32 (constantI S_ 32 0#32)) pads_S2048x14092_S2048x14336_000_02440 h_S_

theorem V_x (c : Dev nD) : V m c main_v0 = X (A0 m c) := by
  show StableHlo.after (List.flatten [hostOps0, hostOps0_1, hostOps0_2]) (fun b => m (c, b)) main_v0 = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  rfl
theorem V_n (c : Dev nD) : V m c main_v1 = Nw (A1 m c) := by
  show StableHlo.after (List.flatten [hostOps0, hostOps0_1, hostOps0_2]) (fun b => m (c, b)) main_v1 = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  rfl
theorem V_w (c : Dev nD) : V m c main_v3 = W (A2 m c) := by
  show StableHlo.after (List.flatten [hostOps0, hostOps0_1, hostOps0_2]) (fun b => m (c, b)) main_v3 = _
  simp only [hostOps0, hostOps0_1, hostOps0_2, List.flatten_cons, List.flatten_nil, List.append_nil, List.cons_append,
    List.nil_append, StableHlo.TRef.binary, StableHlo.TRef.unary, StableHlo.TRef.toBuf, StableHlo.TRef.ofBuf, cast_eq]
  after_results_simp
  rfl

/-- A row over its root mean square, times the norm's weight. -/
def nrm (x : S32768x2048.Idx → EReal) (w : S1x2048.Idx → EReal) (i : Fin 32768) (k : Fin 2048) : EReal :=
  x (ix2 i k) * Ideal.rsqrt (Ideal.div (∑ l : Fin 2048, x (ix2 i l) * x (ix2 i l)) (Ideal.ofBits .f32 0x45000000#32)
    + Ideal.ofBits .f32 0x358637BD#32) * w (ix2 0 k)

/-- The result: the normalised rows times the padded weight. -/
def G (a0 : S4x8192x2048.Idx → EReal) (a1 : S2048.Idx → EReal) (a2 : S2048x14092.Idx → EReal) : S32768x14336.Idx → EReal := fun i =>
  ∑ k : Fin 2048, nrm (X a0) (Nw a1) (i 0) k * W a2 (ix2 k (i 1))

set_option maxRecDepth 16384 in
/-- What the kernel writes into its scratch: the normalised rows of the point's row block. -/
theorem pay1_eq (c : Dev nD) (t : Fin cfg0.N) (r : Fin 1024) (k : Fin 2048) :
    k0_pay1 (iblk m c 0 t) (iblk m c 1 t) (ix2 r k) = nrm (X (A0 m c)) (Nw (A1 m c)) (row t r) k := by
  pointwise [k0_pay1, nrm]
  simp only [blk0, blk1]
  rw [V_x, V_n]

/-- After every point the scratch holds the normalised rows of the point's row block. -/
theorem scratch (c : Dev nD) : ∀ (n : ℕ) (h : n < cfg0.N) (r : Fin 1024) (k : Fin 2048),
    (outsAt0 m c n h).2 (ix2 r k) = nrm (X (A0 m c)) (Nw (A1 m c)) (row ⟨n, h⟩ r) k
  | 0, h, r, k => by
    rw [outsAt0_A m c ⟨0, h⟩ rfl]
    dsimp only
    rw [sout_A]
    exact pay1_eq m c ⟨0, h⟩ r k
  | n + 1, h, r, k => by
    by_cases h0 : (n + 1) % 14 = 0
    · rw [outsAt0_A m c ⟨n + 1, h⟩ h0]
      dsimp only
      rw [sout_A]
      exact pay1_eq m c ⟨n + 1, h⟩ r k
    · rw [outsAt0_B m c ⟨n + 1, h⟩ h0]
      refine (scratch c n (Nat.lt_of_succ_lt h) r k).trans ?_
      congr 1
      apply Fin.ext
      show n / 14 * 1024 + r.val = (n + 1) / 14 * 1024 + r.val
      omega

set_option maxRecDepth 16384 in
/-- The product of normalised rows with the weight's block. -/
theorem pay2_eq (c : Dev nD) (t : Fin cfg0.N) (v : Vec Ideal S1024x2048 .bf16)
    (hv : ∀ (r : Fin 1024) (k : Fin 2048), v (ix2 r k) = nrm (X (A0 m c)) (Nw (A1 m c)) (row t r) k) (r : Fin 1024) (q : Fin 1024) :
    k0_pay2 v (iblk m c 2 t) (ix2 r q) = G (A0 m c) (A1 m c) (A2 m c) (ix2 (row t r) (col t q)) := by
  pointwise [k0_pay2, G]
  simp only [hv, blk2]
  rw [V_w]

/-- What each point writes back is its block of the result. -/
theorem flushed_eq (c : Dev nD) (t : Fin cfg0.N) :
    (dats m 0 c).flushed 3 t = ((cfg0.win 3).blk t).view.read (Elt Ideal) (G (A0 m c) (A1 m c) (A2 m c)) := by
  by_cases h0 : t.val % 14 = 0
  · rw [Value.flushed3_A m c t h0, out_A]
    funext y
    obtain ⟨r, q, rfl⟩ : ∃ (r : Fin 1024) (q : Fin 1024), y = ix2 r q := ⟨y 0, y 1, eq_ix2 y⟩
    show k0_pay2 (k0_pay1 (iblk m c 0 t) (iblk m c 1 t)) (iblk m c 2 t) (ix2 r q) = G (A0 m c) (A1 m c) (A2 m c) (((cfg0.win 3).blk t).view.emb (ix2 r q))
    rw [emb3]
    exact pay2_eq m c t _ (pay1_eq m c t) r q
  · rw [Value.flushed3_B m c t h0, out_B]
    funext y
    obtain ⟨r, q, rfl⟩ : ∃ (r : Fin 1024) (q : Fin 1024), y = ix2 r q := ⟨y 0, y 1, eq_ix2 y⟩
    show k0_pay2 (outsAt0 m c (t.val - 1) (Nat.lt_of_le_of_lt (Nat.sub_le _ _) t.isLt)).2 (iblk m c 2 t) (ix2 r q) = G (A0 m c) (A1 m c) (A2 m c) (((cfg0.win 3).blk t).view.emb (ix2 r q))
    rw [emb3]
    refine pay2_eq m c t _ (fun r k => (scratch m c _ _ r k).trans ?_) r q
    congr 1
    apply Fin.ext
    show (t.val - 1) / 14 * 1024 + r.val = t.val / 14 * 1024 + r.val
    omega

/-- The blocks cover the result. -/
theorem cover (i : S32768x14336.Idx) :
    ∃ t : Fin cfg0.N, (cfg0.win 3).flush t = true ∧ i ∈ ((cfg0.win 3).blk t).view.set :=
  (Value.covered_iff3 i).2 (by
    have h0 : (i 0).val < 32768 := (i 0).isLt
    have h1 : (i 1).val < 14336 := (i 1).isLt
    omega)

/-- The result array after the run. -/
theorem final (c : Dev nD) : (dats m 0 c).arrAt 3 cfg0.N = G (A0 m c) (A1 m c) (A2 m c) :=
  (dats m 0 c).arrAt_eq_of_cover 3 (G (A0 m c) (A1 m c) (A2 m c)) (fun t _ => flushed_eq m c t) cover

end Cert.InIdeal.Val

namespace Cert.Proof

open Idealize.ShloMosaic Idealize.SL.Sem

/-- The padding word is zero. -/
theorem sitofp_zero : FloatOps.sitofp (F := Idealize.ShloMosaic.Ideal) .f32 (0#32) = (0 : EReal) := by
  show (((0#32 : BitVec 32).toInt : ℝ) : EReal) = 0
  rw [show (0#32 : BitVec 32).toInt = 0 from rfl, Int.cast_zero, EReal.coe_zero]

/-- A column padded with zeros gives a product that is zero, which is what padding the product gives. -/
theorem pad_sum {n : ℕ} {P Q : Prop} [Decidable P] [Decidable Q] (hpq : P ↔ Q) (f : Fin n → EReal) (w : Q → Fin n → EReal) (z : EReal)
    (hz : z = 0) : (∑ x, f x * (if h : Q then w h x else z)) = if h : P then ∑ x, f x * w (hpq.mp h) x else z := by
  subst hz
  by_cases h : Q
  · rw [dif_pos (hpq.mpr h)]
    exact Finset.sum_congr rfl fun x _ => by rw [dif_pos h]
  · rw [dif_neg fun e => h (hpq.mp e)]
    exact Finset.sum_eq_zero fun x _ => by rw [dif_neg h, mul_zero]

set_option maxRecDepth 16384 in
/-- The input projection is its reference. -/
theorem value_In : Cert.algebraic_InIdeal_InRefIdeal := by
  intro m g m' g' _ hagree
  refine ⟨fun c => Cert.InIdeal.Val.G (Cert.InIdeal.Val.A0 m c) (Cert.InIdeal.Val.A1 m c) (Cert.InIdeal.Val.A2 m c), ?_, ?_⟩
  · refine (θ_run Cert.InIdeal.defs _ _).mono (fun r h c => ?_) (Cert.InIdeal.Value.run_blocks m g)
    exact ⟨(h c).1.trans (Cert.InIdeal.Val.final m c), (h c).2⟩
  · refine (θ_run Cert.InRefIdeal.defs _ _).mono (fun r h c => ?_) (Cert.InRefIdeal.Value.run (F := Ideal) m' g')
    refine ⟨(h c).1.trans ?_, (h c).2⟩
    rw [(hagree c).1, (hagree c).2.1, (hagree c).2.2]
    funext i
    pointwise [Cert.InIdeal.Val.G, Cert.InIdeal.Val.nrm, Cert.InIdeal.Val.X, Cert.InIdeal.Val.Nw, Cert.InIdeal.Val.W]
    have h0 : (i 0).val < 32768 := (i 0).isLt
    have hq : ((i 0).val / 8192 < 4 ∧ (i 0).val % 8192 < 8192 ∧ (i 1).val < 14092) ↔ (i 1).val < 14092 :=
      ⟨fun e => e.2.2, fun h => ⟨by omega, by omega, h⟩⟩
    symm
    exact pad_sum hq _ (fun h x => Cert.InIdeal.Val.A2 m c (ix2 x ⟨(i 1).val, h⟩)) _ sitofp_zero

end Cert.Proof

end
-- ==== Proof.MergeValue.lean ====
/-
  The merge's value: at each block of rows the kernel multiplies the four branches' outputs by their weights, takes each
  product by its gate's logistic, adds them in order and projects the sum onto the hidden state, which is the reference's
  expression at the block's rows.
-/
module

public import proofs.«01_k».proof.Defs
public import proofs.«01_k».proof.Proof.Gen.MergeIdeal.Value
public import proofs.«01_k».proof.Proof.Gen.MergeRefIdeal.Run
public import Idealize.ShloMosaic.Lib.Pointwise

@[expose] public section

noncomputable section

namespace Cert.MergeIdeal.Val

open Cert.MergeIdeal Cert.MergeIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The gates' four ranges of columns and the four branches' weights, as loaded. -/
def gate0 (x : Vec Ideal S256x8192 .f32) : Vec Ideal S256x2048 .f32 :=
  View.ld (Val := Elt Ideal) x (Rect.unit (s := S256x8192) ![0, 0] S256x2048.size inb_S256x8192_S256x2048_0_0)
def wt0 (x : Vec Ideal S4x512x2048 .bf16) : Vec Ideal S1x512x2048 .bf16 :=
  View.ld (Val := Elt Ideal) x (Rect.unit (s := S4x512x2048) ![0, 0, 0] S1x512x2048.size inb_S4x512x2048_S1x512x2048_0_0_0)
def gate1 (x : Vec Ideal S256x8192 .f32) : Vec Ideal S256x2048 .f32 :=
  View.ld (Val := Elt Ideal) x (Rect.unit (s := S256x8192) ![0, 2048] S256x2048.size inb_S256x8192_S256x2048_0_2048)
def wt1 (x : Vec Ideal S4x512x2048 .bf16) : Vec Ideal S1x512x2048 .bf16 :=
  View.ld (Val := Elt Ideal) x (Rect.unit (s := S4x512x2048) ![1, 0, 0] S1x512x2048.size inb_S4x512x2048_S1x512x2048_1_0_0)
def gate2 (x : Vec Ideal S256x8192 .f32) : Vec Ideal S256x2048 .f32 :=
  View.ld (Val := Elt Ideal) x (Rect.unit (s := S256x8192) ![0, 4096] S256x2048.size inb_S256x8192_S256x2048_0_4096)
def wt2 (x : Vec Ideal S4x512x2048 .bf16) : Vec Ideal S1x512x2048 .bf16 :=
  View.ld (Val := Elt Ideal) x (Rect.unit (s := S4x512x2048) ![2, 0, 0] S1x512x2048.size inb_S4x512x2048_S1x512x2048_2_0_0)
def gate3 (x : Vec Ideal S256x8192 .f32) : Vec Ideal S256x2048 .f32 :=
  View.ld (Val := Elt Ideal) x (Rect.unit (s := S256x8192) ![0, 6144] S256x2048.size inb_S256x8192_S256x2048_0_6144)
def wt3 (x : Vec Ideal S4x512x2048 .bf16) : Vec Ideal S1x512x2048 .bf16 :=
  View.ld (Val := Elt Ideal) x (Rect.unit (s := S4x512x2048) ![3, 0, 0] S1x512x2048.size inb_S4x512x2048_S1x512x2048_3_0_0)
theorem gate0_at (x : Vec Ideal S256x8192 .f32) (p : Fin 256) (e : Fin 2048) :
    gate0 x (ix2 p e) = x (ix2 p (⟨0 + e.val, by omega⟩ : Fin 8192)) := by
  unfold gate0
  show x ((Rect.unit (s := S256x8192) ![0, 0] S256x2048.size inb_S256x8192_S256x2048_0_0).idx (ix2 p e)) = _
  congr 1; funext a; apply Fin.ext
  match a with
  | ⟨0, _⟩ => show 0 + 1 * p.val = p.val; omega
  | ⟨1, _⟩ => show 0 + 1 * e.val = 0 + e.val; omega
theorem wt0_at (x : Vec Ideal S4x512x2048 .bf16) (d : Fin 512) (e : Fin 2048) : wt0 x (ix3 0 d e) = x (ix3 0 d e) := by
  unfold wt0
  show x ((Rect.unit (s := S4x512x2048) ![0, 0, 0] S1x512x2048.size inb_S4x512x2048_S1x512x2048_0_0_0).idx (ix3 0 d e)) = _
  congr 1; funext a; apply Fin.ext
  match a with
  | ⟨0, _⟩ => rfl
  | ⟨1, _⟩ => show 0 + 1 * d.val = d.val; omega
  | ⟨2, _⟩ => show 0 + 1 * e.val = e.val; omega
theorem gate1_at (x : Vec Ideal S256x8192 .f32) (p : Fin 256) (e : Fin 2048) :
    gate1 x (ix2 p e) = x (ix2 p (⟨2048 + e.val, by omega⟩ : Fin 8192)) := by
  unfold gate1
  show x ((Rect.unit (s := S256x8192) ![0, 2048] S256x2048.size inb_S256x8192_S256x2048_0_2048).idx (ix2 p e)) = _
  congr 1; funext a; apply Fin.ext
  match a with
  | ⟨0, _⟩ => show 0 + 1 * p.val = p.val; omega
  | ⟨1, _⟩ => show 2048 + 1 * e.val = 2048 + e.val; omega
theorem wt1_at (x : Vec Ideal S4x512x2048 .bf16) (d : Fin 512) (e : Fin 2048) : wt1 x (ix3 0 d e) = x (ix3 1 d e) := by
  unfold wt1
  show x ((Rect.unit (s := S4x512x2048) ![1, 0, 0] S1x512x2048.size inb_S4x512x2048_S1x512x2048_1_0_0).idx (ix3 0 d e)) = _
  congr 1; funext a; apply Fin.ext
  match a with
  | ⟨0, _⟩ => rfl
  | ⟨1, _⟩ => show 0 + 1 * d.val = d.val; omega
  | ⟨2, _⟩ => show 0 + 1 * e.val = e.val; omega
theorem gate2_at (x : Vec Ideal S256x8192 .f32) (p : Fin 256) (e : Fin 2048) :
    gate2 x (ix2 p e) = x (ix2 p (⟨4096 + e.val, by omega⟩ : Fin 8192)) := by
  unfold gate2
  show x ((Rect.unit (s := S256x8192) ![0, 4096] S256x2048.size inb_S256x8192_S256x2048_0_4096).idx (ix2 p e)) = _
  congr 1; funext a; apply Fin.ext
  match a with
  | ⟨0, _⟩ => show 0 + 1 * p.val = p.val; omega
  | ⟨1, _⟩ => show 4096 + 1 * e.val = 4096 + e.val; omega
theorem wt2_at (x : Vec Ideal S4x512x2048 .bf16) (d : Fin 512) (e : Fin 2048) : wt2 x (ix3 0 d e) = x (ix3 2 d e) := by
  unfold wt2
  show x ((Rect.unit (s := S4x512x2048) ![2, 0, 0] S1x512x2048.size inb_S4x512x2048_S1x512x2048_2_0_0).idx (ix3 0 d e)) = _
  congr 1; funext a; apply Fin.ext
  match a with
  | ⟨0, _⟩ => rfl
  | ⟨1, _⟩ => show 0 + 1 * d.val = d.val; omega
  | ⟨2, _⟩ => show 0 + 1 * e.val = e.val; omega
theorem gate3_at (x : Vec Ideal S256x8192 .f32) (p : Fin 256) (e : Fin 2048) :
    gate3 x (ix2 p e) = x (ix2 p (⟨6144 + e.val, by omega⟩ : Fin 8192)) := by
  unfold gate3
  show x ((Rect.unit (s := S256x8192) ![0, 6144] S256x2048.size inb_S256x8192_S256x2048_0_6144).idx (ix2 p e)) = _
  congr 1; funext a; apply Fin.ext
  match a with
  | ⟨0, _⟩ => show 0 + 1 * p.val = p.val; omega
  | ⟨1, _⟩ => show 6144 + 1 * e.val = 6144 + e.val; omega
theorem wt3_at (x : Vec Ideal S4x512x2048 .bf16) (d : Fin 512) (e : Fin 2048) : wt3 x (ix3 0 d e) = x (ix3 3 d e) := by
  unfold wt3
  show x ((Rect.unit (s := S4x512x2048) ![3, 0, 0] S1x512x2048.size inb_S4x512x2048_S1x512x2048_3_0_0).idx (ix3 0 d e)) = _
  congr 1; funext a; apply Fin.ext
  match a with
  | ⟨0, _⟩ => rfl
  | ⟨1, _⟩ => show 0 + 1 * d.val = d.val; omega
  | ⟨2, _⟩ => show 0 + 1 * e.val = e.val; omega

section Cases

variable (c : Dev nD) (i : grid0.Coords)
  (a1 : Memref sig .tc .vmem S256x2048 .f32) (h1 : a1.IsWhole)
  (a2 : Memref sig .tc .vmem S256x8192 .f32) (h2 : a2.IsWhole)
  (a3 : Memref sig .tc .vmem S256x512 .bf16) (h3 : a3.IsWhole)
  (a4 : Memref sig .tc .vmem S256x512 .bf16) (h4 : a4.IsWhole)
  (a5 : Memref sig .tc .vmem S256x512 .bf16) (h5 : a5.IsWhole)
  (a6 : Memref sig .tc .vmem S256x512 .bf16) (h6 : a6.IsWhole)
  (a7 : Memref sig .tc .vmem S4x512x2048 .bf16) (h7 : a7.IsWhole)
  (a8 : Memref sig .tc .vmem S2048x2048 .bf16) (h8 : a8.IsWhole)
  (a9 : Memref sig .tc .vmem S256x2048 .f32) (h9 : a9.IsWhole)
  (x0 : Vec Ideal S256x2048 .f32) (x1 : Vec Ideal S256x8192 .f32) (x2 : Vec Ideal S256x512 .bf16)
  (x3 : Vec Ideal S256x512 .bf16) (x4 : Vec Ideal S256x512 .bf16) (x5 : Vec Ideal S256x512 .bf16)
  (x6 : Vec Ideal S4x512x2048 .bf16) (x7 : Vec Ideal S2048x2048 .bf16)

/-- What a point writes, of the blocks it loaded. -/
theorem out_A : out0_A_8 c i a1 h1 a2 h2 a3 h3 a4 h4 a5 h5 a6 h6 a7 h7 a8 h8 a9 h9 x0 x1 x2 x3 x4 x5 x6 x7
    = k0_pay1 (F := Ideal) (k0_pay2 (gate0 x1) x2 (wt0 x6) (gate1 x1) x3 (wt1 x6) (gate2 x1) x4 (wt2 x6)) (k0_pay3 (gate3 x1)) (k0_pay4 x5) (wt3 x6) x0 x7 := by
  unfold out0_A_8
  rw [View.read_writes_eq_canon _ _ _ (cover0_A_8 c i a1 h1 a2 h2 a3 h3 a4 h4 a5 h5 a6 h6 a7 h7 a8 h8 a9 h9 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread]
  repeat rw [View.ld_unit_zero hz]
  rfl

end Cases

set_option maxRecDepth 16384

/-- The payloads at an index. -/
theorem pay2_at (g0 g1 g2 : Vec Ideal S256x2048 .f32) (ya yb yc : Vec Ideal S256x512 .bf16) (w0 w1 w2 : Vec Ideal S1x512x2048 .bf16)
    (p : Fin 256) (e : Fin 2048) : k0_pay2 g0 ya w0 g1 yb w1 g2 yc w2 (ix2 p e)
      = Ideal.logistic (g0 (ix2 p e)) * (∑ d : Fin 512, ya (ix2 p d) * w0 (ix3 0 d e))
        + Ideal.logistic (g1 (ix2 p e)) * (∑ d : Fin 512, yb (ix2 p d) * w1 (ix3 0 d e))
        + Ideal.logistic (g2 (ix2 p e)) * (∑ d : Fin 512, yc (ix2 p d) * w2 (ix3 0 d e)) := by
  pointwise [k0_pay2]
theorem pay1_at (u g3 : FVec Ideal S256x2048 .f32) (yd : Vec Ideal S256x512 .bf16) (w3 : Vec Ideal S1x512x2048 .bf16) (h : Vec Ideal S256x2048 .f32)
    (wo : Vec Ideal S2048x2048 .bf16) (p : Fin 256) (q : Fin 2048) : k0_pay1 u (k0_pay3 g3) (k0_pay4 yd) w3 h wo (ix2 p q)
      = h (ix2 p q) + ∑ e : Fin 2048, (u (ix2 p e) + Ideal.logistic (g3 (ix2 p e)) * (∑ d : Fin 512, yd (ix2 p d) * w3 (ix3 0 d e))) * wo (ix2 e q) := by
  pointwise [k0_pay1, k0_pay3, k0_pay4]

variable (m : (ℓ : Loc nD τ sig) → Buf (Elt Ideal) ℓ) (ρ : Dev nD → PrngReg)

/-- The index maps: 128 blocks of rows; the weights whole. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)
theorem idx7 : ∀ t : Fin cfg0.N, win0_7.index t 0 = 0 ∧ win0_7.index t 1 = 0 :=
  (by decide +kernel : ∀ t : Fin grid0.N, win0_7.index t 0 = 0 ∧ win0_7.index t 1 = 0)

theorem lt_N (t : Fin cfg0.N) : t.val < 128 := N_0 ▸ t.isLt

/-- Row `r` of block `t` in the whole arrays. -/
def row (t : Fin cfg0.N) (r : Fin 256) : Fin 32768 := ⟨t.val * 256 + r.val, by have := lt_N t; omega⟩

/-- The blocks' elements in the whole arrays. -/
theorem blk0 (c : Dev nD) (t : Fin cfg0.N) (r : Fin 256) (k : Fin 2048) :
    iblk m c 0 t (ix2 r k) = V m c main_arg0 (ix2 (row t r) k) := by
  show V m c main_arg0 (((cfg0.win 0).blk t).view.emb (ix2 r k)) = _
  congr 1; funext a; apply Fin.ext
  match a with
  | ⟨0, _⟩ => show win0_0.index t 0 * 256 + 1 * r.val = t.val * 256 + r.val; rw [(idx0 t).1]; omega
  | ⟨1, _⟩ => show win0_0.index t 1 * 2048 + 1 * k.val = k.val; rw [(idx0 t).2]; omega
theorem blk2 (c : Dev nD) (t : Fin cfg0.N) (r : Fin 256) (k : Fin 512) :
    iblk m c 2 t (ix2 r k) = V m c main_v0 (ix2 (row t r) k) := by
  show V m c main_v0 (((cfg0.win 2).blk t).view.emb (ix2 r k)) = _
  congr 1; funext a; apply Fin.ext
  match a with
  | ⟨0, _⟩ => show win0_2.index t 0 * 256 + 1 * r.val = t.val * 256 + r.val; rw [(idx2 t).1]; omega
  | ⟨1, _⟩ => show win0_2.index t 1 * 512 + 1 * k.val = k.val; rw [(idx2 t).2]; omega
theorem blk3 (c : Dev nD) (t : Fin cfg0.N) (r : Fin 256) (k : Fin 512) :
    iblk m c 3 t (ix2 r k) = V m c main_v1 (ix2 (row t r) k) := by
  show V m c main_v1 (((cfg0.win 3).blk t).view.emb (ix2 r k)) = _
  congr 1; funext a; apply Fin.ext
  match a with
  | ⟨0, _⟩ => show win0_3.index t 0 * 256 + 1 * r.val = t.val * 256 + r.val; rw [(idx3 t).1]; omega
  | ⟨1, _⟩ => show win0_3.index t 1 * 512 + 1 * k.val = k.val; rw [(idx3 t).2]; omega
theorem blk4 (c : Dev nD) (t : Fin cfg0.N) (r : Fin 256) (k : Fin 512) :
    iblk m c 4 t (ix2 r k) = V m c main_v2 (ix2 (row t r) k) := by
  show V m c main_v2 (((cfg0.win 4).blk t).view.emb (ix2 r k)) = _
  congr 1; funext a; apply Fin.ext
  match a with
  | ⟨0, _⟩ => show win0_4.index t 0 * 256 + 1 * r.val = t.val * 256 + r.val; rw [(idx4 t).1]; omega
  | ⟨1, _⟩ => show win0_4.index t 1 * 512 + 1 * k.val = k.val; rw [(idx4 t).2]; omega
theorem blk5 (c : Dev nD) (t : Fin cfg0.N) (r : Fin 256) (k : Fin 512) :
    iblk m c 5 t (ix2 r k) = V m c main_v3 (ix2 (row t r) k) := by
  show V m c main_v3 (((cfg0.win 5).blk t).view.emb (ix2 r k)) = _
  congr 1; funext a; apply Fin.ext
  match a with
  | ⟨0, _⟩ => show win0_5.index t 0 * 256 + 1 * r.val = t.val * 256 + r.val; rw [(idx5 t).1]; omega
  | ⟨1, _⟩ => show win0_5.index t 1 * 512 + 1 * k.val = k.val; rw [(idx5 t).2]; omega
theorem blk1 (c : Dev nD) (t : Fin cfg0.N) (r : Fin 256) (k : Fin 8192) :
    X0_1 m c t (ix2 r k) = V m c main_arg1 (ix2 (row t r) (⟨k.val, by omega⟩ : Fin 14336)) := by
  unfold X0_1 Pipeline.Window.fill
  rw [dif_pos (moved0_1 t (ix2 r k))]
  show V m c main_arg1 (((cfg0.win 1).blk t).view.emb _) = _
  congr 1; funext a; apply Fin.ext
  match a with
  | ⟨0, _⟩ => show win0_1.index t 0 * 256 + 1 * r.val = t.val * 256 + r.val; rw [(idx1 t).1]; omega
  | ⟨1, _⟩ => show win0_1.index t 1 * 8192 + 1 * k.val = k.val; rw [(idx1 t).2]; omega
theorem blk6 (c : Dev nD) (t : Fin cfg0.N) (j : Fin 4) (d : Fin 512) (e : Fin 2048) :
    iblk m c 6 t (ix3 j d e) = V m c main_v4 (ix3 j d e) := by
  show V m c main_v4 (((cfg0.win 6).blk t).view.emb (ix3 j d e)) = _
  congr 1; funext a; apply Fin.ext
  match a with
  | ⟨0, _⟩ => show win0_6.index t 0 * 4 + 1 * j.val = j.val; rw [(idx6 t).1]; omega
  | ⟨1, _⟩ => show win0_6.index t 1 * 512 + 1 * d.val = d.val; rw [(idx6 t).2.1]; omega
  | ⟨2, _⟩ => show win0_6.index t 2 * 2048 + 1 * e.val = e.val; rw [(idx6 t).2.2]; omega
theorem blk7 (c : Dev nD) (t : Fin cfg0.N) (e q : Fin 2048) :
    iblk m c 7 t (ix2 e q) = V m c main_v5 (ix2 e q) := by
  show V m c main_v5 (((cfg0.win 7).blk t).view.emb (ix2 e q)) = _
  congr 1; funext a; apply Fin.ext
  match a with
  | ⟨0, _⟩ => show win0_7.index t 0 * 2048 + 1 * e.val = e.val; rw [(idx7 t).1]; omega
  | ⟨1, _⟩ => show win0_7.index t 1 * 2048 + 1 * q.val = q.val; rw [(idx7 t).2]; omega
theorem emb8 (t : Fin cfg0.N) (r : Fin 256) (q : Fin 2048) :
    ((cfg0.win 8).blk t).view.emb (ix2 r q) = (ix2 (row t r) q : S32768x2048.Idx) := by
  funext a; apply Fin.ext
  match a with
  | ⟨0, _⟩ => show win0_8.index t 0 * 256 + 1 * r.val = t.val * 256 + r.val; rw [(idx8 t).1]; omega
  | ⟨1, _⟩ => show win0_8.index t 1 * 2048 + 1 * q.val = q.val; rw [(idx8 t).2]; omega

/-- The arguments as arrays of extended reals. -/
abbrev A0 (c : Dev nD) : S32768x2048.Idx → EReal := m ((c : Thread nD τ).loc main_arg0)
abbrev A1 (c : Dev nD) : S32768x14336.Idx → EReal := m ((c : Thread nD τ).loc main_arg1)
abbrev A2 (c : Dev nD) : S4x8192x512.Idx → EReal := m ((c : Thread nD τ).loc main_arg2)
abbrev A3 (c : Dev nD) : S4x8192x512.Idx → EReal := m ((c : Thread nD τ).loc main_arg3)
abbrev A4 (c : Dev nD) : S4x8192x512.Idx → EReal := m ((c : Thread nD τ).loc main_arg4)
abbrev A5 (c : Dev nD) : S4x8192x512.Idx → EReal := m ((c : Thread nD τ).loc main_arg5)
abbrev A6 (c : Dev nD) : S4x512x2048.Idx → EReal := m ((c : Thread nD τ).loc main_arg6)
abbrev A7 (c : Dev nD) : S2048x2048.Idx → EReal := m ((c : Thread nD τ).loc main_arg7)

/-- A branch's output with the sequences one after the other. -/
def Y (y : S4x8192x512.Idx → EReal) : S32768x512.Idx → EReal := shapeCast S32768x512 y shapeCasts_S4x8192x512_S32768x512

theorem V_0 (c : Dev nD) : V m c main_v0 = Y (A2 m c) := by
  show StableHlo.after hostOps0 (fun b => m (c, b)) main_v0 = _
  simp only [hostOps0]
  after_results_simp
  rfl
theorem V_1 (c : Dev nD) : V m c main_v1 = Y (A3 m c) := by
  show StableHlo.after hostOps0 (fun b => m (c, b)) main_v1 = _
  simp only [hostOps0]
  after_results_simp
  rfl
theorem V_2 (c : Dev nD) : V m c main_v2 = Y (A4 m c) := by
  show StableHlo.after hostOps0 (fun b => m (c, b)) main_v2 = _
  simp only [hostOps0]
  after_results_simp
  rfl
theorem V_3 (c : Dev nD) : V m c main_v3 = Y (A5 m c) := by
  show StableHlo.after hostOps0 (fun b => m (c, b)) main_v3 = _
  simp only [hostOps0]
  after_results_simp
  rfl
theorem V_4 (c : Dev nD) : V m c main_v4 = (A6 m c : S4x512x2048.Idx → EReal) := by
  show StableHlo.after hostOps0 (fun b => m (c, b)) main_v4 = _
  simp only [hostOps0]
  after_results_simp
  rfl
theorem V_5 (c : Dev nD) : V m c main_v5 = (A7 m c : S2048x2048.Idx → EReal) := by
  show StableHlo.after hostOps0 (fun b => m (c, b)) main_v5 = _
  simp only [hostOps0]
  after_results_simp
  rfl

/-- A branch: its gate's logistic times the product with its weight. -/
def br (a1 : S32768x14336.Idx → EReal) (y : S4x8192x512.Idx → EReal) (a6 : S4x512x2048.Idx → EReal) (j : Fin 4) (i : Fin 32768) (e : Fin 2048) : EReal :=
  Ideal.logistic (a1 (ix2 i (⟨2048 * j.val + e.val, by omega⟩ : Fin 14336))) * ∑ d : Fin 512, Y y (ix2 i d) * a6 (ix3 j d e)

/-- The result: the hidden state plus the branches' sum projected. -/
def G (a0 : S32768x2048.Idx → EReal) (a1 : S32768x14336.Idx → EReal) (a2 a3 a4 a5 : S4x8192x512.Idx → EReal) (a6 : S4x512x2048.Idx → EReal) (a7 : S2048x2048.Idx → EReal) :
    S32768x2048.Idx → EReal := fun j =>
  a0 (ix2 (j 0) (j 1)) + ∑ e : Fin 2048, (br a1 a2 a6 0 (j 0) e + br a1 a3 a6 1 (j 0) e + br a1 a4 a6 2 (j 0) e + br a1 a5 a6 3 (j 0) e) * a7 (ix2 e (j 1))

/-- The block of the result. -/
theorem pay_eq (c : Dev nD) (t : Fin cfg0.N) (r : Fin 256) (q : Fin 2048) :
    k0_pay1 (F := Ideal) (k0_pay2 (gate0 (X0_1 m c t)) (iblk m c 2 t) (wt0 (iblk m c 6 t)) (gate1 (X0_1 m c t)) (iblk m c 3 t) (wt1 (iblk m c 6 t))
      (gate2 (X0_1 m c t)) (iblk m c 4 t) (wt2 (iblk m c 6 t))) (k0_pay3 (gate3 (X0_1 m c t))) (k0_pay4 (iblk m c 5 t)) (wt3 (iblk m c 6 t))
      (iblk m c 0 t) (iblk m c 7 t) (ix2 r q) = G (A0 m c) (A1 m c) (A2 m c) (A3 m c) (A4 m c) (A5 m c) (A6 m c) (A7 m c) (ix2 (row t r) q) := by
  rw [pay1_at]
  simp only [pay2_at, gate0_at, gate1_at, gate2_at, gate3_at, wt0_at, wt1_at, wt2_at, wt3_at, blk0, blk1, blk2, blk3, blk4, blk5, blk6, blk7]
  rw [V_main_arg0, V_main_arg1, V_0, V_1, V_2, V_3, V_4, V_5]
  rfl

/-- What each point writes back is its block of the result. -/
theorem flushed_eq (c : Dev nD) (t : Fin cfg0.N) :
    (dats m 0 c).flushed 8 t = ((cfg0.win 8).blk t).view.read (Elt Ideal) (G (A0 m c) (A1 m c) (A2 m c) (A3 m c) (A4 m c) (A5 m c) (A6 m c) (A7 m c)) := by
  rw [Value.flushed8_A m c t, out_A]
  funext y
  obtain ⟨r, q, rfl⟩ : ∃ (r : Fin 256) (q : Fin 2048), y = ix2 r q := ⟨y 0, y 1, eq_ix2 y⟩
  refine (pay_eq m c t r q).trans ?_
  show _ = G (A0 m c) (A1 m c) (A2 m c) (A3 m c) (A4 m c) (A5 m c) (A6 m c) (A7 m c) (((cfg0.win 8).blk t).view.emb (ix2 r q))
  rw [emb8]

/-- The blocks cover the result. -/
theorem cover (i : S32768x2048.Idx) :
    ∃ t : Fin cfg0.N, (cfg0.win 8).flush t = true ∧ i ∈ ((cfg0.win 8).blk t).view.set := by
  have h0 : (i 0 : Nat) < 32768 := (i 0).isLt
  have h1 : (i 1 : Nat) < 2048 := (i 1).isLt
  have ht : (i 0 : Nat) / 256 < cfg0.N := by rw [show cfg0.N = 128 from N_0]; omega
  obtain ⟨t, ht⟩ : ∃ t : Fin cfg0.N, t.val = (i 0 : Nat) / 256 := ⟨⟨_, ht⟩, rfl⟩
  have e := ((cfg0.win 8).blk t).view.emb_mem_set (ix2 (⟨(i 0 : Nat) % 256, by omega⟩ : Fin 256) (⟨(i 1 : Nat), h1⟩ : Fin 2048) : S256x2048.Idx)
  rw [emb8] at e
  have hi : i = ix2 (row t ⟨(i 0 : Nat) % 256, by omega⟩) (⟨(i 1 : Nat), h1⟩ : Fin 2048) := by
    refine (eq_ix2 i).trans (congrArg₂ _ (Fin.ext ?_) rfl)
    show (i 0 : Nat) = t.val * 256 + (i 0 : Nat) % 256; omega
  exact ⟨t, flush0_8 _, hi ▸ e⟩

/-- The result array after the run. -/
theorem final (c : Dev nD) : (dats m 0 c).arrAt 8 cfg0.N = G (A0 m c) (A1 m c) (A2 m c) (A3 m c) (A4 m c) (A5 m c) (A6 m c) (A7 m c) :=
  (dats m 0 c).arrAt_eq_of_cover 8 (G (A0 m c) (A1 m c) (A2 m c) (A3 m c) (A4 m c) (A5 m c) (A6 m c) (A7 m c)) (fun t _ => flushed_eq m c t) cover

theorem Y_at (y : S4x8192x512.Idx → EReal) (i : Fin 32768) (k : Fin 512) :
    Y y (ix2 i k) = y (ix3 (⟨i.val / 8192, by omega⟩ : Fin 4) (⟨i.val % 8192, by omega⟩ : Fin 8192) k) := by
  pointwise [Y]

end Cert.MergeIdeal.Val

namespace Cert.MergeRefIdeal.Val

open Cert.MergeRefIdeal Cert.MergeRefIdeal.Gen Idealize.ShloMosaic Idealize.ShloMosaic.TcCoe Idealize.SL.Sem

/-- The reference's stages: the gates, a branch's product, a gated branch and the projection of a sum. -/
def sigV (a1 : FVec Ideal S32768x14336 .f32) : FVec Ideal S32768x8192 .f32 :=
  Host.divf (broadcastInDim S32768x8192 ![] bcast_S_S32768x8192 (constant S_ .f32 0x3F800000#32)) (addf (broadcastInDim S32768x8192 ![] bcast_S_S32768x8192 (constant S_ .f32 0x3F800000#32)) (Host.exp (Host.negf (extractStridedSlice S32768x8192 ![0, 0] a1 slices_S32768x14336_S32768x8192_0_0))))
def ywV (y : FVec Ideal S4x8192x512 .bf16) (w : FVec Ideal S1x512x2048 .f32) : FVec Ideal S32768x2048 .f32 :=
  Host.dotGeneral dot_S32768x512_S512x2048_S32768x2048_1_0_0_1_n_n none (shapeCast _ (extf .f32 y bitsLt_bf16_f32) shapeCasts_S4x8192x512_S32768x512) (shapeCast _ w shapeCasts_S1x512x2048_S512x2048)
def br0V (a1 : FVec Ideal S32768x14336 .f32) (y : FVec Ideal S4x8192x512 .bf16) (a6 : FVec Ideal S4x512x2048 .f32) : FVec Ideal S32768x2048 .f32 :=
  mulf (extractStridedSlice S32768x2048 ![0, 0] (sigV a1) slices_S32768x8192_S32768x2048_0_0) (ywV y (extractStridedSlice S1x512x2048 ![0, 0, 0] a6 slices_S4x512x2048_S1x512x2048_0_0_0))
def br1V (a1 : FVec Ideal S32768x14336 .f32) (y : FVec Ideal S4x8192x512 .bf16) (a6 : FVec Ideal S4x512x2048 .f32) : FVec Ideal S32768x2048 .f32 :=
  mulf (extractStridedSlice S32768x2048 ![0, 2048] (sigV a1) slices_S32768x8192_S32768x2048_0_2048) (ywV y (extractStridedSlice S1x512x2048 ![1, 0, 0] a6 slices_S4x512x2048_S1x512x2048_1_0_0))
def br2V (a1 : FVec Ideal S32768x14336 .f32) (y : FVec Ideal S4x8192x512 .bf16) (a6 : FVec Ideal S4x512x2048 .f32) : FVec Ideal S32768x2048 .f32 :=
  mulf (extractStridedSlice S32768x2048 ![0, 4096] (sigV a1) slices_S32768x8192_S32768x2048_0_4096) (ywV y (extractStridedSlice S1x512x2048 ![2, 0, 0] a6 slices_S4x512x2048_S1x512x2048_2_0_0))
def br3V (a1 : FVec Ideal S32768x14336 .f32) (y : FVec Ideal S4x8192x512 .bf16) (a6 : FVec Ideal S4x512x2048 .f32) : FVec Ideal S32768x2048 .f32 :=
  mulf (extractStridedSlice S32768x2048 ![0, 6144] (sigV a1) slices_S32768x8192_S32768x2048_0_6144) (ywV y (extractStridedSlice S1x512x2048 ![3, 0, 0] a6 slices_S4x512x2048_S1x512x2048_3_0_0))
def outV (a0 x : FVec Ideal S32768x2048 .f32) (a7 : FVec Ideal S2048x2048 .f32) : FVec Ideal S32768x2048 .f32 :=
  addf a0 (Host.dotGeneral dot_S32768x2048_S2048x2048_S32768x2048_1_0_0_1_n_n none x a7)

/-- The whole reference of its arguments. -/
def ref (a0 : FVec Ideal S32768x2048 .f32) (a1 : FVec Ideal S32768x14336 .f32) (a2 a3 a4 a5 : FVec Ideal S4x8192x512 .bf16)
    (a6 : FVec Ideal S4x512x2048 .f32) (a7 : FVec Ideal S2048x2048 .f32) : FVec Ideal S32768x2048 .f32 :=
  outV a0 (addf (addf (addf (br0V a1 a2 a6) (br1V a1 a3 a6)) (br2V a1 a4 a6)) (br3V a1 a5 a6)) a7

set_option maxRecDepth 16384

/-- Each stage at an index. -/
theorem sigV_at (a1 : FVec Ideal S32768x14336 .f32) (i : Fin 32768) (k : Fin 8192) :
    sigV a1 (ix2 i k) = Ideal.logistic (a1 (ix2 i (⟨k.val, by omega⟩ : Fin 14336))) := by
  pointwise [sigV]
  rfl
theorem ywV_at (y : FVec Ideal S4x8192x512 .bf16) (w : FVec Ideal S1x512x2048 .f32) (i : Fin 32768) (e : Fin 2048) :
    ywV y w (ix2 i e) = ∑ d : Fin 512, Cert.MergeIdeal.Val.Y y (ix2 i d) * w (ix3 0 d e) := by
  simp only [Cert.MergeIdeal.Val.Y_at]
  pointwise [ywV]
theorem w0_at (a6 : FVec Ideal S4x512x2048 .f32) (d : Fin 512) (e : Fin 2048) :
    extractStridedSlice S1x512x2048 ![0, 0, 0] a6 slices_S4x512x2048_S1x512x2048_0_0_0 (ix3 0 d e) = a6 (ix3 0 d e) := by
  pointwise []
theorem g0_at (x : FVec Ideal S32768x8192 .f32) (i : Fin 32768) (e : Fin 2048) :
    extractStridedSlice S32768x2048 ![0, 0] x slices_S32768x8192_S32768x2048_0_0 (ix2 i e) = x (ix2 i (⟨0 + e.val, by omega⟩ : Fin 8192)) := by
  pointwise []
theorem br0V_at (a1 : FVec Ideal S32768x14336 .f32) (y : FVec Ideal S4x8192x512 .bf16) (a6 : FVec Ideal S4x512x2048 .f32) (i : Fin 32768) (e : Fin 2048) :
    br0V a1 y a6 (ix2 i e) = Cert.MergeIdeal.Val.br a1 y a6 0 i e := by
  show extractStridedSlice S32768x2048 ![0, 0] (sigV a1) slices_S32768x8192_S32768x2048_0_0 (ix2 i e)
    * ywV y (extractStridedSlice S1x512x2048 ![0, 0, 0] a6 slices_S4x512x2048_S1x512x2048_0_0_0) (ix2 i e) = _
  rw [g0_at, sigV_at, ywV_at]
  simp only [w0_at]
  rfl
theorem w1_at (a6 : FVec Ideal S4x512x2048 .f32) (d : Fin 512) (e : Fin 2048) :
    extractStridedSlice S1x512x2048 ![1, 0, 0] a6 slices_S4x512x2048_S1x512x2048_1_0_0 (ix3 0 d e) = a6 (ix3 1 d e) := by
  pointwise []
theorem g1_at (x : FVec Ideal S32768x8192 .f32) (i : Fin 32768) (e : Fin 2048) :
    extractStridedSlice S32768x2048 ![0, 2048] x slices_S32768x8192_S32768x2048_0_2048 (ix2 i e) = x (ix2 i (⟨2048 + e.val, by omega⟩ : Fin 8192)) := by
  pointwise []
theorem br1V_at (a1 : FVec Ideal S32768x14336 .f32) (y : FVec Ideal S4x8192x512 .bf16) (a6 : FVec Ideal S4x512x2048 .f32) (i : Fin 32768) (e : Fin 2048) :
    br1V a1 y a6 (ix2 i e) = Cert.MergeIdeal.Val.br a1 y a6 1 i e := by
  show extractStridedSlice S32768x2048 ![0, 2048] (sigV a1) slices_S32768x8192_S32768x2048_0_2048 (ix2 i e)
    * ywV y (extractStridedSlice S1x512x2048 ![1, 0, 0] a6 slices_S4x512x2048_S1x512x2048_1_0_0) (ix2 i e) = _
  rw [g1_at, sigV_at, ywV_at]
  simp only [w1_at]
  rfl
theorem w2_at (a6 : FVec Ideal S4x512x2048 .f32) (d : Fin 512) (e : Fin 2048) :
    extractStridedSlice S1x512x2048 ![2, 0, 0] a6 slices_S4x512x2048_S1x512x2048_2_0_0 (ix3 0 d e) = a6 (ix3 2 d e) := by
  pointwise []
theorem g2_at (x : FVec Ideal S32768x8192 .f32) (i : Fin 32768) (e : Fin 2048) :
    extractStridedSlice S32768x2048 ![0, 4096] x slices_S32768x8192_S32768x2048_0_4096 (ix2 i e) = x (ix2 i (⟨4096 + e.val, by omega⟩ : Fin 8192)) := by
  pointwise []
theorem br2V_at (a1 : FVec Ideal S32768x14336 .f32) (y : FVec Ideal S4x8192x512 .bf16) (a6 : FVec Ideal S4x512x2048 .f32) (i : Fin 32768) (e : Fin 2048) :
    br2V a1 y a6 (ix2 i e) = Cert.MergeIdeal.Val.br a1 y a6 2 i e := by
  show extractStridedSlice S32768x2048 ![0, 4096] (sigV a1) slices_S32768x8192_S32768x2048_0_4096 (ix2 i e)
    * ywV y (extractStridedSlice S1x512x2048 ![2, 0, 0] a6 slices_S4x512x2048_S1x512x2048_2_0_0) (ix2 i e) = _
  rw [g2_at, sigV_at, ywV_at]
  simp only [w2_at]
  rfl
theorem w3_at (a6 : FVec Ideal S4x512x2048 .f32) (d : Fin 512) (e : Fin 2048) :
    extractStridedSlice S1x512x2048 ![3, 0, 0] a6 slices_S4x512x2048_S1x512x2048_3_0_0 (ix3 0 d e) = a6 (ix3 3 d e) := by
  pointwise []
theorem g3_at (x : FVec Ideal S32768x8192 .f32) (i : Fin 32768) (e : Fin 2048) :
    extractStridedSlice S32768x2048 ![0, 6144] x slices_S32768x8192_S32768x2048_0_6144 (ix2 i e) = x (ix2 i (⟨6144 + e.val, by omega⟩ : Fin 8192)) := by
  pointwise []
theorem br3V_at (a1 : FVec Ideal S32768x14336 .f32) (y : FVec Ideal S4x8192x512 .bf16) (a6 : FVec Ideal S4x512x2048 .f32) (i : Fin 32768) (e : Fin 2048) :
    br3V a1 y a6 (ix2 i e) = Cert.MergeIdeal.Val.br a1 y a6 3 i e := by
  show extractStridedSlice S32768x2048 ![0, 6144] (sigV a1) slices_S32768x8192_S32768x2048_0_6144 (ix2 i e)
    * ywV y (extractStridedSlice S1x512x2048 ![3, 0, 0] a6 slices_S4x512x2048_S1x512x2048_3_0_0) (ix2 i e) = _
  rw [g3_at, sigV_at, ywV_at]
  simp only [w3_at]
  rfl
theorem outV_at (a0 x : FVec Ideal S32768x2048 .f32) (a7 : FVec Ideal S2048x2048 .f32) (i : Fin 32768) (q : Fin 2048) :
    outV a0 x a7 (ix2 i q) = a0 (ix2 i q) + ∑ e : Fin 2048, x (ix2 i e) * a7 (ix2 e q) := by
  pointwise [outV]

end Cert.MergeRefIdeal.Val

namespace Cert.MergeIdeal.Val

open Cert.MergeIdeal Cert.MergeIdeal.Gen Idealize.ShloMosaic

set_option maxRecDepth 16384

/-- The reference computes the same function of the arguments. -/
theorem ref_eq (a0 : S32768x2048.Idx → EReal) (a1 : S32768x14336.Idx → EReal) (a2 a3 a4 a5 : S4x8192x512.Idx → EReal) (a6 : S4x512x2048.Idx → EReal) (a7 : S2048x2048.Idx → EReal) :
    Cert.MergeRefIdeal.Val.ref a0 a1 a2 a3 a4 a5 a6 a7 = G a0 a1 a2 a3 a4 a5 a6 a7 := by
  funext j
  obtain ⟨i, q, rfl⟩ : ∃ (i : Fin 32768) (q : Fin 2048), j = ix2 i q := ⟨j 0, j 1, eq_ix2 j⟩
  unfold Cert.MergeRefIdeal.Val.ref
  rw [Cert.MergeRefIdeal.Val.outV_at]
  show _ = a0 (ix2 i q) + ∑ e : Fin 2048, (br a1 a2 a6 0 i e + br a1 a3 a6 1 i e + br a1 a4 a6 2 i e + br a1 a5 a6 3 i e) * a7 (ix2 e q)
  refine congrArg (a0 (ix2 i q) + ·) (Finset.sum_congr rfl fun e _ => congrArg (· * a7 (ix2 e q)) ?_)
  rw [← Cert.MergeRefIdeal.Val.br0V_at, ← Cert.MergeRefIdeal.Val.br1V_at, ← Cert.MergeRefIdeal.Val.br2V_at, ← Cert.MergeRefIdeal.Val.br3V_at]
  rfl

end Cert.MergeIdeal.Val

namespace Cert.Proof

open Idealize.ShloMosaic Idealize.SL.Sem

set_option maxRecDepth 16384 in
/-- The merge is its reference. -/
theorem value_Merge : Cert.algebraic_MergeIdeal_MergeRefIdeal := by
  intro m g m' g' _ hagree
  refine ⟨fun c => Cert.MergeIdeal.Val.G (Cert.MergeIdeal.Val.A0 m c) (Cert.MergeIdeal.Val.A1 m c) (Cert.MergeIdeal.Val.A2 m c) (Cert.MergeIdeal.Val.A3 m c) (Cert.MergeIdeal.Val.A4 m c) (Cert.MergeIdeal.Val.A5 m c) (Cert.MergeIdeal.Val.A6 m c) (Cert.MergeIdeal.Val.A7 m c), ?_, ?_⟩
  · refine (θ_run Cert.MergeIdeal.defs _ _).mono (fun r h c => ?_) (Cert.MergeIdeal.Value.run_blocks m g)
    exact ⟨(h c).1.trans (Cert.MergeIdeal.Val.final m c), (h c).2⟩
  · refine (θ_run Cert.MergeRefIdeal.defs _ _).mono (fun r h c => ?_) (Cert.MergeRefIdeal.Value.run (F := Ideal) m' g')
    refine ⟨(h c).1.trans ?_, (h c).2⟩
    clear h
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact Cert.MergeIdeal.Val.ref_eq _ _ _ _ _ _ _ _

end Cert.Proof

end
-- ==== Proof.UpValue.lean ====
/-
  The gated convolution's value: at the first column block of a row block the kernel writes into its scratch the
  normalised rows, in front of them the last rows of the row block before (zeros at the start of a sequence); every
  column block is then the product of those rows with the gate's and the value's columns, each taken through a
  convolution over three rows, the gate through the approximate Gaussian unit, times the value.
-/
module

public import proofs.«01_k».proof.Defs
public import proofs.«01_k».proof.Proof.Gen.UpIdeal.Value
public import proofs.«01_k».proof.Proof.Gen.UpRefIdeal.Run
public import Idealize.ShloMosaic.Lib.Pointwise

@[expose] public section

noncomputable section

namespace Cert.UpIdeal.Val

open Cert.UpIdeal Cert.UpIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

section Cases

variable (c : Dev nD) (i : grid0.Coords)
  (a2 : Memref sig .tc .vmem S1024x2048 .f32) (h2 : a2.IsWhole)
  (a3 : Memref sig .tc .vmem S16x2048 .f32) (h3 : a3.IsWhole)
  (a4 : Memref sig .tc .vmem S1x2048 .f32) (h4 : a4.IsWhole)
  (a5 : Memref sig .tc .vmem S2048x512 .bf16) (h5 : a5.IsWhole)
  (a6 : Memref sig .tc .vmem S2048x512 .bf16) (h6 : a6.IsWhole)
  (a7 : Memref sig .tc .vmem S3x512 .f32) (h7 : a7.IsWhole)
  (a8 : Memref sig .tc .vmem S1x512 .f32) (h8 : a8.IsWhole)
  (a9 : Memref sig .tc .vmem S3x512 .f32) (h9 : a9.IsWhole)
  (a10 : Memref sig .tc .vmem S1x512 .f32) (h10 : a10.IsWhole)
  (a11 : Memref sig .tc .vmem S1024x512 .bf16) (h11 : a11.IsWhole)
  (a12 : Memref sig .tc .vmem S1040x2048 .bf16) (h12 : a12.IsWhole)
  (x0 : Vec Ideal S1024x2048 .f32) (x1 : Vec Ideal S16x2048 .f32) (x2 : Vec Ideal S1x2048 .f32)
  (x3 : Vec Ideal S2048x512 .bf16) (x4 : Vec Ideal S2048x512 .bf16) (x5 : Vec Ideal S3x512 .f32)
  (x6 : Vec Ideal S1x512 .f32) (x7 : Vec Ideal S3x512 .f32) (x8 : Vec Ideal S1x512 .f32) (xs : Vec Ideal S1040x2048 .bf16)

/-- The block of the result, of the scratch and the weights' blocks. -/
def fin (v : Vec Ideal S1040x2048 .bf16) (x3 x4 : Vec Ideal S2048x512 .bf16) (x5 : Vec Ideal S3x512 .f32) (x6 : Vec Ideal S1x512 .f32)
    (x7 : Vec Ideal S3x512 .f32) (x8 : Vec Ideal S1x512 .f32) : FVec Ideal S1024x512 .bf16 :=
  k0_pay1 (k0_pay6 v x3 x5 x6) (k0_pay7 v x4) x7 (k0_pay8 v x4 x7 x8) (k0_pay9 x7)

/-- At a later column block the result is made of the scratch as it stands. -/
theorem out_B (hc : ¬cond0_0 i) : out0_B_9 c i a2 h2 a3 h3 a4 h4 a5 h5 a6 h6 a7 h7 a8 h8 a9 h9 a10 h10 a11 h11 a12 h12 hc x0 x1 x2 x3 x4 x5 x6 x7 x8 xs = fin xs x3 x4 x5 x6 x7 x8 := by
  unfold out0_B_9
  rw [View.read_writes_eq_canon _ _ _ (cover0_B_9 c i a2 h2 a3 h3 a4 h4 a5 h5 a6 h6 a7 h7 a8 h8 a9 h9 a10 h10 a11 h11 a12 h12 hc x0 x1 x2 x3 x4 x5 x6 x7 x8 xs)]
  unfold kernelRun0_B
  dsimp only
  rw [View.canon_unit_zero hz]
  sl_unfold_words
  simp only [View.readAt_eq_ld, h5.read_unread, h6.read_unread, h7.read_unread, h8.read_unread, h9.read_unread, h10.read_unread, h12.read_unread]
  repeat rw [View.ld_unit_zero hz]
  rfl

/-- Whether a row block is not the first of its sequence, as the kernel computes it. -/
def keep (n : BitVec 32) : BitVec 1 :=
  Scalar.cmpi .ne (Scalar.select
    (Scalar.andi (Scalar.xori (Scalar.cmpi .slt (Scalar.remsi (Scalar.muli n 1024#32) (Scalar.select (Scalar.cmpi .eq 8192#32 0#32) 1#32 8192#32)) 0#32)
        (Scalar.cmpi .slt (Scalar.select (Scalar.cmpi .eq 8192#32 0#32) 1#32 8192#32) 0#32))
      (Scalar.cmpi .ne (Scalar.remsi (Scalar.muli n 1024#32) (Scalar.select (Scalar.cmpi .eq 8192#32 0#32) 1#32 8192#32)) 0#32))
    (Scalar.addi (Scalar.remsi (Scalar.muli n 1024#32) (Scalar.select (Scalar.cmpi .eq 8192#32 0#32) 1#32 8192#32)) (Scalar.select (Scalar.cmpi .eq 8192#32 0#32) 1#32 8192#32))
    (Scalar.remsi (Scalar.muli n 1024#32) (Scalar.select (Scalar.cmpi .eq 8192#32 0#32) 1#32 8192#32))) 0#32

/-- What the scratch holds after a first column block: the normalised rows below the sixteen rows of the block before. -/
def scr (n : BitVec 32) (x0 : Vec Ideal S1024x2048 .f32) (x1 : Vec Ideal S16x2048 .f32) (x2 : Vec Ideal S1x2048 .f32) : Vec Ideal S1040x2048 .bf16 :=
  View.canon [⟨Rect.unit (s := S1040x2048) ![0, 0] S16x2048.size inb_S1040x2048_S16x2048_0_0, k0_pay5 (F := Ideal) (keep n) x1 (k0_pay3 x2) (k0_pay4 x1)⟩,
    ⟨Rect.unit (s := S1040x2048) ![16, 0] S1024x2048.size inb_S1040x2048_S1024x2048_16_0, k0_pay2 (F := Ideal) x0 x2⟩]

/-- At the first column block the scratch is filled. -/
theorem sout_A (hc : cond0_0 i) : sout0_A_0 c i a2 h2 a3 h3 a4 h4 a5 h5 a6 h6 a7 h7 a8 h8 a9 h9 a10 h10 a11 h11 a12 h12 hc x0 x1 x2 x3 x4 x5 x6 x7 x8 = scr (BitVec.ofNat 32 (i 0).val) x0 x1 x2 := by
  unfold sout0_A_0
  rw [View.read_writes_eq_canon _ _ _ (scover0_A_0 c i a2 h2 a3 h3 a4 h4 a5 h5 a6 h6 a7 h7 a8 h8 a9 h9 a10 h10 a11 h11 a12 h12 hc x0 x1 x2 x3 x4 x5 x6 x7 x8)]
  unfold kernelRun0_A
  dsimp only
  sl_unfold_words
  simp only [View.readAt_eq_ld, h2.read_unread, h3.read_unread, h4.read_unread]
  repeat rw [View.ld_unit_zero hz]
  rfl

/-- And the result is made of what was just written. -/
theorem out_A (hc : cond0_0 i) : out0_A_9 c i a2 h2 a3 h3 a4 h4 a5 h5 a6 h6 a7 h7 a8 h8 a9 h9 a10 h10 a11 h11 a12 h12 hc x0 x1 x2 x3 x4 x5 x6 x7 x8 = fin (scr (BitVec.ofNat 32 (i 0).val) x0 x1 x2) x3 x4 x5 x6 x7 x8 := by
  rw [← sout_A c i a2 h2 a3 h3 a4 h4 a5 h5 a6 h6 a7 h7 a8 h8 a9 h9 a10 h10 a11 h11 a12 h12 x0 x1 x2 x3 x4 x5 x6 x7 x8 hc]
  unfold out0_A_9 sout0_A_0
  rw [View.read_writes_eq_canon _ _ _ (cover0_A_9 c i a2 h2 a3 h3 a4 h4 a5 h5 a6 h6 a7 h7 a8 h8 a9 h9 a10 h10 a11 h11 a12 h12 hc x0 x1 x2 x3 x4 x5 x6 x7 x8),
    View.read_writes_eq_canon _ _ _ (scover0_A_0 c i a2 h2 a3 h3 a4 h4 a5 h5 a6 h6 a7 h7 a8 h8 a9 h9 a10 h10 a11 h11 a12 h12 hc x0 x1 x2 x3 x4 x5 x6 x7 x8)]
  have hcv := scover0_A_0 c i a2 h2 a3 h3 a4 h4 a5 h5 a6 h6 a7 h7 a8 h8 a9 h9 a10 h10 a11 h11 a12 h12 hc x0 x1 x2 x3 x4 x5 x6 x7 x8
  revert hcv
  unfold kernelRun0_A
  dsimp only
  sl_unfold_words
  intro hcv
  rw [View.canon_unit_zero hz, View.readCov_eq_canon_ld _ _ _ hcv]
  simp only [View.readAt_eq_ld, h2.read_unread, h3.read_unread, h4.read_unread, h5.read_unread, h6.read_unread, h7.read_unread, h8.read_unread, h9.read_unread, h10.read_unread]
  repeat rw [View.ld_unit_zero hz]
  rfl

end Cases

/-- The condition over the 32 row blocks: each sequence is eight of them. -/
theorem keep_eq : ∀ n : Fin 32, keep (BitVec.ofNat 32 n.val) = if n.val % 8 = 0 then 0#1 else 1#1 := by decide +kernel

set_option maxRecDepth 16384

/-- A row over its root mean square, times the norm's weight. -/
def nrmRow {n : ℕ} (x : Fin n → Fin 2048 → EReal) (w : Fin 2048 → EReal) (r : Fin n) (k : Fin 2048) : EReal :=
  x r k * Ideal.rsqrt (Ideal.div (∑ l : Fin 2048, x r l * x r l) (Ideal.ofBits .f32 0x45000000#32) + Ideal.ofBits .f32 0x358637BD#32) * w k

theorem pay2_at (x0 : Vec Ideal S1024x2048 .f32) (x2 : Vec Ideal S1x2048 .f32) (r : Fin 1024) (k : Fin 2048) :
    k0_pay2 x0 x2 (ix2 r k) = nrmRow (fun r k => x0 (ix2 r k)) (fun k => x2 (ix2 0 k)) r k := by
  pointwise [k0_pay2, nrmRow]
theorem pay5_at (b : BitVec 1) (x1 : Vec Ideal S16x2048 .f32) (x2 : Vec Ideal S1x2048 .f32) (r : Fin 16) (k : Fin 2048) :
    k0_pay5 b x1 (k0_pay3 x2) (k0_pay4 x1) (ix2 r k) = if b = 1#1 then nrmRow (fun r k => x1 (ix2 r k)) (fun k => x2 (ix2 0 k)) r k else 0 := by
  pointwise [k0_pay5, k0_pay3, k0_pay4, nrmRow]
  rfl

/-- The scratch at a row of the block and at a row before it. -/
theorem scr_low (n : BitVec 32) (x0 : Vec Ideal S1024x2048 .f32) (x1 : Vec Ideal S16x2048 .f32) (x2 : Vec Ideal S1x2048 .f32)
    (r : Fin 1024) (k : Fin 2048) : scr n x0 x1 x2 (ix2 (⟨16 + r.val, by omega⟩ : Fin 1040) k) = k0_pay2 x0 x2 (ix2 r k) := by
  unfold scr
  have e : (ix2 (⟨16 + r.val, by omega⟩ : Fin 1040) k : S1040x2048.Idx)
      = (Rect.unit (s := S1040x2048) ![16, 0] S1024x2048.size inb_S1040x2048_S1024x2048_16_0).emb (ix2 r k) := by
    funext a; apply Fin.ext
    match a with
    | ⟨0, _⟩ => show 16 + r.val = 16 + 1 * r.val; omega
    | ⟨1, _⟩ => show k.val = 0 + 1 * k.val; omega
  rw [View.canon_cons_of_not_mem, e, View.canon_cons_emb]
  intro hm
  obtain ⟨y, hy⟩ := LoadRect.exists_idx_of_mem (Rect.unit (s := S1040x2048) ![0, 0] S16x2048.size inb_S1040x2048_S16x2048_0_0).toLoadRect hm
  have h0 := congrArg (fun z : S1040x2048.Idx => (z 0).val) hy
  have hy0 : (y 0).val < 16 := (y 0).isLt
  have h1 : 0 + 1 * (y 0).val = 16 + r.val := h0
  omega
theorem scr_high (n : BitVec 32) (x0 : Vec Ideal S1024x2048 .f32) (x1 : Vec Ideal S16x2048 .f32) (x2 : Vec Ideal S1x2048 .f32)
    (r : Fin 16) (k : Fin 2048) : scr n x0 x1 x2 (ix2 (⟨r.val, by omega⟩ : Fin 1040) k) = k0_pay5 (keep n) x1 (k0_pay3 x2) (k0_pay4 x1) (ix2 r k) := by
  unfold scr
  have e : (ix2 (⟨r.val, by omega⟩ : Fin 1040) k : S1040x2048.Idx)
      = (Rect.unit (s := S1040x2048) ![0, 0] S16x2048.size inb_S1040x2048_S16x2048_0_0).emb (ix2 r k) := by
    funext a; apply Fin.ext
    match a with
    | ⟨0, _⟩ => show r.val = 0 + 1 * r.val; omega
    | ⟨1, _⟩ => show k.val = 0 + 1 * k.val; omega
  rw [e, View.canon_cons_emb]

/-- The convolution of three rows. -/
def conv (u : Fin 3 → EReal) (w : Fin 3 → EReal) (b : EReal) : EReal := b + w 2 * u 0 + w 1 * u 1 + w 0 * u 2

/-- The approximate Gaussian unit. -/
def gelu (x : EReal) : EReal :=
  x * (Ideal.ofBits .f32 0x3F000000#32 * (1 + Ideal.tanh (Ideal.ofBits .f32 0x3F4C422A#32 * (x + Ideal.ofBits .f32 0x3D372713#32 * (x * (x * x))))))

/-- Row `p` of the block, `d` rows back, in the scratch. -/
def back (p : Fin 1024) (d : Fin 3) : Fin 1040 := ⟨16 - d.val + p.val, by omega⟩

theorem pay6_at (v : Vec Ideal S1040x2048 .bf16) (x3 : Vec Ideal S2048x512 .bf16) (x5 : Vec Ideal S3x512 .f32) (x6 : Vec Ideal S1x512 .f32)
    (p : Fin 1024) (q : Fin 512) : k0_pay6 v x3 x5 x6 (ix2 p q)
      = conv (fun d => ∑ k : Fin 2048, v (ix2 (back p d) k) * x3 (ix2 k q)) (fun d => x5 (ix2 d q)) (x6 (ix2 0 q)) := by
  pointwise [k0_pay6, conv, back]
theorem pay7_at (v : Vec Ideal S1040x2048 .bf16) (x4 : Vec Ideal S2048x512 .bf16) (r : Fin 1040) (q : Fin 512) :
    k0_pay7 v x4 (ix2 r q) = ∑ k : Fin 2048, v (ix2 r k) * x4 (ix2 k q) := by
  pointwise [k0_pay7]
theorem pay8_at (v : Vec Ideal S1040x2048 .bf16) (x4 : Vec Ideal S2048x512 .bf16) (x7 : Vec Ideal S3x512 .f32) (x8 : Vec Ideal S1x512 .f32)
    (p : Fin 1024) (q : Fin 512) : k0_pay8 v x4 x7 x8 (ix2 p q)
      = x8 (ix2 0 q) + x7 (ix2 2 q) * ∑ k : Fin 2048, v (ix2 (back p 0) k) * x4 (ix2 k q) := by
  pointwise [k0_pay8, k0_pay7, back]
theorem pay9_at (x7 : Vec Ideal S3x512 .f32) (q : Fin 512) : k0_pay9 x7 (ix2 0 q) = x7 (ix2 1 q) := by
  pointwise [k0_pay9]
theorem pay1_at (u : FVec Ideal S1024x512 .f32) (y : FVec Ideal S1040x512 .f32) (x7 : Vec Ideal S3x512 .f32) (t : FVec Ideal S1024x512 .f32)
    (o : FVec Ideal S1x512 .f32) (p : Fin 1024) (q : Fin 512) : k0_pay1 u y x7 t o (ix2 p q)
      = gelu (u (ix2 p q)) * (t (ix2 p q) + o (ix2 0 q) * y (ix2 (back p 1) q) + x7 (ix2 0 q) * y (ix2 (back p 2) q)) := by
  pointwise [k0_pay1, gelu, back]

/-- The block at an index, of the scratch. -/
theorem fin_at (v : Vec Ideal S1040x2048 .bf16) (x3 x4 : Vec Ideal S2048x512 .bf16) (x5 : Vec Ideal S3x512 .f32) (x6 : Vec Ideal S1x512 .f32)
    (x7 : Vec Ideal S3x512 .f32) (x8 : Vec Ideal S1x512 .f32) (p : Fin 1024) (q : Fin 512) : fin v x3 x4 x5 x6 x7 x8 (ix2 p q)
      = gelu (conv (fun d => ∑ k : Fin 2048, v (ix2 (back p d) k) * x3 (ix2 k q)) (fun d => x5 (ix2 d q)) (x6 (ix2 0 q)))
        * conv (fun d => ∑ k : Fin 2048, v (ix2 (back p d) k) * x4 (ix2 k q)) (fun d => x7 (ix2 d q)) (x8 (ix2 0 q)) := by
  unfold fin
  rw [pay1_at, pay6_at, pay8_at, pay9_at, pay7_at, pay7_at]
  rfl

variable (m : (ℓ : Loc nD τ sig) → Buf (Elt Ideal) ℓ) (ρ : Dev nD → PrngReg)

/-- The index maps: 32 row blocks outside, 11 column blocks inside; the value's columns lie 11 blocks after the gate's. -/
theorem coord0 : ∀ t : Fin cfg0.N, (grid0.coords t 0).val = t.val / 11 :=
  (by decide +kernel : ∀ t : Fin grid0.N, (grid0.coords t 0).val = t.val / 11)
theorem idx0 : ∀ t : Fin cfg0.N, win0_0.index t 0 = t.val / 11 ∧ win0_0.index t 1 = 0 :=
  (by decide +kernel : ∀ t : Fin grid0.N, win0_0.index t 0 = t.val / 11 ∧ win0_0.index t 1 = 0)
theorem idx1 : ∀ t : Fin cfg0.N, win0_1.index t 0 = t.val / 11 * 64 - 1 ∧ win0_1.index t 1 = 0 :=
  (by decide +kernel : ∀ t : Fin grid0.N, win0_1.index t 0 = t.val / 11 * 64 - 1 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = t.val % 11 :=
  (by decide +kernel : ∀ t : Fin grid0.N, win0_3.index t 0 = 0 ∧ win0_3.index t 1 = t.val % 11)
theorem idx4 : ∀ t : Fin cfg0.N, win0_4.index t 0 = 0 ∧ win0_4.index t 1 = t.val % 11 + 11 :=
  (by decide +kernel : ∀ t : Fin grid0.N, win0_4.index t 0 = 0 ∧ win0_4.index t 1 = t.val % 11 + 11)
theorem idx5 : ∀ t : Fin cfg0.N, win0_5.index t 0 = 0 ∧ win0_5.index t 1 = t.val % 11 :=
  (by decide +kernel : ∀ t : Fin grid0.N, win0_5.index t 0 = 0 ∧ win0_5.index t 1 = t.val % 11)
theorem idx6 : ∀ t : Fin cfg0.N, win0_6.index t 0 = 0 ∧ win0_6.index t 1 = t.val % 11 :=
  (by decide +kernel : ∀ t : Fin grid0.N, win0_6.index t 0 = 0 ∧ win0_6.index t 1 = t.val % 11)
theorem idx7 : ∀ t : Fin cfg0.N, win0_7.index t 0 = 0 ∧ win0_7.index t 1 = t.val % 11 + 11 :=
  (by decide +kernel : ∀ t : Fin grid0.N, win0_7.index t 0 = 0 ∧ win0_7.index t 1 = t.val % 11 + 11)
theorem idx8 : ∀ t : Fin cfg0.N, win0_8.index t 0 = 0 ∧ win0_8.index t 1 = t.val % 11 + 11 :=
  (by decide +kernel : ∀ t : Fin grid0.N, win0_8.index t 0 = 0 ∧ win0_8.index t 1 = t.val % 11 + 11)
theorem idx9 : ∀ t : Fin cfg0.N, win0_9.index t 0 = t.val / 11 ∧ win0_9.index t 1 = t.val % 11 :=
  (by decide +kernel : ∀ t : Fin grid0.N, win0_9.index t 0 = t.val / 11 ∧ win0_9.index t 1 = t.val % 11)

theorem lt_N (t : Fin cfg0.N) : t.val < 352 := N_0 ▸ t.isLt

/-- Row `r` of point `t`'s row block, row `r` of the rows before it, and column `q` of its column block for the gate,
    for the value and in the result, in the whole arrays. -/
def row (t : Fin cfg0.N) (r : Fin 1024) : Fin 32768 := ⟨t.val / 11 * 1024 + r.val, by have := lt_N t; omega⟩
def halo (t : Fin cfg0.N) (r : Fin 16) : Fin 32768 := ⟨(t.val / 11 * 64 - 1) * 16 + r.val, by have := lt_N t; omega⟩
def colG (t : Fin cfg0.N) (q : Fin 512) : Fin 11264 := ⟨t.val % 11 * 512 + q.val, by omega⟩
def colV (t : Fin cfg0.N) (q : Fin 512) : Fin 11264 := ⟨(t.val % 11 + 11) * 512 + q.val, by omega⟩
def col (t : Fin cfg0.N) (q : Fin 512) : Fin 5632 := ⟨t.val % 11 * 512 + q.val, by omega⟩

/-- The blocks' elements in the whole arrays. -/
theorem blk0 (c : Dev nD) (t : Fin cfg0.N) (r : Fin 1024) (k : Fin 2048) :
    iblk m c 0 t (ix2 r k) = V m c main_arg0 (ix2 (row t r) k) := by
  show V m c main_arg0 (((cfg0.win 0).blk t).view.emb (ix2 r k)) = _
  congr 1; funext a; apply Fin.ext
  match a with
  | ⟨0, _⟩ => show win0_0.index t 0 * 1024 + 1 * r.val = t.val / 11 * 1024 + r.val; rw [(idx0 t).1]; omega
  | ⟨1, _⟩ => show win0_0.index t 1 * 2048 + 1 * k.val = k.val; rw [(idx0 t).2]; omega
theorem blk1 (c : Dev nD) (t : Fin cfg0.N) (r : Fin 16) (k : Fin 2048) :
    iblk m c 1 t (ix2 r k) = V m c main_arg0 (ix2 (halo t r) k) := by
  show V m c main_arg0 (((cfg0.win 1).blk t).view.emb (ix2 r k)) = _
  congr 1; funext a; apply Fin.ext
  match a with
  | ⟨0, _⟩ => show win0_1.index t 0 * 16 + 1 * r.val = (t.val / 11 * 64 - 1) * 16 + r.val; rw [(idx1 t).1]; omega
  | ⟨1, _⟩ => show win0_1.index t 1 * 2048 + 1 * k.val = k.val; rw [(idx1 t).2]; omega
theorem blk2 (c : Dev nD) (t : Fin cfg0.N) (k : Fin 2048) :
    iblk m c 2 t (ix2 0 k) = V m c main_v0 (ix2 0 k) := by
  show V m c main_v0 (((cfg0.win 2).blk t).view.emb (ix2 0 k)) = _
  congr 1; funext a; apply Fin.ext
  match a with
  | ⟨0, _⟩ => show win0_2.index t 0 * 1 + 1 * 0 = 0; rw [(idx2 t).1]
  | ⟨1, _⟩ => show win0_2.index t 1 * 2048 + 1 * k.val = k.val; rw [(idx2 t).2]; omega
theorem blk3 (c : Dev nD) (t : Fin cfg0.N) (r : Fin 2048) (k : Fin 512) :
    iblk m c 3 t (ix2 r k) = V m c main_v1 (ix2 r (colG t k)) := by
  show V m c main_v1 (((cfg0.win 3).blk t).view.emb (ix2 r k)) = _
  congr 1; funext a; apply Fin.ext
  match a with
  | ⟨0, _⟩ => show win0_3.index t 0 * 2048 + 1 * r.val = r.val; rw [(idx3 t).1]; omega
  | ⟨1, _⟩ => show win0_3.index t 1 * 512 + 1 * k.val = t.val % 11 * 512 + k.val; rw [(idx3 t).2]; omega
theorem blk4 (c : Dev nD) (t : Fin cfg0.N) (r : Fin 2048) (k : Fin 512) :
    iblk m c 4 t (ix2 r k) = V m c main_v1 (ix2 r (colV t k)) := by
  show V m c main_v1 (((cfg0.win 4).blk t).view.emb (ix2 r k)) = _
  congr 1; funext a; apply Fin.ext
  match a with
  | ⟨0, _⟩ => show win0_4.index t 0 * 2048 + 1 * r.val = r.val; rw [(idx4 t).1]; omega
  | ⟨1, _⟩ => show win0_4.index t 1 * 512 + 1 * k.val = (t.val % 11 + 11) * 512 + k.val; rw [(idx4 t).2]; omega
theorem blk5 (c : Dev nD) (t : Fin cfg0.N) (r : Fin 3) (k : Fin 512) :
    iblk m c 5 t (ix2 r k) = V m c main_arg3 (ix2 r (colG t k)) := by
  show V m c main_arg3 (((cfg0.win 5).blk t).view.emb (ix2 r k)) = _
  congr 1; funext a; apply Fin.ext
  match a with
  | ⟨0, _⟩ => show win0_5.index t 0 * 3 + 1 * r.val = r.val; rw [(idx5 t).1]; omega
  | ⟨1, _⟩ => show win0_5.index t 1 * 512 + 1 * k.val = t.val % 11 * 512 + k.val; rw [(idx5 t).2]; omega
theorem blk6 (c : Dev nD) (t : Fin cfg0.N) (k : Fin 512) :
    iblk m c 6 t (ix2 0 k) = V m c main_v2 (ix2 0 (colG t k)) := by
  show V m c main_v2 (((cfg0.win 6).blk t).view.emb (ix2 0 k)) = _
  congr 1; funext a; apply Fin.ext
  match a with
  | ⟨0, _⟩ => show win0_6.index t 0 * 1 + 1 * 0 = 0; rw [(idx6 t).1]
  | ⟨1, _⟩ => show win0_6.index t 1 * 512 + 1 * k.val = t.val % 11 * 512 + k.val; rw [(idx6 t).2]; omega
theorem blk7 (c : Dev nD) (t : Fin cfg0.N) (r : Fin 3) (k : Fin 512) :
    iblk m c 7 t (ix2 r k) = V m c main_arg3 (ix2 r (colV t k)) := by
  show V m c main_arg3 (((cfg0.win 7).blk t).view.emb (ix2 r k)) = _
  congr 1; funext a; apply Fin.ext
  match a with
  | ⟨0, _⟩ => show win0_7.index t 0 * 3 + 1 * r.val = r.val; rw [(idx7 t).1]; omega
  | ⟨1, _⟩ => show win0_7.index t 1 * 512 + 1 * k.val = (t.val % 11 + 11) * 512 + k.val; rw [(idx7 t).2]; omega
theorem blk8 (c : Dev nD) (t : Fin cfg0.N) (k : Fin 512) :
    iblk m c 8 t (ix2 0 k) = V m c main_v2 (ix2 0 (colV t k)) := by
  show V m c main_v2 (((cfg0.win 8).blk t).view.emb (ix2 0 k)) = _
  congr 1; funext a; apply Fin.ext
  match a with
  | ⟨0, _⟩ => show win0_8.index t 0 * 1 + 1 * 0 = 0; rw [(idx8 t).1]
  | ⟨1, _⟩ => show win0_8.index t 1 * 512 + 1 * k.val = (t.val % 11 + 11) * 512 + k.val; rw [(idx8 t).2]; omega
theorem emb9 (t : Fin cfg0.N) (r : Fin 1024) (q : Fin 512) :
    ((cfg0.win 9).blk t).view.emb (ix2 r q) = (ix2 (row t r) (col t q) : S32768x5632.Idx) := by
  funext a; apply Fin.ext
  match a with
  | ⟨0, _⟩ => show win0_9.index t 0 * 1024 + 1 * r.val = t.val / 11 * 1024 + r.val; rw [(idx9 t).1]; omega
  | ⟨1, _⟩ => show win0_9.index t 1 * 512 + 1 * q.val = t.val % 11 * 512 + q.val; rw [(idx9 t).2]; omega

/-- The arguments as arrays of extended reals. -/
abbrev A0 (c : Dev nD) : S32768x2048.Idx → EReal := m ((c : Thread nD τ).loc main_arg0)
abbrev A1 (c : Dev nD) : S2048.Idx → EReal := m ((c : Thread nD τ).loc main_arg1)
abbrev A2 (c : Dev nD) : S2048x11264.Idx → EReal := m ((c : Thread nD τ).loc main_arg2)
abbrev A3 (c : Dev nD) : S3x11264.Idx → EReal := m ((c : Thread nD τ).loc main_arg3)
abbrev A4 (c : Dev nD) : S11264.Idx → EReal := m ((c : Thread nD τ).loc main_arg4)

/-- The norm's weight and the convolution's bias as rows. -/
def Nw (a1 : S2048.Idx → EReal) : S1x2048.Idx → EReal := shapeCast S1x2048 a1 shapeCasts_S2048_S1x2048
def Cb (a4 : S11264.Idx → EReal) : S1x11264.Idx → EReal := shapeCast S1x11264 a4 shapeCasts_S11264_S1x11264
theorem Nw_at (a1 : S2048.Idx → EReal) (k : Fin 2048) : Nw a1 (ix2 0 k) = a1 (ix1 k) := by
  pointwise [Nw]
theorem Cb_at (a4 : S11264.Idx → EReal) (k : Fin 11264) : Cb a4 (ix2 0 k) = a4 (ix1 k) := by
  pointwise [Cb]

theorem V_n (c : Dev nD) : V m c main_v0 = Nw (A1 m c) := by
  show StableHlo.after hostOps0 (fun b => m (c, b)) main_v0 = _
  simp only [hostOps0]
  after_results_simp
  rfl
theorem V_w (c : Dev nD) : V m c main_v1 = (A2 m c : S2048x11264.Idx → EReal) := by
  show StableHlo.after hostOps0 (fun b => m (c, b)) main_v1 = _
  simp only [hostOps0]
  after_results_simp
  rfl
theorem V_b (c : Dev nD) : V m c main_v2 = Cb (A4 m c) := by
  show StableHlo.after hostOps0 (fun b => m (c, b)) main_v2 = _
  simp only [hostOps0]
  after_results_simp
  rfl

/-- The normalised rows, their products, the products some rows back in the same sequence (zero before its start), the
    convolution and the result. -/
def nrm (a0 : S32768x2048.Idx → EReal) (a1 : S2048.Idx → EReal) (i : Fin 32768) (k : Fin 2048) : EReal :=
  nrmRow (fun r k => a0 (ix2 r k)) (fun k => a1 (ix1 k)) i k
def U (a0 : S32768x2048.Idx → EReal) (a1 : S2048.Idx → EReal) (a2 : S2048x11264.Idx → EReal) (i : Fin 32768) (f : Fin 11264) : EReal :=
  ∑ k : Fin 2048, nrm a0 a1 i k * a2 (ix2 k f)
def Ush (a0 : S32768x2048.Idx → EReal) (a1 : S2048.Idx → EReal) (a2 : S2048x11264.Idx → EReal) (i : Fin 32768) (f : Fin 11264) (d : Fin 3) : EReal :=
  if d.val ≤ i.val % 8192 then U a0 a1 a2 ⟨i.val - d.val, by omega⟩ f else 0
def cv (a0 : S32768x2048.Idx → EReal) (a1 : S2048.Idx → EReal) (a2 : S2048x11264.Idx → EReal) (a3 : S3x11264.Idx → EReal) (a4 : S11264.Idx → EReal)
    (i : Fin 32768) (f : Fin 11264) : EReal :=
  conv (Ush a0 a1 a2 i f) (fun d => a3 (ix2 d f)) (a4 (ix1 f))
def G (a0 : S32768x2048.Idx → EReal) (a1 : S2048.Idx → EReal) (a2 : S2048x11264.Idx → EReal) (a3 : S3x11264.Idx → EReal) (a4 : S11264.Idx → EReal) :
    S32768x5632.Idx → EReal := fun j =>
  gelu (cv a0 a1 a2 a3 a4 (j 0) (⟨(j 1 : Nat), Nat.lt_trans (j 1).isLt (by decide)⟩ : Fin 11264))
    * cv a0 a1 a2 a3 a4 (j 0) (⟨(j 1 : Nat) + 5632, Nat.add_lt_add_right (j 1).isLt 5632⟩ : Fin 11264)

/-- What the scratch holds at point `t`: row `s` of it, zero if it lies before the sequence. -/
def S (c : Dev nD) (t : Fin cfg0.N) (s : Fin 1040) (k : Fin 2048) : EReal :=
  if s.val < 16 ∧ t.val / 11 % 8 = 0 then 0 else nrm (A0 m c) (A1 m c) ⟨t.val / 11 * 1024 + s.val - 16, by have := lt_N t; omega⟩ k

/-- The filled scratch. -/
theorem scr_eq (c : Dev nD) (t : Fin cfg0.N) (s : Fin 1040) (k : Fin 2048) :
    scr (BitVec.ofNat 32 (grid0.coords t 0).val) (iblk m c 0 t) (iblk m c 1 t) (iblk m c 2 t) (ix2 s k) = S m c t s k := by
  have ht := lt_N t
  unfold S
  by_cases h : s.val < 16
  · have hs : s = ⟨(⟨s.val, h⟩ : Fin 16).val, by omega⟩ := rfl
    have hk := keep_eq ⟨t.val / 11, by omega⟩
    conv_lhs => rw [hs]
    rw [scr_high, pay5_at, coord0, hk]
    by_cases h8 : t.val / 11 % 8 = 0
    · rw [if_pos h8, if_neg (by decide), if_pos ⟨h, h8⟩]
    · rw [if_neg h8, if_pos rfl, if_neg (fun e => h8 e.2)]
      unfold nrm nrmRow
      simp only [blk1, blk2]
      rw [V_main_arg0, V_n]
      have e : halo t ⟨s.val, h⟩ = ⟨t.val / 11 * 1024 + s.val - 16, by omega⟩ := Fin.ext (by
        show (t.val / 11 * 64 - 1) * 16 + s.val = t.val / 11 * 1024 + s.val - 16
        omega)
      simp only [Nw_at, e]
  · have hs : s = ⟨16 + (⟨s.val - 16, by omega⟩ : Fin 1024).val, by show 16 + (s.val - 16) < 1040; omega⟩ := Fin.ext (by
      show s.val = 16 + (s.val - 16); omega)
    rw [if_neg (fun e => h e.1)]
    conv_lhs => rw [hs]
    rw [scr_low, pay2_at]
    unfold nrm nrmRow
    simp only [blk0, blk2]
    rw [V_main_arg0, V_n]
    have e : row t ⟨s.val - 16, by omega⟩ = ⟨t.val / 11 * 1024 + s.val - 16, by omega⟩ := Fin.ext (by
      show t.val / 11 * 1024 + (s.val - 16) = t.val / 11 * 1024 + s.val - 16
      omega)
    simp only [Nw_at, e]

/-- After every point the scratch holds the rows of the point's row block and those before it. -/
theorem scratch (c : Dev nD) : ∀ (n : ℕ) (h : n < cfg0.N) (s : Fin 1040) (k : Fin 2048),
    (outsAt0 m c n h).2 (ix2 s k) = S m c ⟨n, h⟩ s k
  | 0, h, s, k => by
    rw [outsAt0_A m c ⟨0, h⟩ rfl]
    dsimp only
    rw [sout_A]
    exact scr_eq m c ⟨0, h⟩ s k
  | n + 1, h, s, k => by
    by_cases h0 : (n + 1) % 11 = 0
    · rw [outsAt0_A m c ⟨n + 1, h⟩ h0]
      dsimp only
      rw [sout_A]
      exact scr_eq m c ⟨n + 1, h⟩ s k
    · rw [outsAt0_B m c ⟨n + 1, h⟩ h0]
      refine (scratch c n (Nat.lt_of_succ_lt h) s k).trans ?_
      have e : n / 11 = (n + 1) / 11 := by omega
      unfold S
      simp only [e]

/-- The products of the scratch's rows are those of the rows some steps back. -/
theorem dot_eq (c : Dev nD) (t : Fin cfg0.N) (v : Vec Ideal S1040x2048 .bf16) (hv : ∀ s k, v (ix2 s k) = S m c t s k)
    (p : Fin 1024) (f : Fin 11264) (d : Fin 3) :
    (∑ k : Fin 2048, v (ix2 (back p d) k) * A2 m c (ix2 k f)) = Ush (A0 m c) (A1 m c) (A2 m c) (row t p) f d := by
  have ht := lt_N t
  have hr : (row t p).val = t.val / 11 * 1024 + p.val := rfl
  have hb : (back p d).val = 16 - d.val + p.val := rfl
  simp only [hv]
  unfold S Ush
  by_cases h : d.val ≤ (row t p).val % 8192
  · rw [if_pos h]
    unfold U
    refine Finset.sum_congr rfl fun k _ => ?_
    rw [if_neg (by omega)]
    congr 2
    apply Fin.ext
    show t.val / 11 * 1024 + (16 - d.val + p.val) - 16 = t.val / 11 * 1024 + p.val - d.val
    omega
  · rw [if_neg h]
    refine Finset.sum_eq_zero fun k _ => ?_
    rw [if_pos (by omega), zero_mul]

/-- The block of the result. -/
theorem fin_eq (c : Dev nD) (t : Fin cfg0.N) (v : Vec Ideal S1040x2048 .bf16) (hv : ∀ s k, v (ix2 s k) = S m c t s k)
    (p : Fin 1024) (q : Fin 512) :
    fin v (iblk m c 3 t) (iblk m c 4 t) (iblk m c 5 t) (iblk m c 6 t) (iblk m c 7 t) (iblk m c 8 t) (ix2 p q)
      = G (A0 m c) (A1 m c) (A2 m c) (A3 m c) (A4 m c) (ix2 (row t p) (col t q)) := by
  have hG : G (A0 m c) (A1 m c) (A2 m c) (A3 m c) (A4 m c) (ix2 (row t p) (col t q))
      = gelu (cv (A0 m c) (A1 m c) (A2 m c) (A3 m c) (A4 m c) (row t p) (colG t q))
        * cv (A0 m c) (A1 m c) (A2 m c) (A3 m c) (A4 m c) (row t p) (colV t q) := by
    have e : colV t q = (⟨(col t q).val + 5632, by omega⟩ : Fin 11264) := Fin.ext (by
      show (t.val % 11 + 11) * 512 + q.val = t.val % 11 * 512 + q.val + 5632
      omega)
    rw [e]
    rfl
  rw [hG, fin_at]
  unfold cv
  simp only [blk3, blk4, blk5, blk6, blk7, blk8]
  rw [V_w, V_b, V_main_arg3]
  simp only [dot_eq m c t v hv, Cb_at]

/-- What each point writes back is its block of the result. -/
theorem flushed_eq (c : Dev nD) (t : Fin cfg0.N) :
    (dats m 0 c).flushed 9 t = ((cfg0.win 9).blk t).view.read (Elt Ideal) (G (A0 m c) (A1 m c) (A2 m c) (A3 m c) (A4 m c)) := by
  by_cases h0 : t.val % 11 = 0
  · rw [Value.flushed9_A m c t h0, out_A]
    funext y
    obtain ⟨r, q, rfl⟩ : ∃ (r : Fin 1024) (q : Fin 512), y = ix2 r q := ⟨y 0, y 1, eq_ix2 y⟩
    show fin (scr (BitVec.ofNat 32 (grid0.coords t 0).val) (iblk m c 0 t) (iblk m c 1 t) (iblk m c 2 t)) (iblk m c 3 t) (iblk m c 4 t) (iblk m c 5 t) (iblk m c 6 t) (iblk m c 7 t) (iblk m c 8 t) (ix2 r q)
      = G (A0 m c) (A1 m c) (A2 m c) (A3 m c) (A4 m c) (((cfg0.win 9).blk t).view.emb (ix2 r q))
    rw [emb9]
    exact fin_eq m c t _ (scr_eq m c t) r q
  · rw [Value.flushed9_B m c t h0, out_B]
    funext y
    obtain ⟨r, q, rfl⟩ : ∃ (r : Fin 1024) (q : Fin 512), y = ix2 r q := ⟨y 0, y 1, eq_ix2 y⟩
    show fin (outsAt0 m c (t.val - 1) (Nat.lt_of_le_of_lt (Nat.sub_le _ _) t.isLt)).2 (iblk m c 3 t) (iblk m c 4 t) (iblk m c 5 t) (iblk m c 6 t) (iblk m c 7 t) (iblk m c 8 t) (ix2 r q)
      = G (A0 m c) (A1 m c) (A2 m c) (A3 m c) (A4 m c) (((cfg0.win 9).blk t).view.emb (ix2 r q))
    rw [emb9]
    refine fin_eq m c t _ (fun s k => (scratch m c _ _ s k).trans ?_) r q
    have e : (t.val - 1) / 11 = t.val / 11 := by omega
    unfold S
    simp only [e]

/-- The blocks cover the result. -/
theorem cover (i : S32768x5632.Idx) :
    ∃ t : Fin cfg0.N, (cfg0.win 9).flush t = true ∧ i ∈ ((cfg0.win 9).blk t).view.set :=
  (Value.covered_iff9 i).2 (by
    have h0 : (i 0).val < 32768 := (i 0).isLt
    have h1 : (i 1).val < 5632 := (i 1).isLt
    omega)

/-- The result array after the run. -/
theorem final (c : Dev nD) : (dats m 0 c).arrAt 9 cfg0.N = G (A0 m c) (A1 m c) (A2 m c) (A3 m c) (A4 m c) :=
  (dats m 0 c).arrAt_eq_of_cover 9 (G (A0 m c) (A1 m c) (A2 m c) (A3 m c) (A4 m c)) (fun t _ => flushed_eq m c t) cover

end Cert.UpIdeal.Val

namespace Cert.UpRefIdeal.Val

open Cert.UpRefIdeal Cert.UpRefIdeal.Gen Idealize.ShloMosaic Idealize.ShloMosaic.TcCoe Idealize.SL.Sem

/-- The reference's stages: the rows' products, the array with two zero rows in front of every sequence, the convolution,
    and the gated result. -/
def dotV (a0 : FVec Ideal S32768x2048 .f32) (a1 : FVec Ideal S2048 .f32) (a2 : FVec Ideal S2048x11264 .f32) : FVec Ideal S32768x11264 .f32 :=
  Host.dotGeneral dot_S32768x2048_S2048x11264_S32768x11264_1_0_0_1_n_n none (mulf (mulf a0 (broadcastInDim S32768x2048 ![0, 1] bcast_S32768x1_S32768x2048_0_1 (Host.rsqrt (addf (Host.divf (broadcastInDim S32768x1 ![0] bcast_S32768_S32768x1_0 (Host.reduceAdd (mulf a0 a0) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 a1))) a2
def padV (u : FVec Ideal S32768x11264 .f32) : FVec Ideal S4x8194x11264 .f32 :=
  pad S4x8194x11264 ![0, 2, 0] ![0, 0, 0] ![0, 0, 0] (shapeCast _ u shapeCasts_S32768x11264_S4x8192x11264) (sitofp .f32 (constantI S_ 32 0#32)) pads_S4x8192x11264_S4x8194x11264_000_200_000 h_S_
def convV (x : FVec Ideal S4x8194x11264 .f32) (a3 : FVec Ideal S3x11264 .f32) (a4 : FVec Ideal S11264 .f32) : FVec Ideal S4x8192x11264 .f32 :=
  addf (addf (addf (mulf (extractStridedSlice S4x8192x11264 ![0, 0, 0] x slices_S4x8194x11264_S4x8192x11264_0_0_0) (broadcastInDim S4x8192x11264 ![0, 1, 2] bcast_S1x1x11264_S4x8192x11264_0_1_2 (broadcastInDim S1x1x11264 ![2] bcast_S11264_S1x1x11264_2 (shapeCast _ (extractStridedSlice S1x11264 ![0, 0] a3 slices_S3x11264_S1x11264_0_0) shapeCasts_S1x11264_S11264)))) (mulf (extractStridedSlice S4x8192x11264 ![0, 1, 0] x slices_S4x8194x11264_S4x8192x11264_0_1_0) (broadcastInDim S4x8192x11264 ![0, 1, 2] bcast_S1x1x11264_S4x8192x11264_0_1_2 (broadcastInDim S1x1x11264 ![2] bcast_S11264_S1x1x11264_2 (shapeCast _ (extractStridedSlice S1x11264 ![1, 0] a3 slices_S3x11264_S1x11264_1_0) shapeCasts_S1x11264_S11264))))) (mulf (extractStridedSlice S4x8192x11264 ![0, 2, 0] x slices_S4x8194x11264_S4x8192x11264_0_2_0) (broadcastInDim S4x8192x11264 ![0, 1, 2] bcast_S1x1x11264_S4x8192x11264_0_1_2 (broadcastInDim S1x1x11264 ![2] bcast_S11264_S1x1x11264_2 (shapeCast _ (extractStridedSlice S1x11264 ![2, 0] a3 slices_S3x11264_S1x11264_2_0) shapeCasts_S1x11264_S11264))))) (broadcastInDim S4x8192x11264 ![0, 1, 2] bcast_S1x1x11264_S4x8192x11264_0_1_2 (broadcastInDim S1x1x11264 ![2] bcast_S11264_S1x1x11264_2 a4))
def geluV (x : FVec Ideal S4x8192x5632 .f32) : FVec Ideal S4x8192x5632 .f32 :=
  mulf x (mulf (broadcastInDim S4x8192x5632 ![] bcast_S_S4x8192x5632 (constant S_ .f32 0x3F000000#32)) (addf (broadcastInDim S4x8192x5632 ![] bcast_S_S4x8192x5632 (constant S_ .f32 0x3F800000#32)) (Host.tanh (mulf (broadcastInDim S4x8192x5632 ![] bcast_S_S4x8192x5632 (constant S_ .f32 0x3F4C422A#32)) (addf x (mulf (broadcastInDim S4x8192x5632 ![] bcast_S_S4x8192x5632 (constant S_ .f32 0x3D372713#32)) (mulf (mulf x x) x)))))))
def outV (y : FVec Ideal S4x8192x11264 .f32) : FVec Ideal S32768x5632 .bf16 :=
  truncf .bf16 (shapeCast S32768x5632 (mulf (geluV (extractStridedSlice S4x8192x5632 ![0, 0, 0] y slices_S4x8192x11264_S4x8192x5632_0_0_0)) (extractStridedSlice S4x8192x5632 ![0, 0, 5632] y slices_S4x8192x11264_S4x8192x5632_0_0_5632)) shapeCasts_S4x8192x5632_S32768x5632) bitsLt_bf16_f32

/-- The whole reference of its arguments. -/
def ref (a0 : FVec Ideal S32768x2048 .f32) (a1 : FVec Ideal S2048 .f32) (a2 : FVec Ideal S2048x11264 .f32)
    (a3 : FVec Ideal S3x11264 .f32) (a4 : FVec Ideal S11264 .f32) : FVec Ideal S32768x5632 .bf16 :=
  outV (convV (padV (dotV a0 a1 a2)) a3 a4)

set_option maxRecDepth 16384

/-- A row in front is zero. -/
theorem dite_pad {P Q : Prop} [Decidable P] [Decidable Q] (hpq : P ↔ Q) (f : Q → EReal) (z : EReal) (hz : z = 0) :
    (if h : P then f (hpq.mp h) else z) = if h : Q then f h else 0 := by
  subst hz
  by_cases h : Q
  · rw [dif_pos h, dif_pos (hpq.mpr h)]
  · rw [dif_neg h, dif_neg fun e => h (hpq.mp e)]

/-- The padding word is zero. -/
theorem sitofp_zero : FloatOps.sitofp (F := Ideal) .f32 (0#32) = (0 : EReal) := by
  show (((0#32 : BitVec 32).toInt : ℝ) : EReal) = 0
  rw [show (0#32 : BitVec 32).toInt = 0 from rfl, Int.cast_zero, EReal.coe_zero]

/-- Each stage at an index. -/
theorem dotV_at (a0 : FVec Ideal S32768x2048 .f32) (a1 : FVec Ideal S2048 .f32) (a2 : FVec Ideal S2048x11264 .f32) (i : Fin 32768) (f : Fin 11264) :
    dotV a0 a1 a2 (ix2 i f) = Cert.UpIdeal.Val.U a0 a1 a2 i f := by
  pointwise [dotV, Cert.UpIdeal.Val.U, Cert.UpIdeal.Val.nrm, Cert.UpIdeal.Val.nrmRow]

theorem padV_at (u : FVec Ideal S32768x11264 .f32) (b : Fin 4) (s : Fin 8194) (f : Fin 11264) :
    padV u (ix3 b s f) = if h : 2 ≤ s.val then u (ix2 (⟨b.val * 8192 + (s.val - 2), by omega⟩ : Fin 32768) f) else 0 := by
  pointwise [padV]
  have hq : (2 ≤ s.val ∧ s.val - 2 < 8192) ↔ 2 ≤ s.val := ⟨fun e => e.1, fun h => ⟨h, by omega⟩⟩
  exact dite_pad hq (fun h => u (ix2 (⟨b.val * 8192 + (s.val - 2), by omega⟩ : Fin 32768) f)) _ sitofp_zero

theorem convV_at (x : FVec Ideal S4x8194x11264 .f32) (a3 : FVec Ideal S3x11264 .f32) (a4 : FVec Ideal S11264 .f32) (b : Fin 4) (s : Fin 8192) (f : Fin 11264) :
    convV x a3 a4 (ix3 b s f) = x (ix3 b (⟨s.val, by omega⟩ : Fin 8194) f) * a3 (ix2 0 f) + x (ix3 b (⟨1 + s.val, by omega⟩ : Fin 8194) f) * a3 (ix2 1 f)
      + x (ix3 b (⟨2 + s.val, by omega⟩ : Fin 8194) f) * a3 (ix2 2 f) + a4 (ix1 f) := by
  pointwise [convV]

theorem geluV_at (x : FVec Ideal S4x8192x5632 .f32) (b : Fin 4) (s : Fin 8192) (q : Fin 5632) :
    geluV x (ix3 b s q) = Cert.UpIdeal.Val.gelu (x (ix3 b s q)) := by
  unfold Cert.UpIdeal.Val.gelu
  rw [← mul_assoc (x (ix3 b s q)) (x (ix3 b s q))]
  pointwise [geluV]

theorem slice_at (y : FVec Ideal S4x8192x11264 .f32) (b : Fin 4) (s : Fin 8192) (q : Fin 5632) :
    extractStridedSlice S4x8192x5632 ![0, 0, 0] y slices_S4x8192x11264_S4x8192x5632_0_0_0 (ix3 b s q) = y (ix3 b s (⟨q.val, by omega⟩ : Fin 11264)) := by
  pointwise []

theorem outV_at (y : FVec Ideal S4x8192x11264 .f32) (i : Fin 32768) (q : Fin 5632) :
    outV y (ix2 i q) = Cert.UpIdeal.Val.gelu (y (ix3 (⟨i.val / 8192, by omega⟩ : Fin 4) (⟨i.val % 8192, by omega⟩ : Fin 8192) (⟨q.val, by omega⟩ : Fin 11264)))
      * y (ix3 (⟨i.val / 8192, by omega⟩ : Fin 4) (⟨i.val % 8192, by omega⟩ : Fin 8192) (⟨5632 + q.val, by omega⟩ : Fin 11264)) := by
  pointwise [outV]
  rw [geluV_at, slice_at]

end Cert.UpRefIdeal.Val

namespace Cert.UpIdeal.Val

open Cert.UpIdeal Cert.UpIdeal.Gen Idealize.ShloMosaic

set_option maxRecDepth 16384

/-- A row of the padded products is the row some steps back. -/
theorem tap (a0 : S32768x2048.Idx → EReal) (a1 : S2048.Idx → EReal) (a2 : S2048x11264.Idx → EReal) (i : Fin 32768) (f : Fin 11264)
    (d : Fin 3) (s : Fin 8194) (h : s.val + d.val = i.val % 8192 + 2) :
    Cert.UpRefIdeal.Val.padV (Cert.UpRefIdeal.Val.dotV a0 a1 a2) (ix3 (⟨i.val / 8192, by omega⟩ : Fin 4) s f) = Ush a0 a1 a2 i f d := by
  rw [Cert.UpRefIdeal.Val.padV_at]
  unfold Ush
  by_cases hd : d.val ≤ i.val % 8192
  · rw [if_pos hd, dif_pos (show 2 ≤ s.val by omega), Cert.UpRefIdeal.Val.dotV_at]
    congr 1
    apply Fin.ext
    show i.val / 8192 * 8192 + (s.val - 2) = i.val - d.val
    omega
  · rw [if_neg hd, dif_neg (show ¬2 ≤ s.val by omega)]

/-- The reference's convolution is the kernel's. -/
theorem conv_eq (a0 : S32768x2048.Idx → EReal) (a1 : S2048.Idx → EReal) (a2 : S2048x11264.Idx → EReal) (a3 : S3x11264.Idx → EReal)
    (a4 : S11264.Idx → EReal) (i : Fin 32768) (f : Fin 11264) :
    Cert.UpRefIdeal.Val.convV (Cert.UpRefIdeal.Val.padV (Cert.UpRefIdeal.Val.dotV a0 a1 a2)) a3 a4
      (ix3 (⟨i.val / 8192, by omega⟩ : Fin 4) (⟨i.val % 8192, by omega⟩ : Fin 8192) f) = cv a0 a1 a2 a3 a4 i f := by
  rw [Cert.UpRefIdeal.Val.convV_at, tap a0 a1 a2 i f 2 _ (by show i.val % 8192 + 2 = _; omega),
    tap a0 a1 a2 i f 1 _ (by show 1 + i.val % 8192 + 1 = _; omega), tap a0 a1 a2 i f 0 _ (by show 2 + i.val % 8192 + 0 = _; omega)]
  unfold cv conv
  rw [mul_comm (Ush a0 a1 a2 i f 2), mul_comm (Ush a0 a1 a2 i f 1), mul_comm (Ush a0 a1 a2 i f 0)]
  generalize a3 (ix2 0 f) * Ush a0 a1 a2 i f 2 = x
  generalize a3 (ix2 1 f) * Ush a0 a1 a2 i f 1 = y
  generalize a3 (ix2 2 f) * Ush a0 a1 a2 i f 0 = z
  generalize a4 (ix1 f) = w
  rw [add_comm, add_comm (x + y), add_comm x, ← add_assoc, ← add_assoc]

/-- The reference computes the same function of the arguments. -/
theorem ref_eq (a0 : S32768x2048.Idx → EReal) (a1 : S2048.Idx → EReal) (a2 : S2048x11264.Idx → EReal) (a3 : S3x11264.Idx → EReal)
    (a4 : S11264.Idx → EReal) : Cert.UpRefIdeal.Val.ref a0 a1 a2 a3 a4 = G a0 a1 a2 a3 a4 := by
  funext j
  obtain ⟨i, q, rfl⟩ : ∃ (i : Fin 32768) (q : Fin 5632), j = ix2 i q := ⟨j 0, j 1, eq_ix2 j⟩
  have e : (⟨5632 + q.val, by omega⟩ : Fin 11264) = ⟨q.val + 5632, by omega⟩ := Fin.ext (Nat.add_comm _ _)
  unfold Cert.UpRefIdeal.Val.ref
  rw [Cert.UpRefIdeal.Val.outV_at, conv_eq, conv_eq, e]
  rfl

end Cert.UpIdeal.Val

namespace Cert.Proof

open Idealize.ShloMosaic Idealize.SL.Sem

set_option maxRecDepth 16384 in
/-- The gated convolution is its reference. -/
theorem value_Up : Cert.algebraic_UpIdeal_UpRefIdeal := by
  intro m g m' g' _ hagree
  refine ⟨fun c => Cert.UpIdeal.Val.G (Cert.UpIdeal.Val.A0 m c) (Cert.UpIdeal.Val.A1 m c) (Cert.UpIdeal.Val.A2 m c)
    (Cert.UpIdeal.Val.A3 m c) (Cert.UpIdeal.Val.A4 m c), ?_, ?_⟩
  · refine (θ_run Cert.UpIdeal.defs _ _).mono (fun r h c => ?_) (Cert.UpIdeal.Value.run_blocks m g)
    exact ⟨(h c).1.trans (Cert.UpIdeal.Val.final m c), (h c).2⟩
  · refine (θ_run Cert.UpRefIdeal.defs _ _).mono (fun r h c => ?_) (Cert.UpRefIdeal.Value.run (F := Ideal) m' g')
    refine ⟨(h c).1.trans ?_, (h c).2⟩
    clear h
    unfold Cert.UpRefIdeal.Value.res_main_v56
    rw [(hagree c).1, (hagree c).2.1, (hagree c).2.2.1, (hagree c).2.2.2.1, (hagree c).2.2.2.2]
    exact Cert.UpIdeal.Val.ref_eq _ _ _ _ _

end Cert.Proof

end
-- ==== Proof.DownValue.lean ====
/-
  The down projection's value: block by block the kernel adds to the residual the product of the activation's rows with
  the weight's columns, the whole contraction at once, which is the reference's product at every index.
-/
module

public import proofs.«01_k».proof.Defs
public import proofs.«01_k».proof.Proof.Gen.DownIdeal.Value
public import proofs.«01_k».proof.Proof.Gen.DownRefIdeal.Run
public import Idealize.ShloMosaic.Lib.Pointwise

@[expose] public section

noncomputable section

namespace Cert.DownIdeal.Val

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The index maps: 32 row blocks outside, 4 column blocks inside. -/
theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)
theorem idx3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

theorem lt_N (t : Fin cfg0.N) : t.val < 128 := N_0 ▸ t.isLt

/-- Row `r` of point `t`'s row block, and column `q` of its column block, in the whole arrays. -/
def row (t : Fin cfg0.N) (r : Fin 1024) : Fin 32768 := ⟨t.val / 4 * 1024 + r.val, by have := lt_N t; omega⟩
def col (t : Fin cfg0.N) (q : Fin 512) : Fin 2048 := ⟨t.val % 4 * 512 + q.val, by omega⟩

/-- The blocks' elements in the whole arrays. -/
theorem blk0 (c : Dev nD) (t : Fin cfg0.N) (r : Fin 1024) (k : Fin 5632) :
    iblk m c 0 t (ix2 r k) = V m c main_arg0 (ix2 (row t r) k) := by
  show V m c main_arg0 (((cfg0.win 0).blk t).view.emb (ix2 r k)) = _
  congr 1; funext a; apply Fin.ext
  match a with
  | ⟨0, _⟩ => show win0_0.index t 0 * 1024 + 1 * r.val = t.val / 4 * 1024 + r.val; rw [(idx0 t).1]; omega
  | ⟨1, _⟩ => show win0_0.index t 1 * 5632 + 1 * k.val = k.val; rw [(idx0 t).2]; omega
theorem blk1 (c : Dev nD) (t : Fin cfg0.N) (k : Fin 5632) (q : Fin 512) :
    iblk m c 1 t (ix2 k q) = V m c main_v0 (ix2 k (col t q)) := by
  show V m c main_v0 (((cfg0.win 1).blk t).view.emb (ix2 k q)) = _
  congr 1; funext a; apply Fin.ext
  match a with
  | ⟨0, _⟩ => show win0_1.index t 0 * 5632 + 1 * k.val = k.val; rw [(idx1 t).1]; omega
  | ⟨1, _⟩ => show win0_1.index t 1 * 512 + 1 * q.val = t.val % 4 * 512 + q.val; rw [(idx1 t).2]; omega
theorem blk2 (c : Dev nD) (t : Fin cfg0.N) (r : Fin 1024) (q : Fin 512) :
    iblk m c 2 t (ix2 r q) = V m c main_arg2 (ix2 (row t r) (col t q)) := by
  show V m c main_arg2 (((cfg0.win 2).blk t).view.emb (ix2 r q)) = _
  congr 1; funext a; apply Fin.ext
  match a with
  | ⟨0, _⟩ => show win0_2.index t 0 * 1024 + 1 * r.val = t.val / 4 * 1024 + r.val; rw [(idx2 t).1]; omega
  | ⟨1, _⟩ => show win0_2.index t 1 * 512 + 1 * q.val = t.val % 4 * 512 + q.val; rw [(idx2 t).2]; omega
theorem emb3 (t : Fin cfg0.N) (r : Fin 1024) (q : Fin 512) :
    ((cfg0.win 3).blk t).view.emb (ix2 r q) = (ix2 (row t r) (col t q) : S32768x2048.Idx) := by
  funext a; apply Fin.ext
  match a with
  | ⟨0, _⟩ => show win0_3.index t 0 * 1024 + 1 * r.val = t.val / 4 * 1024 + r.val; rw [(idx3 t).1]; omega
  | ⟨1, _⟩ => show win0_3.index t 1 * 512 + 1 * q.val = t.val % 4 * 512 + q.val; rw [(idx3 t).2]; omega

/-- The arguments as arrays of extended reals. -/
abbrev A0 (c : Dev nD) : S32768x5632.Idx → EReal := m ((c : Thread nD τ).loc main_arg0)
abbrev A1 (c : Dev nD) : S5632x2048.Idx → EReal := m ((c : Thread nD τ).loc main_arg1)
abbrev A2 (c : Dev nD) : S32768x2048.Idx → EReal := m ((c : Thread nD τ).loc main_arg2)

/-- The weight the kernel reads is the argument, its format aside. -/
theorem V_w (c : Dev nD) : V m c main_v0 = (A1 m c : S5632x2048.Idx → EReal) := by
  show StableHlo.after hostOps0 (fun b => m (c, b)) main_v0 = _
  simp only [hostOps0]
  after_results_simp
  rfl

/-- The result: the residual plus the product. -/
def G (a0 : S32768x5632.Idx → EReal) (a1 : S5632x2048.Idx → EReal) (a2 : S32768x2048.Idx → EReal) : S32768x2048.Idx → EReal := fun i =>
  a2 i + ∑ k : Fin 5632, a0 (ix2 (i 0) k) * a1 (ix2 k (i 1))

theorem hz : (![0, 0] : Fin 2 → Nat) = fun _ => 0 := funext fun a => by fin_cases a <;> rfl

set_option maxRecDepth 16384 in
/-- What each point writes back is its block of the result. -/
theorem flushed_eq (c : Dev nD) (t : Fin cfg0.N) :
    (dats m 0 c).flushed 3 t = ((cfg0.win 3).blk t).view.read (Elt Ideal) (G (A0 m c) (A1 m c) (A2 m c)) := by
  rw [Value.flushed3]
  unfold out0_3
  rw [View.canon_unit_zero hz, View.ld_unit_zero hz, View.ld_unit_zero hz, View.ld_unit_zero hz]
  funext y
  obtain ⟨r, q, rfl⟩ : ∃ (r : Fin 1024) (q : Fin 512), y = ix2 r q := ⟨y 0, y 1, eq_ix2 y⟩
  show k0_pay1 (iblk m c 2 t) (iblk m c 0 t) (iblk m c 1 t) (ix2 r q) = G (A0 m c) (A1 m c) (A2 m c) (((cfg0.win 3).blk t).view.emb (ix2 r q))
  rw [emb3]
  pointwise [k0_pay1, G]
  simp only [blk0, blk1, blk2]
  rw [V_main_arg0, V_main_arg2, V_w]

/-- The blocks cover the result. -/
theorem cover (i : S32768x2048.Idx) :
    ∃ t : Fin cfg0.N, (cfg0.win 3).flush t = true ∧ i ∈ ((cfg0.win 3).blk t).view.set := by
  have h0 : (i 0 : Nat) < 32768 := (i 0).isLt
  have h1 : (i 1 : Nat) < 2048 := (i 1).isLt
  have ht : (i 0 : Nat) / 1024 * 4 + (i 1 : Nat) / 512 < cfg0.N := by rw [show cfg0.N = 128 from N_0]; omega
  obtain ⟨t, ht⟩ : ∃ t : Fin cfg0.N, t.val = (i 0 : Nat) / 1024 * 4 + (i 1 : Nat) / 512 := ⟨⟨_, ht⟩, rfl⟩
  have e := ((cfg0.win 3).blk t).view.emb_mem_set (ix2 (⟨(i 0 : Nat) % 1024, by omega⟩ : Fin 1024) (⟨(i 1 : Nat) % 512, by omega⟩ : Fin 512) : S1024x512.Idx)
  rw [emb3] at e
  have hi : i = ix2 (row t ⟨(i 0 : Nat) % 1024, by omega⟩) (col t ⟨(i 1 : Nat) % 512, by omega⟩) := by
    refine (eq_ix2 i).trans (congrArg₂ _ (Fin.ext ?_) (Fin.ext ?_))
    · show (i 0 : Nat) = t.val / 4 * 1024 + (i 0 : Nat) % 1024; omega
    · show (i 1 : Nat) = t.val % 4 * 512 + (i 1 : Nat) % 512; omega
  exact ⟨t, flush0_3 _, hi ▸ e⟩

/-- The result array after the run. -/
theorem final (c : Dev nD) : (dats m 0 c).arrAt 3 cfg0.N = G (A0 m c) (A1 m c) (A2 m c) :=
  (dats m 0 c).arrAt_eq_of_cover 3 (G (A0 m c) (A1 m c) (A2 m c)) (fun t _ => flushed_eq m c t) cover

end Cert.DownIdeal.Val

namespace Cert.Proof

open Idealize.ShloMosaic Idealize.SL.Sem

set_option maxRecDepth 16384 in
/-- The down projection is its reference. -/
theorem value_Down : Cert.algebraic_DownIdeal_DownRefIdeal := by
  intro m g m' g' _ hagree
  refine ⟨fun c => Cert.DownIdeal.Val.G (Cert.DownIdeal.Val.A0 m c) (Cert.DownIdeal.Val.A1 m c) (Cert.DownIdeal.Val.A2 m c), ?_, ?_⟩
  · refine (θ_run Cert.DownIdeal.defs _ _).mono (fun r h c => ?_) (Cert.DownIdeal.Value.run_blocks m g)
    exact ⟨(h c).1.trans (Cert.DownIdeal.Val.final m c), (h c).2⟩
  · refine (θ_run Cert.DownRefIdeal.defs _ _).mono (fun r h c => ?_) (Cert.DownRefIdeal.Value.run (F := Ideal) m' g')
    refine ⟨(h c).1.trans ?_, (h c).2⟩
    rw [(hagree c).1, (hagree c).2.1, (hagree c).2.2]
    funext i
    pointwise [Cert.DownIdeal.Val.G]

end Cert.Proof

end
-- ==== Proof.PleValue.lean ====
/-
  The per-layer embedding's value: each block of rows is normalised, multiplied with the gate's weight, sent through the
  logistic function, multiplied with the embedding's projection and added to the residual; all of it row by row, as in
  the reference.
-/
module

public import proofs.«01_k».proof.Defs
public import proofs.«01_k».proof.Proof.Gen.PleIdeal.Value
public import proofs.«01_k».proof.Proof.Gen.PleRefIdeal.Run
public import Idealize.ShloMosaic.Lib.Pointwise

@[expose] public section

noncomputable section

namespace Cert.PleIdeal.Val

open Cert.PleIdeal Cert.PleIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The index maps: 64 row blocks, the weights whole. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)

theorem lt_N (t : Fin cfg0.N) : t.val < 64 := N_0 ▸ t.isLt

/-- Row `r` of point `t`'s row block in the whole arrays. -/
def row (t : Fin cfg0.N) (r : Fin 512) : Fin 32768 := ⟨t.val * 512 + r.val, by have := lt_N t; omega⟩

/-- The blocks' elements in the whole arrays. -/
theorem blk0 (c : Dev nD) (t : Fin cfg0.N) (r : Fin 512) (k : Fin 2048) :
    iblk m c 0 t (ix2 r k) = V m c main_arg0 (ix2 (row t r) k) := by
  show V m c main_arg0 (((cfg0.win 0).blk t).view.emb (ix2 r k)) = _
  congr 1; funext a; apply Fin.ext
  match a with
  | ⟨0, _⟩ => show win0_0.index t 0 * 512 + 1 * r.val = t.val * 512 + r.val; rw [(idx0 t).1]; omega
  | ⟨1, _⟩ => show win0_0.index t 1 * 2048 + 1 * k.val = k.val; rw [(idx0 t).2]; omega
theorem blk1 (c : Dev nD) (t : Fin cfg0.N) (r : Fin 512) (k : Fin 256) :
    iblk m c 1 t (ix2 r k) = V m c main_v0 (ix2 (row t r) k) := by
  show V m c main_v0 (((cfg0.win 1).blk t).view.emb (ix2 r k)) = _
  congr 1; funext a; apply Fin.ext
  match a with
  | ⟨0, _⟩ => show win0_1.index t 0 * 512 + 1 * r.val = t.val * 512 + r.val; rw [(idx1 t).1]; omega
  | ⟨1, _⟩ => show win0_1.index t 1 * 256 + 1 * k.val = k.val; rw [(idx1 t).2]; omega
theorem blk2 (c : Dev nD) (t : Fin cfg0.N) (r : Fin 1) (k : Fin 2048) :
    iblk m c 2 t (ix2 r k) = V m c main_v1 (ix2 r k) := by
  show V m c main_v1 (((cfg0.win 2).blk t).view.emb (ix2 r k)) = _
  congr 1; funext a; apply Fin.ext
  match a with
  | ⟨0, _⟩ => show win0_2.index t 0 * 1 + 1 * r.val = r.val; rw [(idx2 t).1]; omega
  | ⟨1, _⟩ => show win0_2.index t 1 * 2048 + 1 * k.val = k.val; rw [(idx2 t).2]; omega
theorem blk3 (c : Dev nD) (t : Fin cfg0.N) (r : Fin 2048) (k : Fin 2048) :
    iblk m c 3 t (ix2 r k) = V m c main_v2 (ix2 r k) := by
  show V m c main_v2 (((cfg0.win 3).blk t).view.emb (ix2 r k)) = _
  congr 1; funext a; apply Fin.ext
  match a with
  | ⟨0, _⟩ => show win0_3.index t 0 * 2048 + 1 * r.val = r.val; rw [(idx3 t).1]; omega
  | ⟨1, _⟩ => show win0_3.index t 1 * 2048 + 1 * k.val = k.val; rw [(idx3 t).2]; omega
theorem blk4 (c : Dev nD) (t : Fin cfg0.N) (r : Fin 256) (k : Fin 2048) :
    iblk m c 4 t (ix2 r k) = V m c main_v3 (ix2 r k) := by
  show V m c main_v3 (((cfg0.win 4).blk t).view.emb (ix2 r k)) = _
  congr 1; funext a; apply Fin.ext
  match a with
  | ⟨0, _⟩ => show win0_4.index t 0 * 256 + 1 * r.val = r.val; rw [(idx4 t).1]; omega
  | ⟨1, _⟩ => show win0_4.index t 1 * 2048 + 1 * k.val = k.val; rw [(idx4 t).2]; omega
theorem emb5 (t : Fin cfg0.N) (r : Fin 512) (q : Fin 2048) :
    ((cfg0.win 5).blk t).view.emb (ix2 r q) = (ix2 (row t r) q : S32768x2048.Idx) := by
  funext a; apply Fin.ext
  match a with
  | ⟨0, _⟩ => show win0_5.index t 0 * 512 + 1 * r.val = t.val * 512 + r.val; rw [(idx5 t).1]; omega
  | ⟨1, _⟩ => show win0_5.index t 1 * 2048 + 1 * q.val = q.val; rw [(idx5 t).2]; omega

/-- The arguments as arrays of extended reals. -/
abbrev A0 (c : Dev nD) : S32768x2048.Idx → EReal := m ((c : Thread nD τ).loc main_arg0)
abbrev A1 (c : Dev nD) : S4x8192x256.Idx → EReal := m ((c : Thread nD τ).loc main_arg1)
abbrev A2 (c : Dev nD) : S2048.Idx → EReal := m ((c : Thread nD τ).loc main_arg2)
abbrev A3 (c : Dev nD) : S2048x2048.Idx → EReal := m ((c : Thread nD τ).loc main_arg3)
abbrev A4 (c : Dev nD) : S256x2048.Idx → EReal := m ((c : Thread nD τ).loc main_arg4)

/-- The embedding with the rows of all sequences one after the other, and the norm's weight as a row. -/
def P (a1 : S4x8192x256.Idx → EReal) : S32768x256.Idx → EReal := shapeCast S32768x256 a1 shapeCasts_S4x8192x256_S32768x256
def Nw (a2 : S2048.Idx → EReal) : S1x2048.Idx → EReal := shapeCast S1x2048 a2 shapeCasts_S2048_S1x2048

theorem V_p (c : Dev nD) : V m c main_v0 = P (A1 m c) := by
  show StableHlo.after hostOps0 (fun b => m (c, b)) main_v0 = _
  simp only [hostOps0]
  after_results_simp
  rfl
theorem V_n (c : Dev nD) : V m c main_v1 = Nw (A2 m c) := by
  show StableHlo.after hostOps0 (fun b => m (c, b)) main_v1 = _
  simp only [hostOps0]
  after_results_simp
  rfl
theorem V_g (c : Dev nD) : V m c main_v2 = (A3 m c : S2048x2048.Idx → EReal) := by
  show StableHlo.after hostOps0 (fun b => m (c, b)) main_v2 = _
  simp only [hostOps0]
  after_results_simp
  rfl
theorem V_w (c : Dev nD) : V m c main_v3 = (A4 m c : S256x2048.Idx → EReal) := by
  show StableHlo.after hostOps0 (fun b => m (c, b)) main_v3 = _
  simp only [hostOps0]
  after_results_simp
  rfl

/-- A row over its root mean square, times the norm's weight. -/
def nrm (x : S32768x2048.Idx → EReal) (w : S1x2048.Idx → EReal) (i : Fin 32768) (k : Fin 2048) : EReal :=
  x (ix2 i k) * Ideal.rsqrt (Ideal.div (∑ l : Fin 2048, x (ix2 i l) * x (ix2 i l)) (Ideal.ofBits .f32 0x45000000#32)
    + Ideal.ofBits .f32 0x358637BD#32) * w (ix2 0 k)

/-- The result: the residual plus the gate times the embedding's projection. -/
def G (a0 : S32768x2048.Idx → EReal) (a1 : S4x8192x256.Idx → EReal) (a2 : S2048.Idx → EReal) (a3 : S2048x2048.Idx → EReal)
    (a4 : S256x2048.Idx → EReal) : S32768x2048.Idx → EReal := fun i =>
  a0 (ix2 (i 0) (i 1)) + Ideal.logistic (∑ k : Fin 2048, nrm a0 (Nw a2) (i 0) k * a3 (ix2 k (i 1)))
    * ∑ k : Fin 256, P a1 (ix2 (i 0) k) * a4 (ix2 k (i 1))

theorem hz : (![0, 0] : Fin 2 → Nat) = fun _ => 0 := funext fun a => by fin_cases a <;> rfl

set_option maxRecDepth 16384 in
/-- What the body computes of its blocks. -/
theorem pay_eq (c : Dev nD) (t : Fin cfg0.N) (r : Fin 512) (q : Fin 2048) :
    k0_pay1 (iblk m c 0 t) (iblk m c 2 t) (iblk m c 3 t) (iblk m c 1 t) (iblk m c 4 t) (ix2 r q)
      = G (A0 m c) (A1 m c) (A2 m c) (A3 m c) (A4 m c) (ix2 (row t r) q) := by
  pointwise [k0_pay1, G, nrm]
  simp only [blk0, blk1, blk2, blk3, blk4]
  rw [V_main_arg0, V_p, V_n, V_g, V_w]

/-- What each point writes back is its block of the result. -/
theorem flushed_eq (c : Dev nD) (t : Fin cfg0.N) :
    (dats m 0 c).flushed 5 t = ((cfg0.win 5).blk t).view.read (Elt Ideal) (G (A0 m c) (A1 m c) (A2 m c) (A3 m c) (A4 m c)) := by
  rw [Value.flushed5]
  unfold out0_5
  rw [View.canon_unit_zero hz, View.ld_unit_zero hz, View.ld_unit_zero hz, View.ld_unit_zero hz, View.ld_unit_zero hz, View.ld_unit_zero hz]
  funext y
  obtain ⟨r, q, rfl⟩ : ∃ (r : Fin 512) (q : Fin 2048), y = ix2 r q := ⟨y 0, y 1, eq_ix2 y⟩
  show k0_pay1 (iblk m c 0 t) (iblk m c 2 t) (iblk m c 3 t) (iblk m c 1 t) (iblk m c 4 t) (ix2 r q)
    = G (A0 m c) (A1 m c) (A2 m c) (A3 m c) (A4 m c) (((cfg0.win 5).blk t).view.emb (ix2 r q))
  rw [emb5]
  exact pay_eq m c t r q

/-- The blocks cover the result. -/
theorem cover (i : S32768x2048.Idx) :
    ∃ t : Fin cfg0.N, (cfg0.win 5).flush t = true ∧ i ∈ ((cfg0.win 5).blk t).view.set := by
  have h0 : (i 0 : Nat) < 32768 := (i 0).isLt
  have h1 : (i 1 : Nat) < 2048 := (i 1).isLt
  have ht : (i 0 : Nat) / 512 < cfg0.N := by rw [show cfg0.N = 64 from N_0]; omega
  obtain ⟨t, ht⟩ : ∃ t : Fin cfg0.N, t.val = (i 0 : Nat) / 512 := ⟨⟨_, ht⟩, rfl⟩
  have e := ((cfg0.win 5).blk t).view.emb_mem_set (ix2 (⟨(i 0 : Nat) % 512, by omega⟩ : Fin 512) (⟨(i 1 : Nat), h1⟩ : Fin 2048) : S512x2048.Idx)
  rw [emb5] at e
  have hi : i = ix2 (row t ⟨(i 0 : Nat) % 512, by omega⟩) (⟨(i 1 : Nat), h1⟩ : Fin 2048) := by
    refine (eq_ix2 i).trans (congrArg₂ _ (Fin.ext ?_) rfl)
    show (i 0 : Nat) = t.val * 512 + (i 0 : Nat) % 512; omega
  exact ⟨t, flush0_5 _, hi ▸ e⟩

/-- The result array after the run. -/
theorem final (c : Dev nD) : (dats m 0 c).arrAt 5 cfg0.N = G (A0 m c) (A1 m c) (A2 m c) (A3 m c) (A4 m c) :=
  (dats m 0 c).arrAt_eq_of_cover 5 (G (A0 m c) (A1 m c) (A2 m c) (A3 m c) (A4 m c)) (fun t _ => flushed_eq m c t) cover

end Cert.PleIdeal.Val

namespace Cert.PleRefIdeal.Val

open Cert.PleRefIdeal Cert.PleRefIdeal.Gen Idealize.ShloMosaic Idealize.ShloMosaic.TcCoe Idealize.SL.Sem

/-- The reference's stages: the hidden state sequence by sequence, its mean squares' sums, the normalised rows, the two
    products, the gate and the result. -/
def h3V (a0 : FVec Ideal S32768x2048 .f32) : FVec Ideal S4x8192x2048 .f32 := shapeCast _ a0 shapeCasts_S32768x2048_S4x8192x2048
def sqV (h : FVec Ideal S4x8192x2048 .f32) : FVec Ideal S4x8192 .f32 :=
  Host.reduceAdd (mulf h h) (constant S_ .f32 0x00000000#32) reducesTo_S4x8192x2048_S4x8192_d2 h_S_
def nrmV (h : FVec Ideal S4x8192x2048 .f32) (q : FVec Ideal S4x8192 .f32) (w : FVec Ideal S2048 .f32) : FVec Ideal S4x8192x2048 .f32 :=
  mulf (mulf h (broadcastInDim S4x8192x2048 ![0, 1, 2] bcast_S4x8192x1_S4x8192x2048_0_1_2 (Host.rsqrt (addf (Host.divf
      (broadcastInDim S4x8192x1 ![0, 1] bcast_S4x8192_S4x8192x1_0_1 q) (broadcastInDim S4x8192x1 ![] bcast_S_S4x8192x1 (constant S_ .f32 0x45000000#32)))
      (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 w))
def dotG (x : FVec Ideal S4x8192x2048 .f32) (w : FVec Ideal S2048x2048 .f32) : FVec Ideal S4x8192x2048 .f32 :=
  Host.dotGeneral dot_S4x8192x2048_S2048x2048_S4x8192x2048_2_0_01_1_n_n none x w
def dotP (x : FVec Ideal S4x8192x256 .f32) (w : FVec Ideal S256x2048 .f32) : FVec Ideal S4x8192x2048 .f32 :=
  Host.dotGeneral dot_S4x8192x256_S256x2048_S4x8192x2048_2_0_01_1_n_n none x w
def sigV (x : FVec Ideal S4x8192x2048 .f32) : FVec Ideal S4x8192x2048 .f32 :=
  Host.divf (broadcastInDim S4x8192x2048 ![] bcast_S_S4x8192x2048 (constant S_ .f32 0x3F800000#32))
    (addf (broadcastInDim S4x8192x2048 ![] bcast_S_S4x8192x2048 (constant S_ .f32 0x3F800000#32)) (Host.exp (Host.negf x)))
def outV (h g p : FVec Ideal S4x8192x2048 .f32) : FVec Ideal S32768x2048 .f32 :=
  shapeCast _ (addf h (mulf g p)) shapeCasts_S4x8192x2048_S32768x2048

/-- The whole reference of its arguments. -/
def ref (a0 : FVec Ideal S32768x2048 .f32) (a1 : FVec Ideal S4x8192x256 .f32) (a2 : FVec Ideal S2048 .f32)
    (a3 : FVec Ideal S2048x2048 .f32) (a4 : FVec Ideal S256x2048 .f32) : FVec Ideal S32768x2048 .f32 :=
  outV (h3V a0) (sigV (dotG (nrmV (h3V a0) (sqV (h3V a0)) a2) a3)) (dotP a1 a4)

set_option maxRecDepth 16384

/-- Each stage at an index. -/
theorem h3V_at (a0 : FVec Ideal S32768x2048 .f32) (b : Fin 4) (s : Fin 8192) (k : Fin 2048) :
    h3V a0 (ix3 b s k) = a0 (ix2 (⟨b.val * 8192 + s.val, by omega⟩ : Fin 32768) k) := by
  pointwise [h3V]
theorem sqV_at (h : FVec Ideal S4x8192x2048 .f32) (b : Fin 4) (s : Fin 8192) :
    sqV h (ix2 b s) = ∑ k : Fin 2048, h (ix3 b s k) * h (ix3 b s k) := by
  pointwise [sqV]
theorem nrmV_at (h : FVec Ideal S4x8192x2048 .f32) (q : FVec Ideal S4x8192 .f32) (w : FVec Ideal S2048 .f32) (b : Fin 4) (s : Fin 8192) (k : Fin 2048) :
    nrmV h q w (ix3 b s k) = h (ix3 b s k) * Ideal.rsqrt (Ideal.div (q (ix2 b s)) (Ideal.ofBits .f32 0x45000000#32)
      + Ideal.ofBits .f32 0x358637BD#32) * w (ix1 k) := by
  pointwise [nrmV]
theorem dotG_at (x : FVec Ideal S4x8192x2048 .f32) (w : FVec Ideal S2048x2048 .f32) (b : Fin 4) (s : Fin 8192) (q : Fin 2048) :
    dotG x w (ix3 b s q) = ∑ k : Fin 2048, x (ix3 b s k) * w (ix2 k q) := by
  pointwise [dotG]
theorem dotP_at (x : FVec Ideal S4x8192x256 .f32) (w : FVec Ideal S256x2048 .f32) (b : Fin 4) (s : Fin 8192) (q : Fin 2048) :
    dotP x w (ix3 b s q) = ∑ k : Fin 256, x (ix3 b s k) * w (ix2 k q) := by
  pointwise [dotP]
theorem sigV_at (x : FVec Ideal S4x8192x2048 .f32) (b : Fin 4) (s : Fin 8192) (q : Fin 2048) :
    sigV x (ix3 b s q) = Ideal.logistic (x (ix3 b s q)) := by
  pointwise [sigV]
  rfl
theorem outV_at (h g p : FVec Ideal S4x8192x2048 .f32) (i : Fin 32768) (q : Fin 2048) :
    outV h g p (ix2 i q) = h (ix3 (⟨i.val / 8192, by omega⟩ : Fin 4) (⟨i.val % 8192, by omega⟩ : Fin 8192) q)
      + g (ix3 (⟨i.val / 8192, by omega⟩ : Fin 4) (⟨i.val % 8192, by omega⟩ : Fin 8192) q)
        * p (ix3 (⟨i.val / 8192, by omega⟩ : Fin 4) (⟨i.val % 8192, by omega⟩ : Fin 8192) q) := by
  pointwise [outV]

end Cert.PleRefIdeal.Val

namespace Cert.PleIdeal.Val

open Cert.PleIdeal Cert.PleIdeal.Gen Idealize.ShloMosaic

set_option maxRecDepth 16384

theorem P_at (a1 : S4x8192x256.Idx → EReal) (i : Fin 32768) (k : Fin 256) :
    P a1 (ix2 i k) = a1 (ix3 (⟨i.val / 8192, by omega⟩ : Fin 4) (⟨i.val % 8192, by omega⟩ : Fin 8192) k) := by
  pointwise [P]
theorem Nw_at (a2 : S2048.Idx → EReal) (k : Fin 2048) : Nw a2 (ix2 0 k) = a2 (ix1 k) := by
  pointwise [Nw]

/-- The reference computes the same function of the arguments. -/
theorem ref_eq (a0 : S32768x2048.Idx → EReal) (a1 : S4x8192x256.Idx → EReal) (a2 : S2048.Idx → EReal) (a3 : S2048x2048.Idx → EReal)
    (a4 : S256x2048.Idx → EReal) : Cert.PleRefIdeal.Val.ref a0 a1 a2 a3 a4 = G a0 a1 a2 a3 a4 := by
  funext j
  obtain ⟨i, q, rfl⟩ : ∃ (i : Fin 32768) (q : Fin 2048), j = ix2 i q := ⟨j 0, j 1, eq_ix2 j⟩
  have hi : ∀ h, (⟨i.val / 8192 * 8192 + i.val % 8192, h⟩ : Fin 32768) = i := fun _ => Fin.ext (by show i.val / 8192 * 8192 + i.val % 8192 = i.val; omega)
  have hG : G a0 a1 a2 a3 a4 (ix2 i q) = a0 (ix2 i q) + Ideal.logistic (∑ k : Fin 2048, nrm a0 (Nw a2) i k * a3 (ix2 k q))
    * ∑ k : Fin 256, P a1 (ix2 i k) * a4 (ix2 k q) := rfl
  rw [hG]
  unfold Cert.PleRefIdeal.Val.ref nrm
  rw [Cert.PleRefIdeal.Val.outV_at, Cert.PleRefIdeal.Val.sigV_at, Cert.PleRefIdeal.Val.dotG_at, Cert.PleRefIdeal.Val.dotP_at]
  simp only [Cert.PleRefIdeal.Val.nrmV_at, Cert.PleRefIdeal.Val.sqV_at, Cert.PleRefIdeal.Val.h3V_at, P_at, Nw_at, hi]

end Cert.PleIdeal.Val

namespace Cert.Proof

open Idealize.ShloMosaic Idealize.SL.Sem

set_option maxRecDepth 16384 in
/-- The per-layer embedding is its reference. -/
theorem value_Ple : Cert.algebraic_PleIdeal_PleRefIdeal := by
  intro m g m' g' _ hagree
  refine ⟨fun c => Cert.PleIdeal.Val.G (Cert.PleIdeal.Val.A0 m c) (Cert.PleIdeal.Val.A1 m c) (Cert.PleIdeal.Val.A2 m c)
    (Cert.PleIdeal.Val.A3 m c) (Cert.PleIdeal.Val.A4 m c), ?_, ?_⟩
  · refine (θ_run Cert.PleIdeal.defs _ _).mono (fun r h c => ?_) (Cert.PleIdeal.Value.run_blocks m g)
    exact ⟨(h c).1.trans (Cert.PleIdeal.Val.final m c), (h c).2⟩
  · refine (θ_run Cert.PleRefIdeal.defs _ _).mono (fun r h c => ?_) (Cert.PleRefIdeal.Value.run (F := Ideal) m' g')
    refine ⟨(h c).1.trans ?_, (h c).2⟩
    clear h
    rw [(hagree c).1, (hagree c).2.1, (hagree c).2.2.1, (hagree c).2.2.2.1, (hagree c).2.2.2.2]
    exact Cert.PleIdeal.Val.ref_eq _ _ _ _ _

end Cert.Proof

end
-- ==== Proof.lean ====
/-
  The claim: the frames of every program, what the idealisation keeps, and the values.
-/
module

public import proofs.«01_k».proof.Defs
public import proofs.«01_k».proof.Proof.Frames
public import proofs.«01_k».proof.Proof.FoxValue
public import proofs.«01_k».proof.Proof.PrepValue
public import proofs.«01_k».proof.Proof.InValue
public import proofs.«01_k».proof.Proof.MergeValue
public import proofs.«01_k».proof.Proof.UpValue
public import proofs.«01_k».proof.Proof.DownValue
public import proofs.«01_k».proof.Proof.PleValue

@[expose] public section

noncomputable section

namespace Cert.Proof

open Idealize.ShloMosaic Idealize.SL.Sem

/-- Every claim of this certificate. -/
theorem claim : Cert.Claim := ⟨Cert.Kernel.Gen.facts, Cert.KernelIdeal.Gen.facts, Cert.ReferenceIdeal.Gen.facts, Cert.Prep.Gen.facts, Cert.PrepIdeal.Gen.facts, Cert.PrepRefIdeal.Gen.facts, Cert.In.Gen.facts, Cert.InIdeal.Gen.facts, Cert.InRefIdeal.Gen.facts, Cert.Merge.Gen.facts, Cert.MergeIdeal.Gen.facts, Cert.MergeRefIdeal.Gen.facts, Cert.Up.Gen.facts, Cert.UpIdeal.Gen.facts, Cert.UpRefIdeal.Gen.facts, Cert.Down.Gen.facts, Cert.DownIdeal.Gen.facts, Cert.DownRefIdeal.Gen.facts, Cert.Ple.Gen.facts, Cert.PleIdeal.Gen.facts, Cert.PleRefIdeal.Gen.facts, Cert.Pre_finite.Gen.facts,
  frame_Kernel, frame_KernelIdeal, frame_KernelIdeal_pre, frame_ReferenceIdeal, frame_ReferenceIdeal_pre, frame_Prep, frame_PrepIdeal, frame_PrepRefIdeal, frame_In, frame_InIdeal, frame_InRefIdeal, frame_Merge, frame_MergeIdeal, frame_MergeRefIdeal, frame_Up, frame_UpIdeal, frame_UpRefIdeal, frame_Down, frame_DownIdeal, frame_DownRefIdeal, frame_Ple, frame_PleIdeal, frame_PleRefIdeal, kept_Kernel, value_Fox, kept_Prep, value_Prep, trivial, value_In, trivial, value_Merge, trivial, value_Up, trivial, value_Down, trivial, value_Ple⟩

end Cert.Proof

end
